-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormRefIdeal (m : (ℓ : Loc Cert.FfnNormRefIdeal.nD Cert.FfnNormRefIdeal.τ Cert.FfnNormRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_gates_finite [hPre_gates_finite : Cert.Pre_gates_finite.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_gates_finite.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)) (m ((c.tc : Thread Cert.MlstmIdeal.nD Cert.MlstmIdeal.τ).loc Cert.MlstmIdeal.main_arg6)) (m ((c.tc : Thread Cert.MlstmIdeal.nD Cert.MlstmIdeal.τ).loc Cert.MlstmIdeal.main_arg7)) (m ((c.tc : Thread Cert.MlstmIdeal.nD Cert.MlstmIdeal.τ).loc Cert.MlstmIdeal.main_arg8)) (m ((c.tc : Thread Cert.MlstmIdeal.nD Cert.MlstmIdeal.τ).loc Cert.MlstmIdeal.main_arg9))) = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_gates_finite [hPre_gates_finite : Cert.Pre_gates_finite.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_gates_finite.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5)) (m ((c.tc : Thread Cert.MlstmRefIdeal.nD Cert.MlstmRefIdeal.τ).loc Cert.MlstmRefIdeal.main_arg6)) (m ((c.tc : Thread Cert.MlstmRefIdeal.nD Cert.MlstmRefIdeal.τ).loc Cert.MlstmRefIdeal.main_arg7)) (m ((c.tc : Thread Cert.MlstmRefIdeal.nD Cert.MlstmRefIdeal.τ).loc Cert.MlstmRefIdeal.main_arg8)) (m ((c.tc : Thread Cert.MlstmRefIdeal.nD Cert.MlstmRefIdeal.τ).loc Cert.MlstmRefIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1)
      ∧ r.2.mem ((c.tc : Thread Cert.FfnNorm.nD Cert.FfnNorm.τ).loc Cert.FfnNorm.main_arg2) = m ((c.tc : Thread Cert.FfnNorm.nD Cert.FfnNorm.τ).loc Cert.FfnNorm.main_arg2)
      ∧ r.2.mem ((c.tc : Thread Cert.FfnNorm.nD Cert.FfnNorm.τ).loc Cert.FfnNorm.main_arg3) = m ((c.tc : Thread Cert.FfnNorm.nD Cert.FfnNorm.τ).loc Cert.FfnNorm.main_arg3)
      ∧ r.2.mem ((c.tc : Thread Cert.FfnNorm.nD Cert.FfnNorm.τ).loc Cert.FfnNorm.main_arg4) = m ((c.tc : Thread Cert.FfnNorm.nD Cert.FfnNorm.τ).loc Cert.FfnNorm.main_arg4))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
      ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
      ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
      ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ r.2.sem = fun _ => 0)

def quiescent_FfnNormRefIdeal [hFfnNormRefIdeal : Cert.FfnNormRefIdeal.Facts] : Prop :=
  ∀ (m : (ℓ : Loc Cert.FfnNormRefIdeal.nD Cert.FfnNormRefIdeal.τ Cert.FfnNormRefIdeal.sig) → Buf (Elt Ideal) ℓ) (g : Dev Cert.FfnNormRefIdeal.nD → PrngReg), Pre_FfnNormRefIdeal m →
    θ_run (Cert.FfnNormRefIdeal.defs (F := Ideal)) (onTc (τ := Cert.FfnNormRefIdeal.τ) (Cert.FfnNormRefIdeal.main (F := Ideal))) ⟨m, fun _ => 0, g⟩ (fun r => (∀ c : Dev Cert.FfnNormRefIdeal.nD,
      r.2.mem ((c.tc : Thread Cert.FfnNormRefIdeal.nD Cert.FfnNormRefIdeal.τ).loc Cert.FfnNormRefIdeal.main_arg0) = m ((c.tc : Thread Cert.FfnNormRefIdeal.nD Cert.FfnNormRefIdeal.τ).loc Cert.FfnNormRefIdeal.main_arg0)
      ∧ r.2.mem ((c.tc : Thread Cert.FfnNormRefIdeal.nD Cert.FfnNormRefIdeal.τ).loc Cert.FfnNormRefIdeal.main_arg1) = m ((c.tc : Thread Cert.FfnNormRefIdeal.nD Cert.FfnNormRefIdeal.τ).loc Cert.FfnNormRefIdeal.main_arg1)
      ∧ r.2.mem ((c.tc : Thread Cert.FfnNormRefIdeal.nD Cert.FfnNormRefIdeal.τ).loc Cert.FfnNormRefIdeal.main_arg2) = m ((c.tc : Thread Cert.FfnNormRefIdeal.nD Cert.FfnNormRefIdeal.τ).loc Cert.FfnNormRefIdeal.main_arg2)
      ∧ r.2.mem ((c.tc : Thread Cert.FfnNormRefIdeal.nD Cert.FfnNormRefIdeal.τ).loc Cert.FfnNormRefIdeal.main_arg3) = m ((c.tc : Thread Cert.FfnNormRefIdeal.nD Cert.FfnNormRefIdeal.τ).loc Cert.FfnNormRefIdeal.main_arg3)
      ∧ r.2.mem ((c.tc : Thread Cert.FfnNormRefIdeal.nD Cert.FfnNormRefIdeal.τ).loc Cert.FfnNormRefIdeal.main_arg4) = m ((c.tc : Thread Cert.FfnNormRefIdeal.nD Cert.FfnNormRefIdeal.τ).loc Cert.FfnNormRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5)
      ∧ r.2.mem ((c.tc : Thread Cert.Mlstm.nD Cert.Mlstm.τ).loc Cert.Mlstm.main_arg6) = m ((c.tc : Thread Cert.Mlstm.nD Cert.Mlstm.τ).loc Cert.Mlstm.main_arg6)
      ∧ r.2.mem ((c.tc : Thread Cert.Mlstm.nD Cert.Mlstm.τ).loc Cert.Mlstm.main_arg7) = m ((c.tc : Thread Cert.Mlstm.nD Cert.Mlstm.τ).loc Cert.Mlstm.main_arg7)
      ∧ r.2.mem ((c.tc : Thread Cert.Mlstm.nD Cert.Mlstm.τ).loc Cert.Mlstm.main_arg8) = m ((c.tc : Thread Cert.Mlstm.nD Cert.Mlstm.τ).loc Cert.Mlstm.main_arg8)
      ∧ r.2.mem ((c.tc : Thread Cert.Mlstm.nD Cert.Mlstm.τ).loc Cert.Mlstm.main_arg9) = m ((c.tc : Thread Cert.Mlstm.nD Cert.Mlstm.τ).loc Cert.Mlstm.main_arg9))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
      ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
      ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ r.2.sem = fun _ => 0)

def quiescent_MlstmIdeal_pre_gates_finite [hMlstmIdeal : Cert.MlstmIdeal.Facts] [hPre_gates_finite : Cert.Pre_gates_finite.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_gates_finite m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
      ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
      ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
      ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
      ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6)
      ∧ r.2.mem ((c.tc : Thread Cert.MlstmRefIdeal.nD Cert.MlstmRefIdeal.τ).loc Cert.MlstmRefIdeal.main_arg7) = m ((c.tc : Thread Cert.MlstmRefIdeal.nD Cert.MlstmRefIdeal.τ).loc Cert.MlstmRefIdeal.main_arg7)
      ∧ r.2.mem ((c.tc : Thread Cert.MlstmRefIdeal.nD Cert.MlstmRefIdeal.τ).loc Cert.MlstmRefIdeal.main_arg8) = m ((c.tc : Thread Cert.MlstmRefIdeal.nD Cert.MlstmRefIdeal.τ).loc Cert.MlstmRefIdeal.main_arg8)
      ∧ r.2.mem ((c.tc : Thread Cert.MlstmRefIdeal.nD Cert.MlstmRefIdeal.τ).loc Cert.MlstmRefIdeal.main_arg9) = m ((c.tc : Thread Cert.MlstmRefIdeal.nD Cert.MlstmRefIdeal.τ).loc Cert.MlstmRefIdeal.main_arg9))
      ∧ r.2.sem = fun _ => 0)

def quiescent_MlstmRefIdeal_pre_gates_finite [hMlstmRefIdeal : Cert.MlstmRefIdeal.Facts] [hPre_gates_finite : Cert.Pre_gates_finite.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_gates_finite m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5)
      ∧ r.2.mem ((c.tc : Thread Cert.MlstmRefIdeal.nD Cert.MlstmRefIdeal.τ).loc Cert.MlstmRefIdeal.main_arg6) = m ((c.tc : Thread Cert.MlstmRefIdeal.nD Cert.MlstmRefIdeal.τ).loc Cert.MlstmRefIdeal.main_arg6)
      ∧ r.2.mem ((c.tc : Thread Cert.MlstmRefIdeal.nD Cert.MlstmRefIdeal.τ).loc Cert.MlstmRefIdeal.main_arg7) = m ((c.tc : Thread Cert.MlstmRefIdeal.nD Cert.MlstmRefIdeal.τ).loc Cert.MlstmRefIdeal.main_arg7)
      ∧ r.2.mem ((c.tc : Thread Cert.MlstmRefIdeal.nD Cert.MlstmRefIdeal.τ).loc Cert.MlstmRefIdeal.main_arg8) = m ((c.tc : Thread Cert.MlstmRefIdeal.nD Cert.MlstmRefIdeal.τ).loc Cert.MlstmRefIdeal.main_arg8)
      ∧ r.2.mem ((c.tc : Thread Cert.MlstmRefIdeal.nD Cert.MlstmRefIdeal.τ).loc Cert.MlstmRefIdeal.main_arg9) = m ((c.tc : Thread Cert.MlstmRefIdeal.nD Cert.MlstmRefIdeal.τ).loc Cert.MlstmRefIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnNorm_FfnNormIdeal : Prop :=
  True

def algebraic_FfnNormIdeal_FfnNormRefIdeal [hFfnNormIdeal : Cert.FfnNormIdeal.Facts] [hFfnNormRefIdeal : Cert.FfnNormRefIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormRefIdeal.nD Cert.FfnNormRefIdeal.τ Cert.FfnNormRefIdeal.sig) → Buf (Elt Ideal) ℓ) (g' : Dev Cert.FfnNormRefIdeal.nD → PrngReg), Pre_FfnNormIdeal m →
    (∀ c : Dev Cert.FfnNormIdeal.nD,
      m' ((c.tc : Thread Cert.FfnNormRefIdeal.nD Cert.FfnNormRefIdeal.τ).loc Cert.FfnNormRefIdeal.main_arg0) = m ((c.tc : Thread Cert.FfnNormIdeal.nD Cert.FfnNormIdeal.τ).loc Cert.FfnNormIdeal.main_arg0)
      ∧ m' ((c.tc : Thread Cert.FfnNormRefIdeal.nD Cert.FfnNormRefIdeal.τ).loc Cert.FfnNormRefIdeal.main_arg1) = m ((c.tc : Thread Cert.FfnNormIdeal.nD Cert.FfnNormIdeal.τ).loc Cert.FfnNormIdeal.main_arg1)
      ∧ m' ((c.tc : Thread Cert.FfnNormRefIdeal.nD Cert.FfnNormRefIdeal.τ).loc Cert.FfnNormRefIdeal.main_arg2) = m ((c.tc : Thread Cert.FfnNormIdeal.nD Cert.FfnNormIdeal.τ).loc Cert.FfnNormIdeal.main_arg2)
      ∧ m' ((c.tc : Thread Cert.FfnNormRefIdeal.nD Cert.FfnNormRefIdeal.τ).loc Cert.FfnNormRefIdeal.main_arg3) = m ((c.tc : Thread Cert.FfnNormIdeal.nD Cert.FfnNormIdeal.τ).loc Cert.FfnNormIdeal.main_arg3)
      ∧ m' ((c.tc : Thread Cert.FfnNormRefIdeal.nD Cert.FfnNormRefIdeal.τ).loc Cert.FfnNormRefIdeal.main_arg4) = m ((c.tc : Thread Cert.FfnNormIdeal.nD Cert.FfnNormIdeal.τ).loc Cert.FfnNormIdeal.main_arg4)) →
    ∃ (v0 : (c : Dev Cert.FfnNormIdeal.nD) → Buf (Elt Ideal) ((c.tc : Thread Cert.FfnNormIdeal.nD Cert.FfnNormIdeal.τ).loc Cert.FfnNormIdeal.main_v9_0)) (v1 : (c : Dev Cert.FfnNormIdeal.nD) → Buf (Elt Ideal) ((c.tc : Thread Cert.FfnNormIdeal.nD Cert.FfnNormIdeal.τ).loc Cert.FfnNormIdeal.main_v9_1)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v9_0) = v0 c
          ∧ r.2.mem ((c.tc : Thread Cert.FfnNormIdeal.nD Cert.FfnNormIdeal.τ).loc Cert.FfnNormIdeal.main_v9_1) = v1 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1)
          ∧ r.2.mem ((c.tc : Thread Cert.FfnNormIdeal.nD Cert.FfnNormIdeal.τ).loc Cert.FfnNormIdeal.main_arg2) = m ((c.tc : Thread Cert.FfnNormIdeal.nD Cert.FfnNormIdeal.τ).loc Cert.FfnNormIdeal.main_arg2)
          ∧ r.2.mem ((c.tc : Thread Cert.FfnNormIdeal.nD Cert.FfnNormIdeal.τ).loc Cert.FfnNormIdeal.main_arg3) = m ((c.tc : Thread Cert.FfnNormIdeal.nD Cert.FfnNormIdeal.τ).loc Cert.FfnNormIdeal.main_arg3)
          ∧ r.2.mem ((c.tc : Thread Cert.FfnNormIdeal.nD Cert.FfnNormIdeal.τ).loc Cert.FfnNormIdeal.main_arg4) = m ((c.tc : Thread Cert.FfnNormIdeal.nD Cert.FfnNormIdeal.τ).loc Cert.FfnNormIdeal.main_arg4))
      ∧ θ_run (Cert.FfnNormRefIdeal.defs (F := Ideal)) (onTc (τ := Cert.FfnNormRefIdeal.τ) (Cert.FfnNormRefIdeal.main (F := Ideal))) ⟨m', fun _ => 0, g'⟩ (fun r => ∀ c : Dev Cert.FfnNormRefIdeal.nD,
          r.2.mem ((c.tc : Thread Cert.FfnNormRefIdeal.nD Cert.FfnNormRefIdeal.τ).loc Cert.FfnNormRefIdeal.main_v28) = v0 c
          ∧ r.2.mem ((c.tc : Thread Cert.FfnNormRefIdeal.nD Cert.FfnNormRefIdeal.τ).loc Cert.FfnNormRefIdeal.main_v44) = v1 c
          ∧ r.2.mem ((c.tc : Thread Cert.FfnNormRefIdeal.nD Cert.FfnNormRefIdeal.τ).loc Cert.FfnNormRefIdeal.main_arg0) = m' ((c.tc : Thread Cert.FfnNormRefIdeal.nD Cert.FfnNormRefIdeal.τ).loc Cert.FfnNormRefIdeal.main_arg0)
          ∧ r.2.mem ((c.tc : Thread Cert.FfnNormRefIdeal.nD Cert.FfnNormRefIdeal.τ).loc Cert.FfnNormRefIdeal.main_arg1) = m' ((c.tc : Thread Cert.FfnNormRefIdeal.nD Cert.FfnNormRefIdeal.τ).loc Cert.FfnNormRefIdeal.main_arg1)
          ∧ r.2.mem ((c.tc : Thread Cert.FfnNormRefIdeal.nD Cert.FfnNormRefIdeal.τ).loc Cert.FfnNormRefIdeal.main_arg2) = m' ((c.tc : Thread Cert.FfnNormRefIdeal.nD Cert.FfnNormRefIdeal.τ).loc Cert.FfnNormRefIdeal.main_arg2)
          ∧ r.2.mem ((c.tc : Thread Cert.FfnNormRefIdeal.nD Cert.FfnNormRefIdeal.τ).loc Cert.FfnNormRefIdeal.main_arg3) = m' ((c.tc : Thread Cert.FfnNormRefIdeal.nD Cert.FfnNormRefIdeal.τ).loc Cert.FfnNormRefIdeal.main_arg3)
          ∧ r.2.mem ((c.tc : Thread Cert.FfnNormRefIdeal.nD Cert.FfnNormRefIdeal.τ).loc Cert.FfnNormRefIdeal.main_arg4) = m' ((c.tc : Thread Cert.FfnNormRefIdeal.nD Cert.FfnNormRefIdeal.τ).loc Cert.FfnNormRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v7)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v7) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v41) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)) →
    ∃ (v0 : (c : Dev Cert.InprojIdeal.nD) → Buf (Elt Ideal) ((c.tc : Thread Cert.InprojIdeal.nD Cert.InprojIdeal.τ).loc Cert.InprojIdeal.main_v2)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v4) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)) →
    ∃ (v0 : (c : Dev Cert.OutprojIdeal.nD) → Buf (Elt Ideal) ((c.tc : Thread Cert.OutprojIdeal.nD Cert.OutprojIdeal.τ).loc Cert.OutprojIdeal.main_v2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v3) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2))

def preserves_Mlstm_MlstmIdeal : Prop :=
  True

def algebraic_MlstmIdeal_MlstmRefIdeal_pre_gates_finite [hMlstmIdeal : Cert.MlstmIdeal.Facts] [hMlstmRefIdeal : Cert.MlstmRefIdeal.Facts] [hPre_gates_finite : Cert.Pre_gates_finite.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_gates_finite m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)
      ∧ m' ((c.tc : Thread Cert.MlstmRefIdeal.nD Cert.MlstmRefIdeal.τ).loc Cert.MlstmRefIdeal.main_arg6) = m ((c.tc : Thread Cert.MlstmIdeal.nD Cert.MlstmIdeal.τ).loc Cert.MlstmIdeal.main_arg6)
      ∧ m' ((c.tc : Thread Cert.MlstmRefIdeal.nD Cert.MlstmRefIdeal.τ).loc Cert.MlstmRefIdeal.main_arg7) = m ((c.tc : Thread Cert.MlstmIdeal.nD Cert.MlstmIdeal.τ).loc Cert.MlstmIdeal.main_arg7)
      ∧ m' ((c.tc : Thread Cert.MlstmRefIdeal.nD Cert.MlstmRefIdeal.τ).loc Cert.MlstmRefIdeal.main_arg8) = m ((c.tc : Thread Cert.MlstmIdeal.nD Cert.MlstmIdeal.τ).loc Cert.MlstmIdeal.main_arg8)
      ∧ m' ((c.tc : Thread Cert.MlstmRefIdeal.nD Cert.MlstmRefIdeal.τ).loc Cert.MlstmRefIdeal.main_arg9) = m ((c.tc : Thread Cert.MlstmIdeal.nD Cert.MlstmIdeal.τ).loc Cert.MlstmIdeal.main_arg9)) →
    ∃ (v0 : (c : Dev Cert.MlstmIdeal.nD) → Buf (Elt Ideal) ((c.tc : Thread Cert.MlstmIdeal.nD Cert.MlstmIdeal.τ).loc Cert.MlstmIdeal.main_v29_3)) (v1 : (c : Dev Cert.MlstmIdeal.nD) → Buf (Elt Ideal) ((c.tc : Thread Cert.MlstmIdeal.nD Cert.MlstmIdeal.τ).loc Cert.MlstmIdeal.main_v29_4)) (v2 : (c : Dev Cert.MlstmIdeal.nD) → Buf (Elt Ideal) ((c.tc : Thread Cert.MlstmIdeal.nD Cert.MlstmIdeal.τ).loc Cert.MlstmIdeal.main_v29_5)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v29_3) = v0 c
          ∧ r.2.mem ((c.tc : Thread Cert.MlstmIdeal.nD Cert.MlstmIdeal.τ).loc Cert.MlstmIdeal.main_v29_4) = v1 c
          ∧ r.2.mem ((c.tc : Thread Cert.MlstmIdeal.nD Cert.MlstmIdeal.τ).loc Cert.MlstmIdeal.main_v29_5) = v2 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5)
          ∧ r.2.mem ((c.tc : Thread Cert.MlstmIdeal.nD Cert.MlstmIdeal.τ).loc Cert.MlstmIdeal.main_arg6) = m ((c.tc : Thread Cert.MlstmIdeal.nD Cert.MlstmIdeal.τ).loc Cert.MlstmIdeal.main_arg6)
          ∧ r.2.mem ((c.tc : Thread Cert.MlstmIdeal.nD Cert.MlstmIdeal.τ).loc Cert.MlstmIdeal.main_arg7) = m ((c.tc : Thread Cert.MlstmIdeal.nD Cert.MlstmIdeal.τ).loc Cert.MlstmIdeal.main_arg7)
          ∧ r.2.mem ((c.tc : Thread Cert.MlstmIdeal.nD Cert.MlstmIdeal.τ).loc Cert.MlstmIdeal.main_arg8) = m ((c.tc : Thread Cert.MlstmIdeal.nD Cert.MlstmIdeal.τ).loc Cert.MlstmIdeal.main_arg8)
          ∧ r.2.mem ((c.tc : Thread Cert.MlstmIdeal.nD Cert.MlstmIdeal.τ).loc Cert.MlstmIdeal.main_arg9) = m ((c.tc : Thread Cert.MlstmIdeal.nD Cert.MlstmIdeal.τ).loc Cert.MlstmIdeal.main_arg9))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v39) = v0 c
          ∧ r.2.mem ((c.tc : Thread Cert.MlstmRefIdeal.nD Cert.MlstmRefIdeal.τ).loc Cert.MlstmRefIdeal.main_v40) = v1 c
          ∧ r.2.mem ((c.tc : Thread Cert.MlstmRefIdeal.nD Cert.MlstmRefIdeal.τ).loc Cert.MlstmRefIdeal.main_v41) = v2 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5)
          ∧ r.2.mem ((c.tc : Thread Cert.MlstmRefIdeal.nD Cert.MlstmRefIdeal.τ).loc Cert.MlstmRefIdeal.main_arg6) = m' ((c.tc : Thread Cert.MlstmRefIdeal.nD Cert.MlstmRefIdeal.τ).loc Cert.MlstmRefIdeal.main_arg6)
          ∧ r.2.mem ((c.tc : Thread Cert.MlstmRefIdeal.nD Cert.MlstmRefIdeal.τ).loc Cert.MlstmRefIdeal.main_arg7) = m' ((c.tc : Thread Cert.MlstmRefIdeal.nD Cert.MlstmRefIdeal.τ).loc Cert.MlstmRefIdeal.main_arg7)
          ∧ r.2.mem ((c.tc : Thread Cert.MlstmRefIdeal.nD Cert.MlstmRefIdeal.τ).loc Cert.MlstmRefIdeal.main_arg8) = m' ((c.tc : Thread Cert.MlstmRefIdeal.nD Cert.MlstmRefIdeal.τ).loc Cert.MlstmRefIdeal.main_arg8)
          ∧ r.2.mem ((c.tc : Thread Cert.MlstmRefIdeal.nD Cert.MlstmRefIdeal.τ).loc Cert.MlstmRefIdeal.main_arg9) = m' ((c.tc : Thread Cert.MlstmRefIdeal.nD Cert.MlstmRefIdeal.τ).loc Cert.MlstmRefIdeal.main_arg9))

def Claim : Prop :=
  ∃ (hKernel : Cert.Kernel.Facts) (hKernelIdeal : Cert.KernelIdeal.Facts) (hReferenceIdeal : Cert.ReferenceIdeal.Facts) (hFfnNorm : Cert.FfnNorm.Facts) (hFfnNormIdeal : Cert.FfnNormIdeal.Facts) (hFfnNormRefIdeal : Cert.FfnNormRefIdeal.Facts) (hFfn : Cert.Ffn.Facts) (hFfnIdeal : Cert.FfnIdeal.Facts) (hFfnRefIdeal : Cert.FfnRefIdeal.Facts) (hFfnFinal : Cert.FfnFinal.Facts) (hFfnFinalIdeal : Cert.FfnFinalIdeal.Facts) (hFfnFinalRefIdeal : Cert.FfnFinalRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hMlstm : Cert.Mlstm.Facts) (hMlstmIdeal : Cert.MlstmIdeal.Facts) (hMlstmRefIdeal : Cert.MlstmRefIdeal.Facts) (hPre_gates_finite : Cert.Pre_gates_finite.Facts),
    quiescent_Kernel (hKernel := hKernel)
    ∧ quiescent_KernelIdeal (hKernelIdeal := hKernelIdeal)
    ∧ quiescent_ReferenceIdeal (hReferenceIdeal := hReferenceIdeal)
    ∧ quiescent_FfnNorm (hFfnNorm := hFfnNorm)
    ∧ quiescent_FfnNormIdeal (hFfnNormIdeal := hFfnNormIdeal)
    ∧ quiescent_FfnNormRefIdeal (hFfnNormRefIdeal := hFfnNormRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Mlstm (hMlstm := hMlstm)
    ∧ quiescent_MlstmIdeal (hMlstmIdeal := hMlstmIdeal)
    ∧ quiescent_MlstmIdeal_pre_gates_finite (hMlstmIdeal := hMlstmIdeal) (hPre_gates_finite := hPre_gates_finite)
    ∧ quiescent_MlstmRefIdeal (hMlstmRefIdeal := hMlstmRefIdeal)
    ∧ quiescent_MlstmRefIdeal_pre_gates_finite (hMlstmRefIdeal := hMlstmRefIdeal) (hPre_gates_finite := hPre_gates_finite)
    ∧ preserves_Kernel_KernelIdeal
    ∧ algebraic_KernelIdeal_ReferenceIdeal (hKernelIdeal := hKernelIdeal) (hReferenceIdeal := hReferenceIdeal)
    ∧ preserves_FfnNorm_FfnNormIdeal
    ∧ algebraic_FfnNormIdeal_FfnNormRefIdeal (hFfnNormIdeal := hFfnNormIdeal) (hFfnNormRefIdeal := hFfnNormRefIdeal)
    ∧ preserves_Ffn_FfnIdeal
    ∧ algebraic_FfnIdeal_FfnRefIdeal (hFfnIdeal := hFfnIdeal) (hFfnRefIdeal := hFfnRefIdeal)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Mlstm_MlstmIdeal
    ∧ algebraic_MlstmIdeal_MlstmRefIdeal_pre_gates_finite (hMlstmIdeal := hMlstmIdeal) (hMlstmRefIdeal := hMlstmRefIdeal) (hPre_gates_finite := hPre_gates_finite)
-- ==== Pre_gates_finite.lean ====
abbrev S9216x7192 : Shape := ⟨2, ![9216, 7192]⟩
abbrev S9216x2048 : Shape := ⟨2, ![9216, 2048]⟩
abbrev S1x128x4x256x256 : Shape := ⟨5, ![1, 128, 4, 256, 256]⟩
abbrev S1x128x4x256 : Shape := ⟨4, ![1, 128, 4, 256]⟩
abbrev S1x128x4 : Shape := ⟨3, ![1, 128, 4]⟩
abbrev S1x128x3x2048 : Shape := ⟨4, ![1, 128, 3, 2048]⟩
abbrev S1x4x2048 : Shape := ⟨3, ![1, 4, 2048]⟩
abbrev S1x4 : Shape := ⟨2, ![1, 4]⟩
abbrev S1x1024 : Shape := ⟨2, ![1, 1024]⟩
abbrev S1024x4 : Shape := ⟨2, ![1024, 4]⟩
abbrev S_ : Shape := ⟨0, ![]⟩
abbrev S1025x4 : Shape := ⟨2, ![1025, 4]⟩

class Facts : Prop where
  slices_S9216x7192_S1024x4_8192_4096 : S9216x7192.Slices ![8192, 4096] S1024x4
  bcast_S_S1024x4 : S_.BroadcastsInDim S1024x4 (![] : Fin 0 → Fin S1024x4.rank)
  bcast_S_S1x4 : S_.BroadcastsInDim S1x4 (![] : Fin 0 → Fin S1x4.rank)
  concatenates_S1024x4_S1x4_S1025x4_d0 : Shape.Concatenates [S1024x4, S1x4] S1025x4 0

variable [Facts]

def fn {F : FTy → Type} [FloatOps F] (main_arg0 : FVec F S9216x7192 .f32) (main_arg1 : FVec F S9216x2048 .bf16) (main_arg2 : FVec F S1x128x4x256x256 .f32) (main_arg3 : FVec F S1x128x4x256 .f32) (main_arg4 : FVec F S1x128x4 .f32) (main_arg5 : FVec F S1x128x3x2048 .f32) (main_arg6 : FVec F S1x4x2048 .f32) (main_arg7 : FVec F S1x4 .f32) (main_arg8 : FVec F S1x4 .f32) (main_arg9 : FVec F S1x1024 .f32) : IVec S1025x4 1 :=
  let main_v0 : FVec F S1024x4 .f32 := (extractStridedSlice S1024x4 ![8192, 4096] · slices_S9216x7192_S1024x4_8192_4096) main_arg0
  let main_v1 : FVec F S1024x4 .f32 := Host.absf main_v0
  let main_cst : FVec F S_ .f32 := constant S_ .f32 0x7F800000#32
  let main_v2 : FVec F S1024x4 .f32 := broadcastInDim S1024x4 ![] bcast_S_S1024x4 main_cst
  let main_v3 : IVec S1024x4 1 := cmpf .olt main_v1 main_v2
  let main_v4 : FVec F S1x4 .f32 := Host.absf main_arg7
  let main_cst_0 : FVec F S_ .f32 := constant S_ .f32 0x7F800000#32
  let main_v5 : FVec F S1x4 .f32 := broadcastInDim S1x4 ![] bcast_S_S1x4 main_cst_0
  let main_v6 : IVec S1x4 1 := cmpf .olt main_v4 main_v5
  let main_v7 : IVec S1025x4 1 := (fun a b => concatenate S1025x4 0 [⟨S1024x4, a⟩, ⟨S1x4, b⟩] concatenates_S1024x4_S1x4_S1025x4_d0) main_v3 main_v6
  main_v7
-- ==== Kernel.lean ====
abbrev S9216x7168 : Shape := ⟨2, ![9216, 7168]⟩
abbrev S9216x2048 : Shape := ⟨2, ![9216, 2048]⟩
abbrev S1x128x4x128x256 : Shape := ⟨5, ![1, 128, 4, 128, 256]⟩
abbrev S1x1024 : Shape := ⟨2, ![1, 1024]⟩
abbrev S9216x56x128 : Shape := ⟨3, ![9216, 56, 128]⟩
abbrev S56x9216x128 : Shape := ⟨3, ![56, 9216, 128]⟩
abbrev S64 : Shape := ⟨1, ![64]⟩
abbrev S_ : Shape := ⟨0, ![]⟩
abbrev S8 : Shape := ⟨1, ![8]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S128x4x128x256 : Shape := ⟨4, ![128, 4, 128, 256]⟩
abbrev S1024 : Shape := ⟨1, ![1024]⟩
abbrev S1x256x128 : Shape := ⟨3, ![1, 256, 128]⟩
abbrev S2x256x128 : Shape := ⟨3, ![2, 256, 128]⟩
abbrev S1x256 : Shape := ⟨2, ![1, 256]⟩
abbrev S32x1x128x256 : Shape := ⟨4, ![32, 1, 128, 256]⟩
abbrev S256x256 : Shape := ⟨2, ![256, 256]⟩
abbrev S1x1 : Shape := ⟨2, ![1, 1]⟩
abbrev S256x128 : Shape := ⟨2, ![256, 128]⟩
abbrev S256x1 : Shape := ⟨2, ![256, 1]⟩
abbrev S1x1x128x256 : Shape := ⟨4, ![1, 1, 128, 256]⟩
abbrev S128x256 : Shape := ⟨2, ![128, 256]⟩
abbrev S8x256 : Shape := ⟨2, ![8, 256]⟩
abbrev S256 : Shape := ⟨1, ![256]⟩

abbrev nBuf : Space → Nat
  | .hbm => 33
  | .vmem => 18
  | .smem => 0
  | _ => 0

abbrev bufTy : (tb : Table) → Fin (tcTables nBuf tb) → BufTy
  | .hbm, ⟨0, _⟩ => ⟨S9216x7168, .f32⟩
  | .hbm, ⟨1, _⟩ => ⟨S9216x2048, .bf16⟩
  | .hbm, ⟨2, _⟩ => ⟨S1x128x4x128x256, .f32⟩
  | .hbm, ⟨3, _⟩ => ⟨S1x1024, .f32⟩
  | .hbm, ⟨4, _⟩ => ⟨S9216x56x128, .f32⟩
  | .hbm, ⟨5, _⟩ => ⟨S56x9216x128, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8x1, .f32⟩
  | .hbm, ⟨19, _⟩ => ⟨S1x64, .f32⟩
  | .hbm, ⟨20, _⟩ => ⟨S8x64, .f32⟩
  | .hbm, ⟨21, _⟩ => ⟨S8x64, .f32⟩
  | .hbm, ⟨22, _⟩ => ⟨S8x64, .f32⟩
  | .hbm, ⟨23, _⟩ => ⟨S8x64, .f32⟩
  | .hbm, ⟨24, _⟩ => ⟨S8x64, .f32⟩
  | .hbm, ⟨25, _⟩ => ⟨S8x128, .f32⟩
  | .hbm, ⟨26, _⟩ => ⟨S8x64, .f32⟩
  | .hbm, ⟨27, _⟩ => ⟨S8x128, .f32⟩
  | .hbm, ⟨28, _⟩ => ⟨S128x4x128x256, .f32⟩
  | .hbm, ⟨29, _⟩ => ⟨S1024, .f32⟩
  | .hbm, ⟨30, _⟩ => ⟨S1x1024, .f32⟩
  | .hbm, ⟨31, _⟩ => ⟨S9216x2048, .bf16⟩
  | .hbm, ⟨32, _⟩ => ⟨S128x4x128x256, .f32⟩
  | .local _ .vmem, ⟨0, _⟩ => ⟨S1x256x128, .f32⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S2x256x128, .f32⟩
  | .local _ .vmem, ⟨5, _⟩ => ⟨S2x256x128, .f32⟩
  | .local _ .vmem, ⟨6, _⟩ => ⟨S2x256x128, .f32⟩
  | .local _ .vmem, ⟨7, _⟩ => ⟨S2x256x128, .f32⟩
  | .local _ .vmem, ⟨8, _⟩ => ⟨S8x128, .f32⟩
  | .local _ .vmem, ⟨9, _⟩ => ⟨S8x128, .f32⟩
  | .local _ .vmem, ⟨10, _⟩ => ⟨S1x256, .f32⟩
  | .local _ .vmem, ⟨11, _⟩ => ⟨S1x256, .f32⟩
  | .local _ .vmem, ⟨12, _⟩ => ⟨S32x1x128x256, .f32⟩
  | .local _ .vmem, ⟨13, _⟩ => ⟨S32x1x128x256, .f32⟩
  | .local _ .vmem, ⟨14, _⟩ => ⟨S256x256, .bf16⟩
  | .local _ .vmem, ⟨15, _⟩ => ⟨S256x256, .bf16⟩
  | .local _ .vmem, ⟨16, _⟩ => ⟨S32x1x128x256, .f32⟩
  | .local _ .vmem, ⟨17, _⟩ => ⟨S32x1x128x256, .f32⟩
  | _, _ => ⟨S9216x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let v1 : BitVec 32 := Scalar.muli arg0 c1_i32
  let c32_i32 : BitVec 32 := 32#32
  let v2 : BitVec 32 := Scalar.addi c32_i32 v1
  let v3 : BitVec 32 := Scalar.addi v2 arg2
  let c0_i32_0 : BitVec 32 := 0#32
  let c0_i32_1 : BitVec 32 := 0#32
  ![v0.toNat, v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c1_i32 : BitVec 32 := 1#32
  let v1 : BitVec 32 := Scalar.muli arg0 c1_i32
  let c32_i32 : BitVec 32 := 32#32
  let v2 : BitVec 32 := Scalar.addi c32_i32 v1
  let v3 : BitVec 32 := Scalar.addi v2 arg2
  let c0_i32 : BitVec 32 := 0#32
  let c0_i32_0 : BitVec 32 := 0#32
  ![v0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c1_i32 : BitVec 32 := 1#32
  let v1 : BitVec 32 := Scalar.muli arg0 c1_i32
  let c32_i32 : BitVec 32 := 32#32
  let v2 : BitVec 32 := Scalar.addi c32_i32 v1
  let v3 : BitVec 32 := Scalar.addi v2 arg2
  let c0_i32 : BitVec 32 := 0#32
  let c0_i32_0 : BitVec 32 := 0#32
  ![v0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c1_i32 : BitVec 32 := 1#32
  let v1 : BitVec 32 := Scalar.muli arg0 c1_i32
  let c32_i32 : BitVec 32 := 32#32
  let v2 : BitVec 32 := Scalar.addi c32_i32 v1
  let v3 : BitVec 32 := Scalar.addi v2 arg2
  let c0_i32 : BitVec 32 := 0#32
  let c0_i32_0 : BitVec 32 := 0#32
  ![v0.toNat, v3.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c32_i32 : BitVec 32 := 32#32
  let v1 : BitVec 32 := Scalar.addi c32_i32 v0
  let v2 : BitVec 32 := Scalar.addi v1 arg2
  let c0_i32 : BitVec 32 := 0#32
  let v3 : BitVec 32 := Scalar.addi c0_i32 arg1
  let c0_i32_0 : BitVec 32 := 0#32
  ![v2.toNat, v3.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S32x1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S32x1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S9216x7168 : Shape := ⟨2, ![9216, 7168]⟩
abbrev S9216x2048 : Shape := ⟨2, ![9216, 2048]⟩
abbrev S1x128x4x128x256 : Shape := ⟨5, ![1, 128, 4, 128, 256]⟩
abbrev S1x1024 : Shape := ⟨2, ![1, 1024]⟩
abbrev S1024x7168 : Shape := ⟨2, ![1024, 7168]⟩
abbrev S128x8x7168 : Shape := ⟨3, ![128, 8, 7168]⟩
abbrev S128x8x512 : Shape := ⟨3, ![128, 8, 512]⟩
abbrev S128x8x1024 : Shape := ⟨3, ![128, 8, 1024]⟩
abbrev S8 : Shape := ⟨1, ![8]⟩
abbrev S_ : Shape := ⟨0, ![]⟩
abbrev S128x8x4x128 : Shape := ⟨4, ![128, 8, 4, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S1x8x1x64 : Shape := ⟨4, ![1, 8, 1, 64]⟩
abbrev S128x8x4x64 : Shape := ⟨4, ![128, 8, 4, 64]⟩
abbrev S128x8x4x256 : Shape := ⟨4, ![128, 8, 4, 256]⟩
abbrev S4 : Shape := ⟨1, ![4]⟩
abbrev S128x8x4 : Shape := ⟨3, ![128, 8, 4]⟩
abbrev S128x4x128x256 : Shape := ⟨4, ![128, 4, 128, 256]⟩
abbrev S8x8 : Shape := ⟨2, ![8, 8]⟩
abbrev S128x8x4x1 : Shape := ⟨4, ![128, 8, 4, 1]⟩
abbrev S128x4x256x8 : Shape := ⟨4, ![128, 4, 256, 8]⟩
abbrev S1x8x8x1 : Shape := ⟨4, ![1, 8, 8, 1]⟩
abbrev S128x8x1x4 : Shape := ⟨4, ![128, 8, 1, 4]⟩
abbrev S128x1x8x4 : Shape := ⟨4, ![128, 1, 8, 4]⟩
abbrev S128x8x8x4 : Shape := ⟨4, ![128, 8, 8, 4]⟩
abbrev S128x4x8x8 : Shape := ⟨4, ![128, 4, 8, 8]⟩
abbrev S128x1x4 : Shape := ⟨3, ![128, 1, 4]⟩
abbrev S128x4 : Shape := ⟨2, ![128, 4]⟩
abbrev S128x4x1x1 : Shape := ⟨4, ![128, 4, 1, 1]⟩
abbrev S1024 : Shape := ⟨1, ![1024]⟩
abbrev S1x1x1024 : Shape := ⟨3, ![1, 1, 1024]⟩
abbrev S1024x1024 : Shape := ⟨2, ![1024, 1024]⟩
abbrev S1024x2048 : Shape := ⟨2, ![1024, 2048]⟩
abbrev S8192x2048 : Shape := ⟨2, ![8192, 2048]⟩

abbrev nBuf : Space → Nat
  | .hbm => 178
  | .vmem => 0
  | .smem => 0
  | _ => 0

abbrev hbmTy0_0 (i : Nat) : BufTy := match i % 128 with
  | 0 => ⟨S9216x7168, .f32⟩
  | 1 => ⟨S9216x2048, .bf16⟩
  | 2 => ⟨S1x128x4x128x256, .f32⟩
  | 3 => ⟨S1x1024, .f32⟩
  | 4 => ⟨S1024x7168, .f32⟩
  | 5 => ⟨S128x8x7168, .f32⟩
  | 6 => ⟨S128x8x512, .f32⟩
  | 7 => ⟨S128x8x512, .f32⟩
  | 8 => ⟨S128x8x1024, .f32⟩
  | 9 => ⟨S128x8x1024, .f32⟩
  | 10 => ⟨S8, .f32⟩
  | 11 => ⟨S_, .f32⟩
  | 12 => ⟨S8, .f32⟩
  | 13 => ⟨S8, .f32⟩
  | 14 => ⟨S128x8x4x128, .f32⟩
  | 15 => ⟨S64, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S8x1, .f32⟩
  | 24 => ⟨S1x64, .f32⟩
  | 25 => ⟨S8x64, .f32⟩
  | 26 => ⟨S8x64, .f32⟩
  | 27 => ⟨S8x64, .f32⟩
  | 28 => ⟨S8x64, .f32⟩
  | 29 => ⟨S1x8x1x64, .f32⟩
  | 30 => ⟨S8x64, .f32⟩
  | 31 => ⟨S1x8x1x64, .f32⟩
  | 32 => ⟨S128x8x4x64, .f32⟩
  | 33 => ⟨S128x8x4x64, .f32⟩
  | 34 => ⟨S128x8x4x64, .f32⟩
  | 35 => ⟨S128x8x4x64, .f32⟩
  | 36 => ⟨S128x8x4x64, .f32⟩
  | 37 => ⟨S128x8x4x64, .f32⟩
  | 38 => ⟨S128x8x4x64, .f32⟩
  | 39 => ⟨S128x8x4x64, .f32⟩
  | 40 => ⟨S128x8x4x64, .f32⟩
  | 41 => ⟨S128x8x4x64, .f32⟩
  | 42 => ⟨S128x8x4x64, .f32⟩
  | 43 => ⟨S128x8x4x64, .f32⟩
  | 44 => ⟨S128x8x4x128, .f32⟩
  | 45 => ⟨S128x8x4x128, .f32⟩
  | 46 => ⟨S64, .f32⟩
  | 47 => ⟨S64, .f32⟩
  | 48 => ⟨S_, .f32⟩
  | 49 => ⟨S64, .f32⟩
  | 50 => ⟨S64, .f32⟩
  | 51 => ⟨S_, .f32⟩
  | 52 => ⟨S64, .f32⟩
  | 53 => ⟨S64, .f32⟩
  | 54 => ⟨S8x1, .f32⟩
  | 55 => ⟨S1x64, .f32⟩
  | 56 => ⟨S8x64, .f32⟩
  | 57 => ⟨S8x64, .f32⟩
  | 58 => ⟨S8x64, .f32⟩
  | 59 => ⟨S8x64, .f32⟩
  | 60 => ⟨S1x8x1x64, .f32⟩
  | 61 => ⟨S8x64, .f32⟩
  | 62 => ⟨S1x8x1x64, .f32⟩
  | 63 => ⟨S128x8x4x64, .f32⟩
  | 64 => ⟨S128x8x4x64, .f32⟩
  | 65 => ⟨S128x8x4x64, .f32⟩
  | 66 => ⟨S128x8x4x64, .f32⟩
  | 67 => ⟨S128x8x4x64, .f32⟩
  | 68 => ⟨S128x8x4x64, .f32⟩
  | 69 => ⟨S128x8x4x64, .f32⟩
  | 70 => ⟨S128x8x4x64, .f32⟩
  | 71 => ⟨S128x8x4x64, .f32⟩
  | 72 => ⟨S128x8x4x64, .f32⟩
  | 73 => ⟨S128x8x4x64, .f32⟩
  | 74 => ⟨S128x8x4x64, .f32⟩
  | 75 => ⟨S128x8x4x128, .f32⟩
  | 76 => ⟨S_, .f32⟩
  | 77 => ⟨S128x8x4x128, .f32⟩
  | 78 => ⟨S128x8x4x128, .f32⟩
  | 79 => ⟨S128x8x4x256, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S4, .f32⟩
  | 87 => ⟨S4, .f32⟩
  | 88 => ⟨S4, .f32⟩
  | 89 => ⟨S128x8x4, .f32⟩
  | 90 => ⟨S128x4x128x256, .f32⟩
  | 91 => ⟨S_, .i1⟩
  | 92 => ⟨S8x8, .i1⟩
  | 93 => ⟨S8x8, .i32⟩
  | 94 => ⟨S_, .i32⟩
  | 95 => ⟨S8x8, .i32⟩
  | 96 => ⟨S8x8, .i32⟩
  | 97 => ⟨S8x8, .i32⟩
  | 98 => ⟨S8x8, .i1⟩
  | 99 => ⟨S_, .i1⟩
  | 100 => ⟨S8x8, .i1⟩
  | 101 => ⟨S8x8, .i1⟩
  | 102 => ⟨S_, .f32⟩
  | 103 => ⟨S_, .f32⟩
  | 104 => ⟨S128x8x4, .f32⟩
  | 105 => ⟨S128x8x4, .f32⟩
  | 106 => ⟨S128x8x4x1, .f32⟩
  | 107 => ⟨S128x8x4x128, .f32⟩
  | 108 => ⟨S128x8x4x128, .f32⟩
  | 109 => ⟨S128x4x256x8, .f32⟩
  | 110 => ⟨S128x8x4x256, .f32⟩
  | 111 => ⟨S1x8x8x1, .i1⟩
  | 112 => ⟨S128x8x1x4, .f32⟩
  | 113 => ⟨S128x1x8x4, .f32⟩
  | 114 => ⟨S128x8x8x4, .f32⟩
  | 115 => ⟨S128x8x8x4, .f32⟩
  | 116 => ⟨S128x8x8x4, .f32⟩
  | 117 => ⟨S_, .f32⟩
  | 118 => ⟨S_, .f32⟩
  | 119 => ⟨S128x8x8x4, .i1⟩
  | 120 => ⟨S128x8x8x4, .f32⟩
  | 121 => ⟨S128x8x8x4, .f32⟩
  | 122 => ⟨S128x8x8x4, .f32⟩
  | 123 => ⟨S128x4x8x8, .f32⟩
  | 124 => ⟨S128x8x8x4, .f32⟩
  | 125 => ⟨S128x8x8x4, .f32⟩
  | 126 => ⟨S128x4x256x8, .f32⟩
  | 127 => ⟨S128x8x4x256, .f32⟩
  | _ => ⟨S9216x7168, .f32⟩

abbrev hbmTy0_1 (i : Nat) : BufTy := match i % 128 with
  | 0 => ⟨S128x8x4x256, .f32⟩
  | 1 => ⟨S128x1x4, .f32⟩
  | 2 => ⟨S128x4, .f32⟩
  | 3 => ⟨S128x1x4, .f32⟩
  | 4 => ⟨S128x8x4, .f32⟩
  | 5 => ⟨S128x8x4, .f32⟩
  | 6 => ⟨S128x8x4, .f32⟩
  | 7 => ⟨S128x8x4x1, .f32⟩
  | 8 => ⟨S128x8x4x128, .f32⟩
  | 9 => ⟨S128x8x4x128, .f32⟩
  | 10 => ⟨S128x4, .f32⟩
  | 11 => ⟨S128x4x1x1, .f32⟩
  | 12 => ⟨S128x4x128x256, .f32⟩
  | 13 => ⟨S128x4x128x256, .f32⟩
  | 14 => ⟨S128x4x128x256, .f32⟩
  | 15 => ⟨S128x4x128x256, .f32⟩
  | 16 => ⟨S1024, .f32⟩
  | 17 => ⟨S128x8x4x256, .f32⟩
  | 18 => ⟨S_, .f32⟩
  | 19 => ⟨S128x8x4, .f32⟩
  | 20 => ⟨S128x8x4x1, .f32⟩
  | 21 => ⟨S_, .f32⟩
  | 22 => ⟨S128x8x4x1, .f32⟩
  | 23 => ⟨S128x8x4x1, .f32⟩
  | 24 => ⟨S_, .f32⟩
  | 25 => ⟨S128x8x4x1, .f32⟩
  | 26 => ⟨S128x8x4x1, .f32⟩
  | 27 => ⟨S128x8x4x1, .f32⟩
  | 28 => ⟨S128x8x4x256, .f32⟩
  | 29 => ⟨S128x8x4x256, .f32⟩
  | 30 => ⟨S128x8x1024, .f32⟩
  | 31 => ⟨S1x1x1024, .f32⟩
  | 32 => ⟨S128x8x1024, .f32⟩
  | 33 => ⟨S128x8x1024, .f32⟩
  | 34 => ⟨S128x8x1024, .f32⟩
  | 35 => ⟨S128x8x1024, .f32⟩
  | 36 => ⟨S_, .f32⟩
  | 37 => ⟨S128x8x1024, .f32⟩
  | 38 => ⟨S128x8x1024, .f32⟩
  | 39 => ⟨S_, .f32⟩
  | 40 => ⟨S128x8x1024, .f32⟩
  | 41 => ⟨S128x8x1024, .f32⟩
  | 42 => ⟨S128x8x1024, .f32⟩
  | 43 => ⟨S128x8x1024, .f32⟩
  | 44 => ⟨S1024x1024, .f32⟩
  | 45 => ⟨S1024x1024, .bf16⟩
  | 46 => ⟨S1024x1024, .bf16⟩
  | 47 => ⟨S1024x2048, .bf16⟩
  | 48 => ⟨S8192x2048, .bf16⟩
  | 49 => ⟨S9216x2048, .bf16⟩
  | _ => ⟨S9216x7168, .f32⟩

abbrev hbmTy (i : Nat) : BufTy := match i / 128 with
  | 0 => hbmTy0_0 i
  | 1 => hbmTy0_1 i
  | _ => ⟨S9216x7168, .f32⟩

abbrev bufTy : (tb : Table) → Fin (tcTables nBuf tb) → BufTy
  | .hbm, ⟨i, _⟩ => hbmTy i
  | _, _ => ⟨S9216x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_4 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_cst_5 : Ref sig .tc := ⟨.hbm, 80, rfl⟩
abbrev main_v70 : Ref sig .tc := ⟨.hbm, 81, rfl⟩
abbrev main_v71 : Ref sig .tc := ⟨.hbm, 82, rfl⟩
abbrev main_cst_6 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_c : Ref sig .tc := ⟨.hbm, 91, rfl⟩
abbrev main_v79 : Ref sig .tc := ⟨.hbm, 92, rfl⟩
abbrev main_call0_v0 : Ref sig .tc := ⟨.hbm, 93, rfl⟩
abbrev main_call0_c : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_call0_v4 : Ref sig .tc := ⟨.hbm, 98, rfl⟩
abbrev main_call0_c_0 : Ref sig .tc := ⟨.hbm, 99, rfl⟩
abbrev main_call0_v5 : Ref sig .tc := ⟨.hbm, 100, rfl⟩
abbrev main_v80 : Ref sig .tc := ⟨.hbm, 101, rfl⟩
abbrev main_call1_call0_cst : Ref sig .tc := ⟨.hbm, 102, rfl⟩
abbrev main_call1_call0_v0 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_7 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_8 : Ref sig .tc := ⟨.hbm, 146, rfl⟩
abbrev main_v119 : Ref sig .tc := ⟨.hbm, 147, rfl⟩
abbrev main_v120 : Ref sig .tc := ⟨.hbm, 148, rfl⟩
abbrev main_cst_9 : Ref sig .tc := ⟨.hbm, 149, rfl⟩
abbrev main_v121 : Ref sig .tc := ⟨.hbm, 150, rfl⟩
abbrev main_v122 : Ref sig .tc := ⟨.hbm, 151, rfl⟩
abbrev main_cst_10 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_call3_v0 : Ref sig .tc := ⟨.hbm, 162, rfl⟩
abbrev main_call3_v1 : Ref sig .tc := ⟨.hbm, 163, rfl⟩
abbrev main_call3_cst : Ref sig .tc := ⟨.hbm, 164, rfl⟩
abbrev main_call3_v2 : Ref sig .tc := ⟨.hbm, 165, rfl⟩
abbrev main_call3_v3 : Ref sig .tc := ⟨.hbm, 166, rfl⟩
abbrev main_call3_cst_0 : Ref sig .tc := ⟨.hbm, 167, rfl⟩
abbrev main_call3_v4 : Ref sig .tc := ⟨.hbm, 168, rfl⟩
abbrev main_call3_v5 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩

abbrev nD : Nat := 1
abbrev τ : Topo := Topo.v7x

variable {F : FTy → Type} [FloatOps F]
-- ==== FfnNorm.lean ====
abbrev S9216x2048 : Shape := ⟨2, ![9216, 2048]⟩
abbrev S2x3x2048 : Shape := ⟨3, ![2, 3, 2048]⟩
abbrev S2x2x2048x5632 : Shape := ⟨4, ![2, 2, 2048, 5632]⟩
abbrev S2x2x5632x2048 : Shape := ⟨4, ![2, 2, 5632, 2048]⟩
abbrev S1x1x2048 : Shape := ⟨3, ![1, 1, 2048]⟩
abbrev S2048 : Shape := ⟨1, ![2048]⟩
abbrev S1x2048 : Shape := ⟨2, ![1, 2048]⟩
abbrev S768x2048 : Shape := ⟨2, ![768, 2048]⟩
abbrev S1x1x2048x512 : Shape := ⟨4, ![1, 1, 2048, 512]⟩
abbrev S1x1x512x2048 : Shape := ⟨4, ![1, 1, 512, 2048]⟩
abbrev S768 : Shape := ⟨1, ![768]⟩
abbrev S768x1 : Shape := ⟨2, ![768, 1]⟩
abbrev S1x1x2048x256 : Shape := ⟨4, ![1, 1, 2048, 256]⟩
abbrev S2048x256 : Shape := ⟨2, ![2048, 256]⟩
abbrev S768x256 : Shape := ⟨2, ![768, 256]⟩
abbrev S768x512 : Shape := ⟨2, ![768, 512]⟩
abbrev S512x2048 : Shape := ⟨2, ![512, 2048]⟩

abbrev nBuf : Space → Nat
  | .hbm => 16
  | .vmem => 15
  | .smem => 0
  | _ => 0

abbrev bufTy : (tb : Table) → Fin (tcTables nBuf tb) → BufTy
  | .hbm, ⟨0, _⟩ => ⟨S9216x2048, .f32⟩
  | .hbm, ⟨1, _⟩ => ⟨S2x3x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x2x2048x5632, .bf16⟩
  | .hbm, ⟨6, _⟩ => ⟨S2x2x2048x5632, .bf16⟩
  | .hbm, ⟨7, _⟩ => ⟨S2x2x5632x2048, .bf16⟩
  | .hbm, ⟨8, _⟩ => ⟨S1x1x2048, .f32⟩
  | .hbm, ⟨9, _⟩ => ⟨S2048, .f32⟩
  | .hbm, ⟨10, _⟩ => ⟨S1x1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S9216x2048, .f32⟩
  | .hbm, ⟨15, _⟩ => ⟨S9216x2048, .bf16⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S1x2048, .f32⟩
  | .local _ .vmem, ⟨10, _⟩ => ⟨S768x2048, .f32⟩
  | .local _ .vmem, ⟨11, _⟩ => ⟨S768x2048, .f32⟩
  | .local _ .vmem, ⟨12, _⟩ => ⟨S768x2048, .bf16⟩
  | .local _ .vmem, ⟨13, _⟩ => ⟨S768x2048, .bf16⟩
  | .local _ .vmem, ⟨14, _⟩ => ⟨S768x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![12, 11], ![false, false]⟩

def k0_cond2 (i : grid0.Coords) : BitVec 1 :=
  let arg1 : BitVec 32 := BitVec.ofNat 32 (i 1).val
  let c10_i32 : BitVec 32 := 10#32
  let v32 : BitVec 1 := Scalar.cmpi .eq arg1 c10_i32
  let v33 : BitVec 32 := Scalar.extui v32
  let c0_i32_29 : BitVec 32 := 0#32
  let v34 : BitVec 1 := Scalar.cmpi .ne v33 c0_i32_29
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnNormRefIdeal.lean ====
abbrev S9216x2048 : Shape := ⟨2, ![9216, 2048]⟩
abbrev S2x3x2048 : Shape := ⟨3, ![2, 3, 2048]⟩
abbrev S2x2x2048x5632 : Shape := ⟨4, ![2, 2, 2048, 5632]⟩
abbrev S2x2x5632x2048 : Shape := ⟨4, ![2, 2, 5632, 2048]⟩
abbrev S1x1x2048 : Shape := ⟨3, ![1, 1, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S9216x5632 : Shape := ⟨2, ![9216, 5632]⟩

abbrev nBuf : Space → Nat
  | .hbm => 65
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x3x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S1x1x2048, .f32⟩
  | .hbm, ⟨6, _⟩ => ⟨S2048, .f32⟩
  | .hbm, ⟨7, _⟩ => ⟨S9216x2048, .f32⟩
  | .hbm, ⟨8, _⟩ => ⟨S_, .f32⟩
  | .hbm, ⟨9, _⟩ => ⟨S9216, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S_, .f32⟩
  | .hbm, ⟨15, _⟩ => ⟨S9216x1, .f32⟩
  | .hbm, ⟨16, _⟩ => ⟨S9216x1, .f32⟩
  | .hbm, ⟨17, _⟩ => ⟨S9216x1, .f32⟩
  | .hbm, ⟨18, _⟩ => ⟨S9216x2048, .f32⟩
  | .hbm, ⟨19, _⟩ => ⟨S9216x2048, .f32⟩
  | .hbm, ⟨20, _⟩ => ⟨S1x2048, .f32⟩
  | .hbm, ⟨21, _⟩ => ⟨S9216x2048, .f32⟩
  | .hbm, ⟨22, _⟩ => ⟨S9216x2048, .f32⟩
  | .hbm, ⟨23, _⟩ => ⟨S1x1x2048x5632, .f32⟩
  | .hbm, ⟨24, _⟩ => ⟨S2048x5632, .f32⟩
  | .hbm, ⟨25, _⟩ => ⟨S1x1x2048x5632, .f32⟩
  | .hbm, ⟨26, _⟩ => ⟨S2048x5632, .f32⟩
  | .hbm, ⟨27, _⟩ => ⟨S1x1x5632x2048, .f32⟩
  | .hbm, ⟨28, _⟩ => ⟨S5632x2048, .f32⟩
  | .hbm, ⟨29, _⟩ => ⟨S9216x5632, .f32⟩
  | .hbm, ⟨30, _⟩ => ⟨S9216x5632, .f32⟩
  | .hbm, ⟨31, _⟩ => ⟨S9216x5632, .f32⟩
  | .hbm, ⟨32, _⟩ => ⟨S_, .f32⟩
  | .hbm, ⟨33, _⟩ => ⟨S9216x5632, .f32⟩
  | .hbm, ⟨34, _⟩ => ⟨S9216x5632, .f32⟩
  | .hbm, ⟨35, _⟩ => ⟨S_, .f32⟩
  | .hbm, ⟨36, _⟩ => ⟨S9216x5632, .f32⟩
  | .hbm, ⟨37, _⟩ => ⟨S9216x5632, .f32⟩
  | .hbm, ⟨38, _⟩ => ⟨S9216x5632, .f32⟩
  | .hbm, ⟨39, _⟩ => ⟨S9216x5632, .f32⟩
  | .hbm, ⟨40, _⟩ => ⟨S9216x5632, .f32⟩
  | .hbm, ⟨41, _⟩ => ⟨S9216x2048, .f32⟩
  | .hbm, ⟨42, _⟩ => ⟨S_, .f32⟩
  | .hbm, ⟨43, _⟩ => ⟨S9216x2048, .f32⟩
  | .hbm, ⟨44, _⟩ => ⟨S9216x2048, .f32⟩
  | .hbm, ⟨45, _⟩ => ⟨S9216x2048, .f32⟩
  | .hbm, ⟨46, _⟩ => ⟨S1x1x2048, .f32⟩
  | .hbm, ⟨47, _⟩ => ⟨S2048, .f32⟩
  | .hbm, ⟨48, _⟩ => ⟨S9216x2048, .f32⟩
  | .hbm, ⟨49, _⟩ => ⟨S_, .f32⟩
  | .hbm, ⟨50, _⟩ => ⟨S9216, .f32⟩
  | .hbm, ⟨51, _⟩ => ⟨S9216x1, .f32⟩
  | .hbm, ⟨52, _⟩ => ⟨S_, .f32⟩
  | .hbm, ⟨53, _⟩ => ⟨S9216x1, .f32⟩
  | .hbm, ⟨54, _⟩ => ⟨S9216x1, .f32⟩
  | .hbm, ⟨55, _⟩ => ⟨S_, .f32⟩
  | .hbm, ⟨56, _⟩ => ⟨S9216x1, .f32⟩
  | .hbm, ⟨57, _⟩ => ⟨S9216x1, .f32⟩
  | .hbm, ⟨58, _⟩ => ⟨S9216x1, .f32⟩
  | .hbm, ⟨59, _⟩ => ⟨S9216x2048, .f32⟩
  | .hbm, ⟨60, _⟩ => ⟨S9216x2048, .f32⟩
  | .hbm, ⟨61, _⟩ => ⟨S1x2048, .f32⟩
  | .hbm, ⟨62, _⟩ => ⟨S9216x2048, .f32⟩
  | .hbm, ⟨63, _⟩ => ⟨S9216x2048, .f32⟩
  | .hbm, ⟨64, _⟩ => ⟨S9216x2048, .bf16⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_3 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Ffn.lean ====
abbrev S9216x2048 : Shape := ⟨2, ![9216, 2048]⟩
abbrev S2x3x2048 : Shape := ⟨3, ![2, 3, 2048]⟩
abbrev S2x2x2048x5632 : Shape := ⟨4, ![2, 2, 2048, 5632]⟩
abbrev S2x2x5632x2048 : Shape := ⟨4, ![2, 2, 5632, 2048]⟩
abbrev S1x1x2048 : Shape := ⟨3, ![1, 1, 2048]⟩
abbrev S2048 : Shape := ⟨1, ![2048]⟩
abbrev S1x2048 : Shape := ⟨2, ![1, 2048]⟩
abbrev S1024x2048 : Shape := ⟨2, ![1024, 2048]⟩
abbrev S1x1x2048x512 : Shape := ⟨4, ![1, 1, 2048, 512]⟩
abbrev S1x1x512x2048 : Shape := ⟨4, ![1, 1, 512, 2048]⟩
abbrev S1024 : Shape := ⟨1, ![1024]⟩
abbrev S1024x1 : Shape := ⟨2, ![1024, 1]⟩
abbrev S1x1x2048x256 : Shape := ⟨4, ![1, 1, 2048, 256]⟩
abbrev S2048x256 : Shape := ⟨2, ![2048, 256]⟩
abbrev S1024x256 : Shape := ⟨2, ![1024, 256]⟩
abbrev S1024x512 : Shape := ⟨2, ![1024, 512]⟩
abbrev S512x2048 : Shape := ⟨2, ![512, 2048]⟩

abbrev nBuf : Space → Nat
  | .hbm => 12
  | .vmem => 12
  | .smem => 0
  | _ => 0

abbrev bufTy : (tb : Table) → Fin (tcTables nBuf tb) → BufTy
  | .hbm, ⟨0, _⟩ => ⟨S9216x2048, .f32⟩
  | .hbm, ⟨1, _⟩ => ⟨S2x3x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2x2x2048x5632, .bf16⟩
  | .hbm, ⟨6, _⟩ => ⟨S2x2x2048x5632, .bf16⟩
  | .hbm, ⟨7, _⟩ => ⟨S2x2x5632x2048, .bf16⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S9216x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S9216x2048 : Shape := ⟨2, ![9216, 2048]⟩
abbrev S2x3x2048 : Shape := ⟨3, ![2, 3, 2048]⟩
abbrev S2x2x2048x5632 : Shape := ⟨4, ![2, 2, 2048, 5632]⟩
abbrev S2x2x5632x2048 : Shape := ⟨4, ![2, 2, 5632, 2048]⟩
abbrev S1x1x2048 : Shape := ⟨3, ![1, 1, 2048]⟩
abbrev S2048 : Shape := ⟨1, ![2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S9216x5632 : Shape := ⟨2, ![9216, 5632]⟩

abbrev nBuf : Space → Nat
  | .hbm => 46
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x3x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S1x1x2048, .f32⟩
  | .hbm, ⟨6, _⟩ => ⟨S2048, .f32⟩
  | .hbm, ⟨7, _⟩ => ⟨S9216x2048, .f32⟩
  | .hbm, ⟨8, _⟩ => ⟨S_, .f32⟩
  | .hbm, ⟨9, _⟩ => ⟨S9216, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S_, .f32⟩
  | .hbm, ⟨15, _⟩ => ⟨S9216x1, .f32⟩
  | .hbm, ⟨16, _⟩ => ⟨S9216x1, .f32⟩
  | .hbm, ⟨17, _⟩ => ⟨S9216x1, .f32⟩
  | .hbm, ⟨18, _⟩ => ⟨S9216x2048, .f32⟩
  | .hbm, ⟨19, _⟩ => ⟨S9216x2048, .f32⟩
  | .hbm, ⟨20, _⟩ => ⟨S1x2048, .f32⟩
  | .hbm, ⟨21, _⟩ => ⟨S9216x2048, .f32⟩
  | .hbm, ⟨22, _⟩ => ⟨S9216x2048, .f32⟩
  | .hbm, ⟨23, _⟩ => ⟨S1x1x2048x5632, .f32⟩
  | .hbm, ⟨24, _⟩ => ⟨S2048x5632, .f32⟩
  | .hbm, ⟨25, _⟩ => ⟨S1x1x2048x5632, .f32⟩
  | .hbm, ⟨26, _⟩ => ⟨S2048x5632, .f32⟩
  | .hbm, ⟨27, _⟩ => ⟨S1x1x5632x2048, .f32⟩
  | .hbm, ⟨28, _⟩ => ⟨S5632x2048, .f32⟩
  | .hbm, ⟨29, _⟩ => ⟨S9216x5632, .f32⟩
  | .hbm, ⟨30, _⟩ => ⟨S9216x5632, .f32⟩
  | .hbm, ⟨31, _⟩ => ⟨S9216x5632, .f32⟩
  | .hbm, ⟨32, _⟩ => ⟨S_, .f32⟩
  | .hbm, ⟨33, _⟩ => ⟨S9216x5632, .f32⟩
  | .hbm, ⟨34, _⟩ => ⟨S9216x5632, .f32⟩
  | .hbm, ⟨35, _⟩ => ⟨S_, .f32⟩
  | .hbm, ⟨36, _⟩ => ⟨S9216x5632, .f32⟩
  | .hbm, ⟨37, _⟩ => ⟨S9216x5632, .f32⟩
  | .hbm, ⟨38, _⟩ => ⟨S9216x5632, .f32⟩
  | .hbm, ⟨39, _⟩ => ⟨S9216x5632, .f32⟩
  | .hbm, ⟨40, _⟩ => ⟨S9216x5632, .f32⟩
  | .hbm, ⟨41, _⟩ => ⟨S9216x2048, .f32⟩
  | .hbm, ⟨42, _⟩ => ⟨S_, .f32⟩
  | .hbm, ⟨43, _⟩ => ⟨S9216x2048, .f32⟩
  | .hbm, ⟨44, _⟩ => ⟨S9216x2048, .f32⟩
  | .hbm, ⟨45, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== FfnFinal.lean ====
abbrev S9216x2048 : Shape := ⟨2, ![9216, 2048]⟩
abbrev S2x3x2048 : Shape := ⟨3, ![2, 3, 2048]⟩
abbrev S2x2x2048x5632 : Shape := ⟨4, ![2, 2, 2048, 5632]⟩
abbrev S2x2x5632x2048 : Shape := ⟨4, ![2, 2, 5632, 2048]⟩
abbrev S2048 : Shape := ⟨1, ![2048]⟩
abbrev S1x1x2048 : Shape := ⟨3, ![1, 1, 2048]⟩
abbrev S1x2048 : Shape := ⟨2, ![1, 2048]⟩
abbrev S768x2048 : Shape := ⟨2, ![768, 2048]⟩
abbrev S1x1x2048x512 : Shape := ⟨4, ![1, 1, 2048, 512]⟩
abbrev S1x1x512x2048 : Shape := ⟨4, ![1, 1, 512, 2048]⟩
abbrev S768 : Shape := ⟨1, ![768]⟩
abbrev S768x1 : Shape := ⟨2, ![768, 1]⟩
abbrev S1x1x2048x256 : Shape := ⟨4, ![1, 1, 2048, 256]⟩
abbrev S2048x256 : Shape := ⟨2, ![2048, 256]⟩
abbrev S768x256 : Shape := ⟨2, ![768, 256]⟩
abbrev S768x512 : Shape := ⟨2, ![768, 512]⟩
abbrev S512x2048 : Shape := ⟨2, ![512, 2048]⟩

abbrev nBuf : Space → Nat
  | .hbm => 14
  | .vmem => 13
  | .smem => 0
  | _ => 0

abbrev bufTy : (tb : Table) → Fin (tcTables nBuf tb) → BufTy
  | .hbm, ⟨0, _⟩ => ⟨S9216x2048, .f32⟩
  | .hbm, ⟨1, _⟩ => ⟨S2x3x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2048, .f32⟩
  | .hbm, ⟨6, _⟩ => ⟨S2x2x2048x5632, .bf16⟩
  | .hbm, ⟨7, _⟩ => ⟨S2x2x2048x5632, .bf16⟩
  | .hbm, ⟨8, _⟩ => ⟨S2x2x5632x2048, .bf16⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S9216x2048, .f32⟩
  | .local _ .vmem, ⟨0, _⟩ => ⟨S768x2048, .f32⟩
  | .local _ .vmem, ⟨1, _⟩ => ⟨S768x2048, .f32⟩
  | .local _ .vmem, ⟨2, _⟩ => ⟨S1x2048, .f32⟩
  | .local _ .vmem, ⟨3, _⟩ => ⟨S1x1x2048x512, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x512x2048, .bf16⟩
  | .local _ .vmem, ⟨8, _⟩ => ⟨S1x1x512x2048, .bf16⟩
  | .local _ .vmem, ⟨9, _⟩ => ⟨S1x2048, .f32⟩
  | .local _ .vmem, ⟨10, _⟩ => ⟨S768x2048, .f32⟩
  | .local _ .vmem, ⟨11, _⟩ => ⟨S768x2048, .f32⟩
  | .local _ .vmem, ⟨12, _⟩ => ⟨S768x2048, .bf16⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![12, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnFinalRefIdeal.lean ====
abbrev S9216x2048 : Shape := ⟨2, ![9216, 2048]⟩
abbrev S2x3x2048 : Shape := ⟨3, ![2, 3, 2048]⟩
abbrev S2x2x2048x5632 : Shape := ⟨4, ![2, 2, 2048, 5632]⟩
abbrev S2x2x5632x2048 : Shape := ⟨4, ![2, 2, 5632, 2048]⟩
abbrev S2048 : Shape := ⟨1, ![2048]⟩
abbrev S1x1x2048 : Shape := ⟨3, ![1, 1, 2048]⟩
abbrev S_ : Shape := ⟨0, ![]⟩
abbrev S9216 : Shape := ⟨1, ![9216]⟩
abbrev S9216x1 : Shape := ⟨2, ![9216, 1]⟩
abbrev S1x2048 : Shape := ⟨2, ![1, 2048]⟩
abbrev S1x1x2048x5632 : Shape := ⟨4, ![1, 1, 2048, 5632]⟩
abbrev S2048x5632 : Shape := ⟨2, ![2048, 5632]⟩
abbrev S1x1x5632x2048 : Shape := ⟨4, ![1, 1, 5632, 2048]⟩
abbrev S5632x2048 : Shape := ⟨2, ![5632, 2048]⟩
abbrev S9216x5632 : Shape := ⟨2, ![9216, 5632]⟩

abbrev nBuf : Space → Nat
  | .hbm => 63
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S2x3x2048, .f32⟩
  | .hbm, ⟨2, _⟩ => ⟨S2x2x2048x5632, .f32⟩
  | .hbm, ⟨3, _⟩ => ⟨S2x2x2048x5632, .f32⟩
  | .hbm, ⟨4, _⟩ => ⟨S2x2x5632x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S9216x2048, .f32⟩
  | .hbm, ⟨9, _⟩ => ⟨S_, .f32⟩
  | .hbm, ⟨10, _⟩ => ⟨S9216, .f32⟩
  | .hbm, ⟨11, _⟩ => ⟨S9216x1, .f32⟩
  | .hbm, ⟨12, _⟩ => ⟨S_, .f32⟩
  | .hbm, ⟨13, _⟩ => ⟨S9216x1, .f32⟩
  | .hbm, ⟨14, _⟩ => ⟨S9216x1, .f32⟩
  | .hbm, ⟨15, _⟩ => ⟨S_, .f32⟩
  | .hbm, ⟨16, _⟩ => ⟨S9216x1, .f32⟩
  | .hbm, ⟨17, _⟩ => ⟨S9216x1, .f32⟩
  | .hbm, ⟨18, _⟩ => ⟨S9216x1, .f32⟩
  | .hbm, ⟨19, _⟩ => ⟨S9216x2048, .f32⟩
  | .hbm, ⟨20, _⟩ => ⟨S9216x2048, .f32⟩
  | .hbm, ⟨21, _⟩ => ⟨S1x2048, .f32⟩
  | .hbm, ⟨22, _⟩ => ⟨S9216x2048, .f32⟩
  | .hbm, ⟨23, _⟩ => ⟨S9216x2048, .f32⟩
  | .hbm, ⟨24, _⟩ => ⟨S1x1x2048x5632, .f32⟩
  | .hbm, ⟨25, _⟩ => ⟨S2048x5632, .f32⟩
  | .hbm, ⟨26, _⟩ => ⟨S1x1x2048x5632, .f32⟩
  | .hbm, ⟨27, _⟩ => ⟨S2048x5632, .f32⟩
  | .hbm, ⟨28, _⟩ => ⟨S1x1x5632x2048, .f32⟩
  | .hbm, ⟨29, _⟩ => ⟨S5632x2048, .f32⟩
  | .hbm, ⟨30, _⟩ => ⟨S9216x5632, .f32⟩
  | .hbm, ⟨31, _⟩ => ⟨S9216x5632, .f32⟩
  | .hbm, ⟨32, _⟩ => ⟨S9216x5632, .f32⟩
  | .hbm, ⟨33, _⟩ => ⟨S_, .f32⟩
  | .hbm, ⟨34, _⟩ => ⟨S9216x5632, .f32⟩
  | .hbm, ⟨35, _⟩ => ⟨S9216x5632, .f32⟩
  | .hbm, ⟨36, _⟩ => ⟨S_, .f32⟩
  | .hbm, ⟨37, _⟩ => ⟨S9216x5632, .f32⟩
  | .hbm, ⟨38, _⟩ => ⟨S9216x5632, .f32⟩
  | .hbm, ⟨39, _⟩ => ⟨S9216x5632, .f32⟩
  | .hbm, ⟨40, _⟩ => ⟨S9216x5632, .f32⟩
  | .hbm, ⟨41, _⟩ => ⟨S9216x5632, .f32⟩
  | .hbm, ⟨42, _⟩ => ⟨S9216x2048, .f32⟩
  | .hbm, ⟨43, _⟩ => ⟨S_, .f32⟩
  | .hbm, ⟨44, _⟩ => ⟨S9216x2048, .f32⟩
  | .hbm, ⟨45, _⟩ => ⟨S9216x2048, .f32⟩
  | .hbm, ⟨46, _⟩ => ⟨S9216x2048, .f32⟩
  | .hbm, ⟨47, _⟩ => ⟨S9216x2048, .f32⟩
  | .hbm, ⟨48, _⟩ => ⟨S_, .f32⟩
  | .hbm, ⟨49, _⟩ => ⟨S9216, .f32⟩
  | .hbm, ⟨50, _⟩ => ⟨S9216x1, .f32⟩
  | .hbm, ⟨51, _⟩ => ⟨S_, .f32⟩
  | .hbm, ⟨52, _⟩ => ⟨S9216x1, .f32⟩
  | .hbm, ⟨53, _⟩ => ⟨S9216x1, .f32⟩
  | .hbm, ⟨54, _⟩ => ⟨S_, .f32⟩
  | .hbm, ⟨55, _⟩ => ⟨S9216x1, .f32⟩
  | .hbm, ⟨56, _⟩ => ⟨S9216x1, .f32⟩
  | .hbm, ⟨57, _⟩ => ⟨S9216x1, .f32⟩
  | .hbm, ⟨58, _⟩ => ⟨S9216x2048, .f32⟩
  | .hbm, ⟨59, _⟩ => ⟨S9216x2048, .f32⟩
  | .hbm, ⟨60, _⟩ => ⟨S1x2048, .f32⟩
  | .hbm, ⟨61, _⟩ => ⟨S9216x2048, .f32⟩
  | .hbm, ⟨62, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Inproj.lean ====
abbrev S9216x2048 : Shape := ⟨2, ![9216, 2048]⟩
abbrev S1x2048x7168 : Shape := ⟨3, ![1, 2048, 7168]⟩
abbrev S2048x7168 : Shape := ⟨2, ![2048, 7168]⟩
abbrev S56x9216x128 : Shape := ⟨3, ![56, 9216, 128]⟩
abbrev S1152x2048 : Shape := ⟨2, ![1152, 2048]⟩
abbrev S2048x1792 : Shape := ⟨2, ![2048, 1792]⟩
abbrev S14x1152x128 : Shape := ⟨3, ![14, 1152, 128]⟩
abbrev S1152x1792 : Shape := ⟨2, ![1152, 1792]⟩
abbrev S1152x128 : Shape := ⟨2, ![1152, 128]⟩
abbrev S1x1152x128 : Shape := ⟨3, ![1, 1152, 128]⟩

abbrev nBuf : Space → Nat
  | .hbm => 5
  | .vmem => 6
  | .smem => 0
  | _ => 0

abbrev bufTy : (tb : Table) → Fin (tcTables nBuf tb) → BufTy
  | .hbm, ⟨0, _⟩ => ⟨S9216x2048, .bf16⟩
  | .hbm, ⟨1, _⟩ => ⟨S1x2048x7168, .f32⟩
  | .hbm, ⟨2, _⟩ => ⟨S2048x7168, .f32⟩
  | .hbm, ⟨3, _⟩ => ⟨S2048x7168, .bf16⟩
  | .hbm, ⟨4, _⟩ => ⟨S56x9216x128, .f32⟩
  | .local _ .vmem, ⟨0, _⟩ => ⟨S1152x2048, .bf16⟩
  | .local _ .vmem, ⟨1, _⟩ => ⟨S1152x2048, .bf16⟩
  | .local _ .vmem, ⟨2, _⟩ => ⟨S2048x1792, .bf16⟩
  | .local _ .vmem, ⟨3, _⟩ => ⟨S2048x1792, .bf16⟩
  | .local _ .vmem, ⟨4, _⟩ => ⟨S14x1152x128, .f32⟩
  | .local _ .vmem, ⟨5, _⟩ => ⟨S14x1152x128, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1152x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S14x1152x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InprojRefIdeal.lean ====
abbrev S9216x2048 : Shape := ⟨2, ![9216, 2048]⟩
abbrev S1x2048x7168 : Shape := ⟨3, ![1, 2048, 7168]⟩
abbrev S2048x7168 : Shape := ⟨2, ![2048, 7168]⟩
abbrev S9216x7168 : Shape := ⟨2, ![9216, 7168]⟩
abbrev S9216x56x128 : Shape := ⟨3, ![9216, 56, 128]⟩
abbrev S56x9216x128 : Shape := ⟨3, ![56, 9216, 128]⟩

abbrev nBuf : Space → Nat
  | .hbm => 7
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S1x2048x7168, .f32⟩
  | .hbm, ⟨2, _⟩ => ⟨S9216x2048, .f32⟩
  | .hbm, ⟨3, _⟩ => ⟨S2048x7168, .f32⟩
  | .hbm, ⟨4, _⟩ => ⟨S9216x7168, .f32⟩
  | .hbm, ⟨5, _⟩ => ⟨S9216x56x128, .f32⟩
  | .hbm, ⟨6, _⟩ => ⟨S56x9216x128, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Outproj.lean ====
abbrev S9216x2048 : Shape := ⟨2, ![9216, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S9216x2048, .f32⟩
  | .hbm, ⟨1, _⟩ => ⟨S9216x2048, .bf16⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S9216x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S9216x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutprojRefIdeal.lean ====
abbrev S9216x2048 : Shape := ⟨2, ![9216, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S9216x2048, .f32⟩
  | .hbm, ⟨1, _⟩ => ⟨S9216x2048, .bf16⟩
  | .hbm, ⟨2, _⟩ => ⟨S1x2048x2048, .f32⟩
  | .hbm, ⟨3, _⟩ => ⟨S9216x2048, .f32⟩
  | .hbm, ⟨4, _⟩ => ⟨S2048x2048, .f32⟩
  | .hbm, ⟨5, _⟩ => ⟨S9216x2048, .f32⟩
  | .hbm, ⟨6, _⟩ => ⟨S9216x2048, .f32⟩
  | _, _ => ⟨S9216x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Mlstm.lean ====
abbrev S9216x7192 : Shape := ⟨2, ![9216, 7192]⟩
abbrev S9216x2048 : Shape := ⟨2, ![9216, 2048]⟩
abbrev S1x128x4x256x256 : Shape := ⟨5, ![1, 128, 4, 256, 256]⟩
abbrev S1x128x4x256 : Shape := ⟨4, ![1, 128, 4, 256]⟩
abbrev S1x128x4 : Shape := ⟨3, ![1, 128, 4]⟩
abbrev S1x128x3x2048 : Shape := ⟨4, ![1, 128, 3, 2048]⟩
abbrev S1x4x2048 : Shape := ⟨3, ![1, 4, 2048]⟩
abbrev S1x4 : Shape := ⟨2, ![1, 4]⟩
abbrev S1x1024 : Shape := ⟨2, ![1, 1024]⟩
abbrev S9216x4096 : Shape := ⟨2, ![9216, 4096]⟩
abbrev S9216x3072 : Shape := ⟨2, ![9216, 3072]⟩
abbrev S9216x8 : Shape := ⟨2, ![9216, 8]⟩
abbrev S9216x16 : Shape := ⟨2, ![9216, 16]⟩
abbrev S_ : Shape := ⟨0, ![]⟩
abbrev S9216x488 : Shape := ⟨2, ![9216, 488]⟩
abbrev S9216x7680 : Shape := ⟨2, ![9216, 7680]⟩
abbrev S9216x60x128 : Shape := ⟨3, ![9216, 60, 128]⟩
abbrev S60x9216x128 : Shape := ⟨3, ![60, 9216, 128]⟩
abbrev S4x2048 : Shape := ⟨2, ![4, 2048]⟩
abbrev S4 : Shape := ⟨1, ![4]⟩
abbrev S1024 : Shape := ⟨1, ![1024]⟩
abbrev S128x4x256x256 : Shape := ⟨4, ![128, 4, 256, 256]⟩
abbrev S128x4x256 : Shape := ⟨3, ![128, 4, 256]⟩
abbrev S128x4 : Shape := ⟨2, ![128, 4]⟩
abbrev S128x3x2048 : Shape := ⟨3, ![128, 3, 2048]⟩
abbrev S1x128 : Shape := ⟨2, ![1, 128]⟩
abbrev S1 : Shape := ⟨1, ![1]⟩
abbrev S2 : Shape := ⟨1, ![2]⟩
abbrev S128x4x1x256 : Shape := ⟨4, ![128, 4, 1, 256]⟩
abbrev S128x4x1x1 : Shape := ⟨4, ![128, 4, 1, 1]⟩
abbrev S128x4x1x128 : Shape := ⟨4, ![128, 4, 1, 128]⟩
abbrev S128x3x1024 : Shape := ⟨3, ![128, 3, 1024]⟩
abbrev S2x256x128 : Shape := ⟨3, ![2, 256, 128]⟩
abbrev S1x256x128 : Shape := ⟨3, ![1, 256, 128]⟩
abbrev S4x256 : Shape := ⟨2, ![4, 256]⟩
abbrev S1x256 : Shape := ⟨2, ![1, 256]⟩
abbrev S32x3x256 : Shape := ⟨3, ![32, 3, 256]⟩
abbrev S32x1x256x256 : Shape := ⟨4, ![32, 1, 256, 256]⟩
abbrev S32x1x1x256 : Shape := ⟨4, ![32, 1, 1, 256]⟩
abbrev S32x1x1x128 : Shape := ⟨4, ![32, 1, 1, 128]⟩
abbrev S256x256 : Shape := ⟨2, ![256, 256]⟩
abbrev S32x16x256 : Shape := ⟨3, ![32, 16, 256]⟩
abbrev S8x256 : Shape := ⟨2, ![8, 256]⟩
abbrev S1x8x128 : Shape := ⟨3, ![1, 8, 128]⟩
abbrev S8x128 : Shape := ⟨2, ![8, 128]⟩
abbrev S1x3x256 : Shape := ⟨3, ![1, 3, 256]⟩
abbrev S3x256 : Shape := ⟨2, ![3, 256]⟩
abbrev S1x8x256 : Shape := ⟨3, ![1, 8, 256]⟩
abbrev S256x128 : Shape := ⟨2, ![256, 128]⟩
abbrev S256 : Shape := ⟨1, ![256]⟩
abbrev S256x1 : Shape := ⟨2, ![256, 1]⟩
abbrev S1x1x256x256 : Shape := ⟨4, ![1, 1, 256, 256]⟩
abbrev S1x1x1x256 : Shape := ⟨4, ![1, 1, 1, 256]⟩
abbrev S1x1x1x128 : Shape := ⟨4, ![1, 1, 1, 128]⟩
abbrev S1x1 : Shape := ⟨2, ![1, 1]⟩
abbrev S8x1 : Shape := ⟨2, ![8, 1]⟩
abbrev S256x384 : Shape := ⟨2, ![256, 384]⟩
abbrev S8 : Shape := ⟨1, ![8]⟩

abbrev nBuf : Space → Nat
  | .hbm => 51
  | .vmem => 43
  | .smem => 0
  | _ => 0

abbrev bufTy : (tb : Table) → Fin (tcTables nBuf tb) → BufTy
  | .hbm, ⟨0, _⟩ => ⟨S9216x7192, .f32⟩
  | .hbm, ⟨1, _⟩ => ⟨S9216x2048, .bf16⟩
  | .hbm, ⟨2, _⟩ => ⟨S1x128x4x256x256, .f32⟩
  | .hbm, ⟨3, _⟩ => ⟨S1x128x4x256, .f32⟩
  | .hbm, ⟨4, _⟩ => ⟨S1x128x4, .f32⟩
  | .hbm, ⟨5, _⟩ => ⟨S1x128x3x2048, .f32⟩
  | .hbm, ⟨6, _⟩ => ⟨S1x4x2048, .f32⟩
  | .hbm, ⟨7, _⟩ => ⟨S1x4, .f32⟩
  | .hbm, ⟨8, _⟩ => ⟨S1x4, .f32⟩
  | .hbm, ⟨9, _⟩ => ⟨S1x1024, .f32⟩
  | .hbm, ⟨10, _⟩ => ⟨S9216x4096, .f32⟩
  | .hbm, ⟨11, _⟩ => ⟨S9216x3072, .f32⟩
  | .hbm, ⟨12, _⟩ => ⟨S9216x8, .f32⟩
  | .hbm, ⟨13, _⟩ => ⟨S9216x16, .f32⟩
  | .hbm, ⟨14, _⟩ => ⟨S_, .f32⟩
  | .hbm, ⟨15, _⟩ => ⟨S9216x488, .f32⟩
  | .hbm, ⟨16, _⟩ => ⟨S9216x7680, .f32⟩
  | .hbm, ⟨17, _⟩ => ⟨S9216x60x128, .f32⟩
  | .hbm, ⟨18, _⟩ => ⟨S60x9216x128, .f32⟩
  | .hbm, ⟨19, _⟩ => ⟨S4x2048, .f32⟩
  | .hbm, ⟨20, _⟩ => ⟨S4, .f32⟩
  | .hbm, ⟨21, _⟩ => ⟨S4, .f32⟩
  | .hbm, ⟨22, _⟩ => ⟨S1024, .f32⟩
  | .hbm, ⟨23, _⟩ => ⟨S128x4x256x256, .f32⟩
  | .hbm, ⟨24, _⟩ => ⟨S128x4x256, .f32⟩
  | .hbm, ⟨25, _⟩ => ⟨S128x4, .f32⟩
  | .hbm, ⟨26, _⟩ => ⟨S128x3x2048, .f32⟩
  | .hbm, ⟨27, _⟩ => ⟨S_, .f32⟩
  | .hbm, ⟨28, _⟩ => ⟨S1x128, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S1x128, .f32⟩
  | .hbm, ⟨41, _⟩ => ⟨S128x4x1x256, .f32⟩
  | .hbm, ⟨42, _⟩ => ⟨S128x4x1x1, .f32⟩
  | .hbm, ⟨43, _⟩ => ⟨S128x4x1x128, .f32⟩
  | .hbm, ⟨44, _⟩ => ⟨S1x1024, .f32⟩
  | .hbm, ⟨45, _⟩ => ⟨S9216x2048, .bf16⟩
  | .hbm, ⟨46, _⟩ => ⟨S128x4x256x256, .f32⟩
  | .hbm, ⟨47, _⟩ => ⟨S128x4x1x256, .f32⟩
  | .hbm, ⟨48, _⟩ => ⟨S128x4x1x128, .f32⟩
  | .hbm, ⟨49, _⟩ => ⟨S128x3x1024, .f32⟩
  | .hbm, ⟨50, _⟩ => ⟨S128x3x1024, .f32⟩
  | .local _ .vmem, ⟨0, _⟩ => ⟨S2x256x128, .f32⟩
  | .local _ .vmem, ⟨1, _⟩ => ⟨S2x256x128, .f32⟩
  | .local _ .vmem, ⟨2, _⟩ => ⟨S2x256x128, .f32⟩
  | .local _ .vmem, ⟨3, _⟩ => ⟨S2x256x128, .f32⟩
  | .local _ .vmem, ⟨4, _⟩ => ⟨S2x256x128, .f32⟩
  | .local _ .vmem, ⟨5, _⟩ => ⟨S2x256x128, .f32⟩
  | .local _ .vmem, ⟨6, _⟩ => ⟨S2x256x128, .f32⟩
  | .local _ .vmem, ⟨7, _⟩ => ⟨S2x256x128, .f32⟩
  | .local _ .vmem, ⟨8, _⟩ => ⟨S1x256x128, .f32⟩
  | .local _ .vmem, ⟨9, _⟩ => ⟨S1x256x128, .f32⟩
  | .local _ .vmem, ⟨10, _⟩ => ⟨S4x256, .f32⟩
  | .local _ .vmem, ⟨11, _⟩ => ⟨S4x256, .f32⟩
  | .local _ .vmem, ⟨12, _⟩ => ⟨S4x256, .f32⟩
  | .local _ .vmem, ⟨13, _⟩ => ⟨S4x256, .f32⟩
  | .local _ .vmem, ⟨14, _⟩ => ⟨S1x128, .f32⟩
  | .local _ .vmem, ⟨15, _⟩ => ⟨S1x256, .f32⟩
  | .local _ .vmem, ⟨16, _⟩ => ⟨S1x256, .f32⟩
  | .local _ .vmem, ⟨17, _⟩ => ⟨S32x3x256, .f32⟩
  | .local _ .vmem, ⟨18, _⟩ => ⟨S32x3x256, .f32⟩
  | .local _ .vmem, ⟨19, _⟩ => ⟨S32x3x256, .f32⟩
  | .local _ .vmem, ⟨20, _⟩ => ⟨S32x3x256, .f32⟩
  | .local _ .vmem, ⟨21, _⟩ => ⟨S32x1x256x256, .f32⟩
  | .local _ .vmem, ⟨22, _⟩ => ⟨S32x1x256x256, .f32⟩
  | .local _ .vmem, ⟨23, _⟩ => ⟨S32x1x1x256, .f32⟩
  | .local _ .vmem, ⟨24, _⟩ => ⟨S32x1x1x256, .f32⟩
  | .local _ .vmem, ⟨25, _⟩ => ⟨S32x1x1x128, .f32⟩
  | .local _ .vmem, ⟨26, _⟩ => ⟨S32x1x1x128, .f32⟩
  | .local _ .vmem, ⟨27, _⟩ => ⟨S256x256, .bf16⟩
  | .local _ .vmem, ⟨28, _⟩ => ⟨S256x256, .bf16⟩
  | .local _ .vmem, ⟨29, _⟩ => ⟨S32x1x256x256, .f32⟩
  | .local _ .vmem, ⟨30, _⟩ => ⟨S32x1x256x256, .f32⟩
  | .local _ .vmem, ⟨31, _⟩ => ⟨S32x1x1x256, .f32⟩
  | .local _ .vmem, ⟨32, _⟩ => ⟨S32x1x1x256, .f32⟩
  | .local _ .vmem, ⟨33, _⟩ => ⟨S32x1x1x128, .f32⟩
  | .local _ .vmem, ⟨34, _⟩ => ⟨S32x1x1x128, .f32⟩
  | .local _ .vmem, ⟨35, _⟩ => ⟨S32x3x256, .f32⟩
  | .local _ .vmem, ⟨36, _⟩ => ⟨S32x3x256, .f32⟩
  | .local _ .vmem, ⟨37, _⟩ => ⟨S32x3x256, .f32⟩
  | .local _ .vmem, ⟨38, _⟩ => ⟨S32x3x256, .f32⟩
  | .local _ .vmem, ⟨39, _⟩ => ⟨S32x16x256, .f32⟩
  | .local _ .vmem, ⟨40, _⟩ => ⟨S32x16x256, .f32⟩
  | .local _ .vmem, ⟨41, _⟩ => ⟨S8x256, .f32⟩
  | .local _ .vmem, ⟨42, _⟩ => ⟨S8x256, .f32⟩
  | _, _ => ⟨S9216x7192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_v29_2 : Ref sig .tc := ⟨.hbm, 47, rfl⟩
abbrev main_v29_3 : Ref sig .tc := ⟨.hbm, 48, rfl⟩
abbrev main_v29_4 : Ref sig .tc := ⟨.hbm, 49, rfl⟩
abbrev main_v29_5 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c1_i32 : BitVec 32 := 1#32
  let v1 : BitVec 32 := Scalar.muli arg0 c1_i32
  let c32_i32 : BitVec 32 := 32#32
  let v2 : BitVec 32 := Scalar.addi c32_i32 v1
  let v3 : BitVec 32 := Scalar.addi v2 arg2
  let c0_i32_0 : BitVec 32 := 0#32
  let c0_i32_1 : BitVec 32 := 0#32
  ![v0.toNat, v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c1_i32 : BitVec 32 := 1#32
  let v1 : BitVec 32 := Scalar.muli arg0 c1_i32
  let c32_i32 : BitVec 32 := 32#32
  let v2 : BitVec 32 := Scalar.addi c32_i32 v1
  let v3 : BitVec 32 := Scalar.addi v2 arg2
  let c0_i32 : BitVec 32 := 0#32
  let c0_i32_0 : BitVec 32 := 0#32
  ![v0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c1_i32 : BitVec 32 := 1#32
  let v1 : BitVec 32 := Scalar.muli arg0 c1_i32
  let c32_i32 : BitVec 32 := 32#32
  let v2 : BitVec 32 := Scalar.addi c32_i32 v1
  let v3 : BitVec 32 := Scalar.addi v2 arg2
  let c0_i32 : BitVec 32 := 0#32
  let c0_i32_0 : BitVec 32 := 0#32
  ![v0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c1_i32 : BitVec 32 := 1#32
  let v1 : BitVec 32 := Scalar.muli arg0 c1_i32
  let c32_i32 : BitVec 32 := 32#32
  let v2 : BitVec 32 := Scalar.addi c32_i32 v1
  let v3 : BitVec 32 := Scalar.addi v2 arg2
  let c0_i32 : BitVec 32 := 0#32
  let c0_i32_0 : BitVec 32 := 0#32
  ![v0.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c32_i32 : BitVec 32 := 32#32
  let v1 : BitVec 32 := Scalar.addi c32_i32 v0
  let v2 : BitVec 32 := Scalar.addi v1 arg2
  let c56_i32 : BitVec 32 := 56#32
  let c0_i32 : BitVec 32 := 0#32
  let c0_i32_0 : BitVec 32 := 0#32
  ![c56_i32.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c32_i32 : BitVec 32 := 32#32
  let v1 : BitVec 32 := Scalar.addi c32_i32 v0
  let v2 : BitVec 32 := Scalar.addi v1 arg2
  let c0_i32 : BitVec 32 := 0#32
  let v3 : BitVec 32 := Scalar.addi c0_i32 arg1
  let c0_i32_0 : BitVec 32 := 0#32
  ![v2.toNat, v3.toNat]

def cc0_transform_16 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_20 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S2x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S2x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S32x3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S32x3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S32x1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S32x1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S32x1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S32x1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S32x1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

abbrev stage0_17 : Fin 2 → Memref sig .tc .vmem S32x1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

abbrev stage0_18 : Fin 2 → Memref sig .tc .vmem S32x3x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, false]

abbrev stage0_19 : Fin 2 → Memref sig .tc .vmem S32x3x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, false]
-- ==== MlstmRefIdeal.lean ====
abbrev S9216x7192 : Shape := ⟨2, ![9216, 7192]⟩
abbrev S9216x2048 : Shape := ⟨2, ![9216, 2048]⟩
abbrev S1x128x4x256x256 : Shape := ⟨5, ![1, 128, 4, 256, 256]⟩
abbrev S1x128x4x256 : Shape := ⟨4, ![1, 128, 4, 256]⟩
abbrev S1x128x4 : Shape := ⟨3, ![1, 128, 4]⟩
abbrev S1x128x3x2048 : Shape := ⟨4, ![1, 128, 3, 2048]⟩
abbrev S1x4x2048 : Shape := ⟨3, ![1, 4, 2048]⟩
abbrev S1x4 : Shape := ⟨2, ![1, 4]⟩
abbrev S1x1024 : Shape := ⟨2, ![1, 1024]⟩
abbrev S1024x7192 : Shape := ⟨2, ![1024, 7192]⟩
abbrev S128x8x7192 : Shape := ⟨3, ![128, 8, 7192]⟩
abbrev S128x8x2048 : Shape := ⟨3, ![128, 8, 2048]⟩
abbrev S128x8x4 : Shape := ⟨3, ![128, 8, 4]⟩
abbrev S128x3x2048 : Shape := ⟨3, ![128, 3, 2048]⟩
abbrev S128x11x2048 : Shape := ⟨3, ![128, 11, 2048]⟩
abbrev S4 : Shape := ⟨1, ![4]⟩
abbrev S1x1x4 : Shape := ⟨3, ![1, 1, 4]⟩
abbrev S_ : Shape := ⟨0, ![]⟩
abbrev S128x4 : Shape := ⟨2, ![128, 4]⟩
abbrev S8x8 : Shape := ⟨2, ![8, 8]⟩
abbrev S1x8x8x1 : Shape := ⟨4, ![1, 8, 8, 1]⟩
abbrev S128x8x1x4 : Shape := ⟨4, ![128, 8, 1, 4]⟩
abbrev S128x1x8x4 : Shape := ⟨4, ![128, 1, 8, 4]⟩
abbrev S128x8x8x4 : Shape := ⟨4, ![128, 8, 8, 4]⟩
abbrev S128x1x4 : Shape := ⟨3, ![128, 1, 4]⟩
abbrev S128x4x1x1 : Shape := ⟨4, ![128, 4, 1, 1]⟩
abbrev S128x4x1x128 : Shape := ⟨4, ![128, 4, 1, 128]⟩
abbrev S128x3x1024 : Shape := ⟨3, ![128, 3, 1024]⟩

abbrev nBuf : Space → Nat
  | .hbm => 83
  | .vmem => 0
  | .smem => 0
  | _ => 0

abbrev bufTy : (tb : Table) → Fin (tcTables nBuf tb) → BufTy
  | .hbm, ⟨0, _⟩ => ⟨S9216x7192, .f32⟩
  | .hbm, ⟨1, _⟩ => ⟨S9216x2048, .bf16⟩
  | .hbm, ⟨2, _⟩ => ⟨S1x128x4x256x256, .f32⟩
  | .hbm, ⟨3, _⟩ => ⟨S1x128x4x256, .f32⟩
  | .hbm, ⟨4, _⟩ => ⟨S1x128x4, .f32⟩
  | .hbm, ⟨5, _⟩ => ⟨S1x128x3x2048, .f32⟩
  | .hbm, ⟨6, _⟩ => ⟨S1x4x2048, .f32⟩
  | .hbm, ⟨7, _⟩ => ⟨S1x4, .f32⟩
  | .hbm, ⟨8, _⟩ => ⟨S1x4, .f32⟩
  | .hbm, ⟨9, _⟩ => ⟨S1x1024, .f32⟩
  | .hbm, ⟨10, _⟩ => ⟨S1024x7192, .f32⟩
  | .hbm, ⟨11, _⟩ => ⟨S128x8x7192, .f32⟩
  | .hbm, ⟨12, _⟩ => ⟨S128x8x2048, .f32⟩
  | .hbm, ⟨13, _⟩ => ⟨S128x8x4, .f32⟩
  | .hbm, ⟨14, _⟩ => ⟨S128x8x4, .f32⟩
  | .hbm, ⟨15, _⟩ => ⟨S128x3x2048, .f32⟩
  | .hbm, ⟨16, _⟩ => ⟨S128x11x2048, .f32⟩
  | .hbm, ⟨17, _⟩ => ⟨S128x3x2048, .f32⟩
  | .hbm, ⟨18, _⟩ => ⟨S4, .f32⟩
  | .hbm, ⟨19, _⟩ => ⟨S1x1x4, .f32⟩
  | .hbm, ⟨20, _⟩ => ⟨S128x8x4, .f32⟩
  | .hbm, ⟨21, _⟩ => ⟨S128x8x4, .f32⟩
  | .hbm, ⟨22, _⟩ => ⟨S4, .f32⟩
  | .hbm, ⟨23, _⟩ => ⟨S1x1x4, .f32⟩
  | .hbm, ⟨24, _⟩ => ⟨S128x8x4, .f32⟩
  | .hbm, ⟨25, _⟩ => ⟨S128x8x4, .f32⟩
  | .hbm, ⟨26, _⟩ => ⟨S128x8x4, .f32⟩
  | .hbm, ⟨27, _⟩ => ⟨S_, .f32⟩
  | .hbm, ⟨28, _⟩ => ⟨S128x8x4, .f32⟩
  | .hbm, ⟨29, _⟩ => ⟨S128x8x4, .f32⟩
  | .hbm, ⟨30, _⟩ => ⟨S128x8x4, .f32⟩
  | .hbm, ⟨31, _⟩ => ⟨S128x8x4, .f32⟩
  | .hbm, ⟨32, _⟩ => ⟨S128x8x4, .i1⟩
  | .hbm, ⟨33, _⟩ => ⟨S128x8x4, .f32⟩
  | .hbm, ⟨34, _⟩ => ⟨S128x8x4, .f32⟩
  | .hbm, ⟨35, _⟩ => ⟨S128x8x4, .f32⟩
  | .hbm, ⟨36, _⟩ => ⟨S128x8x4, .f32⟩
  | .hbm, ⟨37, _⟩ => ⟨S128x8x4, .f32⟩
  | .hbm, ⟨38, _⟩ => ⟨S128x8x4, .f32⟩
  | .hbm, ⟨39, _⟩ => ⟨S128x8x4, .f32⟩
  | .hbm, ⟨40, _⟩ => ⟨S128x8x4, .f32⟩
  | .hbm, ⟨41, _⟩ => ⟨S128x8x4, .f32⟩
  | .hbm, ⟨42, _⟩ => ⟨S128x4, .f32⟩
  | .hbm, ⟨43, _⟩ => ⟨S_, .i1⟩
  | .hbm, ⟨44, _⟩ => ⟨S8x8, .i1⟩
  | .hbm, ⟨45, _⟩ => ⟨S8x8, .i32⟩
  | .hbm, ⟨46, _⟩ => ⟨S_, .i32⟩
  | .hbm, ⟨47, _⟩ => ⟨S8x8, .i32⟩
  | .hbm, ⟨48, _⟩ => ⟨S8x8, .i32⟩
  | .hbm, ⟨49, _⟩ => ⟨S8x8, .i32⟩
  | .hbm, ⟨50, _⟩ => ⟨S8x8, .i1⟩
  | .hbm, ⟨51, _⟩ => ⟨S_, .i1⟩
  | .hbm, ⟨52, _⟩ => ⟨S8x8, .i1⟩
  | .hbm, ⟨53, _⟩ => ⟨S8x8, .i1⟩
  | .hbm, ⟨54, _⟩ => ⟨S_, .f32⟩
  | .hbm, ⟨55, _⟩ => ⟨S_, .f32⟩
  | .hbm, ⟨56, _⟩ => ⟨S128x8x4, .f32⟩
  | .hbm, ⟨57, _⟩ => ⟨S1x8x8x1, .i1⟩
  | .hbm, ⟨58, _⟩ => ⟨S128x8x1x4, .f32⟩
  | .hbm, ⟨59, _⟩ => ⟨S128x1x8x4, .f32⟩
  | .hbm, ⟨60, _⟩ => ⟨S128x8x8x4, .f32⟩
  | .hbm, ⟨61, _⟩ => ⟨S128x8x8x4, .f32⟩
  | .hbm, ⟨62, _⟩ => ⟨S128x8x8x4, .f32⟩
  | .hbm, ⟨63, _⟩ => ⟨S128x1x8x4, .f32⟩
  | .hbm, ⟨64, _⟩ => ⟨S128x8x8x4, .f32⟩
  | .hbm, ⟨65, _⟩ => ⟨S128x8x8x4, .f32⟩
  | .hbm, ⟨66, _⟩ => ⟨S_, .f32⟩
  | .hbm, ⟨67, _⟩ => ⟨S_, .f32⟩
  | .hbm, ⟨68, _⟩ => ⟨S128x8x8x4, .i1⟩
  | .hbm, ⟨69, _⟩ => ⟨S128x8x8x4, .f32⟩
  | .hbm, ⟨70, _⟩ => ⟨S128x8x8x4, .f32⟩
  | .hbm, ⟨71, _⟩ => ⟨S128x1x4, .f32⟩
  | .hbm, ⟨72, _⟩ => ⟨S128x8x4, .f32⟩
  | .hbm, ⟨73, _⟩ => ⟨S128x8x4, .f32⟩
  | .hbm, ⟨74, _⟩ => ⟨S_, .f32⟩
  | .hbm, ⟨75, _⟩ => ⟨S128x8x4, .f32⟩
  | .hbm, ⟨76, _⟩ => ⟨S128x8x4, .f32⟩
  | .hbm, ⟨77, _⟩ => ⟨S128x1x4, .f32⟩
  | .hbm, ⟨78, _⟩ => ⟨S128x4, .f32⟩
  | .hbm, ⟨79, _⟩ => ⟨S128x4x1x1, .f32⟩
  | .hbm, ⟨80, _⟩ => ⟨S128x4x1x128, .f32⟩
  | .hbm, ⟨81, _⟩ => ⟨S128x3x1024, .f32⟩
  | .hbm, ⟨82, _⟩ => ⟨S128x3x1024, .f32⟩
  | _, _ => ⟨S9216x7192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_v7 : Ref sig .tc := ⟨.hbm, 35, rfl⟩
abbrev main_call0_call0_v8 : Ref sig .tc := ⟨.hbm, 36, rfl⟩
abbrev main_call0_call0_v9 : Ref sig .tc := ⟨.hbm, 37, rfl⟩
abbrev main_call0_call0_v10 : Ref sig .tc := ⟨.hbm, 38, rfl⟩
abbrev main_call0_call0_v11 : Ref sig .tc := ⟨.hbm, 39, rfl⟩
abbrev main_call0_v1 : Ref sig .tc := ⟨.hbm, 40, rfl⟩
abbrev main_v16 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_call1_v0 : Ref sig .tc := ⟨.hbm, 45, rfl⟩
abbrev main_call1_c : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_0 : Ref sig .tc := ⟨.hbm, 51, rfl⟩
abbrev main_call1_v5 : Ref sig .tc := ⟨.hbm, 52, rfl⟩
abbrev main_v19 : Ref sig .tc := ⟨.hbm, 53, rfl⟩
abbrev main_call2_call0_cst : Ref sig .tc := ⟨.hbm, 54, rfl⟩
abbrev main_call2_call0_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_0 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩

abbrev nD : Nat := 1
abbrev τ : Topo := Topo.v7x

variable {F : FTy → Type} [FloatOps F]
-- ==== Proof.RefFrames.lean ====
module

public import proofs.«01_k».proof.Defs
public import proofs.«01_k».proof.Proof.Gen.ReferenceIdeal.Run
public import proofs.«01_k».proof.Proof.Gen.FfnNormRefIdeal.Run
public import proofs.«01_k».proof.Proof.Gen.FfnRefIdeal.Run
public import proofs.«01_k».proof.Proof.Gen.FfnFinalRefIdeal.Run
public import proofs.«01_k».proof.Proof.Gen.InprojRefIdeal.Run
public import proofs.«01_k».proof.Proof.Gen.OutprojRefIdeal.Run
public import Idealize.ShloMosaic.Lib.Claim

/-! The references run safely: each is a program of host operations only. -/

@[expose] public section

noncomputable section
open Idealize.ShloMosaic Idealize.ShloMosaic.TcCoe Idealize.SL.Sem
namespace Cert.Refs

/-- The retention reference runs to completion and leaves its arguments unchanged. -/
theorem frame_ReferenceIdeal : Cert.quiescent_ReferenceIdeal := fun m g _ =>
  (θ_run _ _ _).mono (fun r h => ⟨fun c => (h c).2.2, sem_eq_zero_of_no_sems (by decide) r.2⟩) (Cert.ReferenceIdeal.Value.run m g)

/-- The feed-forward and norm reference runs to completion and leaves its arguments unchanged. -/
theorem frame_FfnNormRefIdeal : Cert.quiescent_FfnNormRefIdeal := fun m g _ =>
  (θ_run _ _ _).mono (fun r h => ⟨fun c => (h c).2.2, sem_eq_zero_of_no_sems (by decide) r.2⟩) (Cert.FfnNormRefIdeal.Value.run m g)

/-- The feed-forward reference runs to completion and leaves its arguments unchanged. -/
theorem frame_FfnRefIdeal : Cert.quiescent_FfnRefIdeal := fun m g _ =>
  (θ_run _ _ _).mono (fun r h => ⟨fun c => (h c).2, sem_eq_zero_of_no_sems (by decide) r.2⟩) (Cert.FfnRefIdeal.Value.run m g)

/-- The last feed-forward reference runs to completion and leaves its arguments unchanged. -/
theorem frame_FfnFinalRefIdeal : Cert.quiescent_FfnFinalRefIdeal := fun m g _ =>
  (θ_run _ _ _).mono (fun r h => ⟨fun c => (h c).2, sem_eq_zero_of_no_sems (by decide) r.2⟩) (Cert.FfnFinalRefIdeal.Value.run m g)

/-- The input projection's reference runs to completion and leaves its arguments unchanged. -/
theorem frame_InprojRefIdeal : Cert.quiescent_InprojRefIdeal := fun m g _ =>
  (θ_run _ _ _).mono (fun r h => ⟨fun c => (h c).2, sem_eq_zero_of_no_sems (by decide) r.2⟩) (Cert.InprojRefIdeal.Value.run m g)

/-- The output projection's reference runs to completion and leaves its arguments unchanged. -/
theorem frame_OutprojRefIdeal : Cert.quiescent_OutprojRefIdeal := fun m g _ =>
  (θ_run _ _ _).mono (fun r h => ⟨fun c => (h c).2, sem_eq_zero_of_no_sems (by decide) r.2⟩) (Cert.OutprojRefIdeal.Value.run m g)

end Cert.Refs
end
-- ==== Proof.RetSpec.lean ====
module

public import Idealize.ShloMosaic.Lib.Pipeline.ValueKit
public import Idealize.ShloMosaic.Lib.ValueIdx
public import Idealize.ShloMosaic.Lib.Pointwise

/-! What one chunk of eight tokens of a retention head computes, as formulas on extended reals: the rotary
    embedding, the decayed attention inside the chunk, the contribution of the state the chunk starts from, the
    state it leaves, and the normalised and gated output. The kernel and the reference are both read down to these
    formulas. -/

@[expose] public section

noncomputable section
open Idealize.ShloMosaic
namespace Cert.Ret

/-- The logarithm of head `h`'s decay, `log (1 - 2^(-5-h))`. -/
def lgR (h : ℕ) : ℝ := Real.log (1 + -(Real.rpow 2 (-5 - (h : ℝ))))

/-- The f32 constant `-5`. -/
theorem bits_m5 : Ideal.ofBits .f32 3231711232#32 = ((-5 : ℝ) : EReal) := by
  simp [Ideal.ofBits, Ideal.ieee, -EReal.coe_mul]; norm_num

/-- The f32 constant `2`. -/
theorem bits_2 : Ideal.ofBits .f32 1073741824#32 = ((2 : ℝ) : EReal) := by
  simp [Ideal.ofBits, Ideal.ieee, -EReal.coe_mul]; norm_num

/-- The f32 constant `7`. -/
theorem bits_7 : Ideal.ofBits .f32 1088421888#32 = ((7 : ℝ) : EReal) := by
  simp [Ideal.ofBits, Ideal.ieee, -EReal.coe_mul]; norm_num

/-- The f32 constant `8`. -/
theorem bits_8 : Ideal.ofBits .f32 1090519040#32 = ((8 : ℝ) : EReal) := by
  simp [Ideal.ofBits, Ideal.ieee, -EReal.coe_mul]; norm_num

/-- The f32 constant minus infinity. -/
theorem bits_bot : Ideal.ofBits .f32 4286578688#32 = (⊥ : EReal) := by
  simp [Ideal.ofBits, Ideal.ieee, -EReal.coe_mul]

/-- A small natural number as a word converts to the real number it names. -/
theorem sitofp_nat (n : ℕ) (h : n < 2 ^ 31) : (FloatOps.sitofp .f32 (BitVec.ofNat 32 n) : Ideal .f32) = (((n : ℕ) : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- `log1p` of minus the power of two is the logarithm of the decay, a real number. -/
theorem log1p_pow (h : ℕ) : Ideal.log1p ((-(Real.rpow 2 (-5 - (h : ℝ))) : ℝ) : EReal) = ((lgR h : ℝ) : EReal) := by
  have h1 : Real.rpow 2 (-5 - (h : ℝ)) < 1 :=
    Real.rpow_lt_one_of_one_lt_of_neg (by norm_num) (by have : (0 : ℝ) ≤ h := Nat.cast_nonneg h; linarith)
  have e : Ideal.log1p ((-(Real.rpow 2 (-5 - (h : ℝ))) : ℝ) : EReal) = Ideal.log (1 + ((-(Real.rpow 2 (-5 - (h : ℝ))) : ℝ) : EReal)) := rfl
  rw [e, ← EReal.coe_one, ← EReal.coe_add, Ideal.log_coe, if_neg (by linarith)]
  rfl

/-- Position `t`'s angle at frequency `d`. -/
def ang (t d : ℕ) : EReal :=
  (FloatOps.sitofp (F := Ideal) FTy.f32 (BitVec.ofNat 32 t) + Ideal.ofBits FTy.f32 1182793728#32) *
    Ideal.pow (Ideal.ofBits FTy.f32 1176256512#32)
      (Ideal.div (-FloatOps.sitofp (F := Ideal) FTy.f32 (BitVec.ofNat 32 d)) (Ideal.ofBits FTy.f32 1115684864#32))

/-- The rotary embedding of a head's row `x` at position `t`, column `d`. -/
def rot (x : Fin 128 → EReal) (t : ℕ) (d : Fin 128) : EReal :=
  if h : d.val < 64 then x d * Ideal.cos (ang t d.val) - x ⟨64 + d.val, by omega⟩ * Ideal.sin (ang t d.val)
  else x ⟨d.val - 64, by omega⟩ * Ideal.sin (ang t (d.val - 64)) + x d * Ideal.cos (ang t (d.val - 64))

/-- The decay from token `s` to token `t`: nothing flows backwards. -/
def dec (h : ℕ) (t s : Fin 8) : EReal :=
  if s.val ≤ t.val then Ideal.exp (((((t.val - s.val : ℕ) : ℝ) * lgR h : ℝ)) : EReal) else 0

/-- One row of the chunk's attention output. -/
def attn (h : ℕ) (q k : Fin 8 → Fin 128 → EReal) (v : Fin 8 → Fin 256 → EReal) (st : Fin 128 → Fin 256 → EReal)
    (t : Fin 8) (u : Fin 256) : EReal :=
  (∑ s : Fin 8, (∑ d : Fin 128, q t d * k s d) * dec h t s * v s u)
    + ∑ d : Fin 128, q t d * Ideal.exp (((((t.val : ℝ) + 1) * lgR h : ℝ)) : EReal) * st d u

/-- The state after the chunk. -/
def state (h : ℕ) (k : Fin 8 → Fin 128 → EReal) (v : Fin 8 → Fin 256 → EReal) (st : Fin 128 → Fin 256 → EReal)
    (d : Fin 128) (u : Fin 256) : EReal :=
  Ideal.exp ((((8 : ℝ) * lgR h : ℝ)) : EReal) * st d u
    + ∑ s : Fin 8, k s d * Ideal.exp ((((7 - (s.val : ℝ)) * lgR h : ℝ)) : EReal) * v s u

/-- The output row `o` normalised by its root mean square, scaled by `w` and gated by `g`. -/
def gated (o : Fin 256 → EReal) (w g : EReal) (u : Fin 256) : EReal :=
  o u * Ideal.rsqrt (Ideal.div (∑ x, o x * o x) (Ideal.ofBits .f32 1132462080#32) + Ideal.ofBits .f32 897988541#32)
    * w * (g * Ideal.logistic g)

/-- The scale on the keys, `128^(-1/2)` rounded to f32. -/
def kscale : EReal := Ideal.ofBits .f32 1035273459#32

end Cert.Ret
end
-- ==== Proof.RetPay.lean ====
/- The retention call on the sample group: what one grid point leaves in its two output blocks. -/
module

public import proofs.«01_k».proof.Defs
public import proofs.«01_k».proof.Proof.Gen.KernelIdeal.Value
public import proofs.«01_k».proof.Proof.RetSpec
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

open Cert.Ret

/-- The step's head decay is the head's, a real number. -/
theorem pay2_at (i : grid0.Coords) : k0_pay2 (F := Ideal) i (ix2 0 0) = ((lgR (i 1).val : ℝ) : EReal) := by
  have hi : (i 1).val < 4 := (i 1).isLt
  unfold_payloads
  pointwise
  rw [sitofp_nat _ (by omega), bits_m5, ← EReal.coe_sub, show ∀ x : ℝ, FloatOps.exp2 (F := Ideal) (φ := .f32) (x : EReal) = ((Real.rpow 2 x : ℝ) : EReal) from fun _ => rfl,
    zero_sub, ← EReal.coe_neg, log1p_pow]

/-- The cosine tile repeats every eight rows. -/
theorem pay3_at (c : Vec Ideal S8x128 .f32) (r : Fin 256) (d : Fin 128) :
    k0_pay3 (F := Ideal) c (ix2 r d) = c (ix2 ⟨r.val % 8, by omega⟩ d) := by
  unfold k0_pay3
  refine (concatenate_replicate_apply (t := S256x128) (s₁ := S8x128) 0 32 (shapeCast S8x128 c shapeCasts_S8x128_S8x128) _ rfl (ix2 r d)
    (ix2 ⟨r.val % 8, by omega⟩ d) rfl fun b hb => ?_).trans ?_
  · match b, hb with
    | ⟨0, _⟩, hb => exact absurd rfl hb
    | ⟨1, _⟩, _ => rfl
  · pointwise

/-- The sine tile repeats every eight rows. -/
theorem pay4_at (s : Vec Ideal S8x128 .f32) (r : Fin 256) (d : Fin 128) :
    k0_pay4 (F := Ideal) s (ix2 r d) = s (ix2 ⟨r.val % 8, by omega⟩ d) := by
  unfold k0_pay4
  refine (concatenate_replicate_apply (t := S256x128) (s₁ := S8x128) 0 32 (shapeCast S8x128 s shapeCasts_S8x128_S8x128) _ rfl (ix2 r d)
    (ix2 ⟨r.val % 8, by omega⟩ d) rfl fun b hb => ?_).trans ?_
  · match b, hb with
    | ⟨0, _⟩, hb => exact absurd rfl hb
    | ⟨1, _⟩, _ => rfl
  · pointwise

/-- What the cosine tile holds: both halves of a row are the position's cosines. -/
def IsCos (c : Vec Ideal S8x128 .f32) : Prop :=
  ∀ (t : Fin 8) (d : Fin 128), c (ix2 t d) = Ideal.cos (ang t.val (if d.val < 64 then d.val else d.val - 64))

/-- What the sine tile holds: the position's sines, negated in the first half of a row. -/
def IsSin (s : Vec Ideal S8x128 .f32) : Prop :=
  ∀ (t : Fin 8) (d : Fin 128), s (ix2 t d) = if d.val < 64 then -Ideal.sin (ang t.val d.val) else Ideal.sin (ang t.val (d.val - 64))

/-- A row times the cosine tile plus the row rolled by 64 times the sine tile is the rotary embedding. -/
theorem roll_rot (x : Fin 128 → EReal) (t : ℕ) (d : Fin 128) :
    x d * Ideal.cos (ang t (if d.val < 64 then d.val else d.val - 64))
        + x ⟨(d.val + 128 - 64) % 128, by omega⟩ * (if d.val < 64 then -Ideal.sin (ang t d.val) else Ideal.sin (ang t (d.val - 64)))
      = rot x t d := by
  unfold rot
  split
  · next h =>
    rw [mul_neg, sub_eq_add_neg, show (⟨(d.val + 128 - 64) % 128, by omega⟩ : Fin 128) = ⟨64 + d.val, by omega⟩ from Fin.ext (by show (d.val + 128 - 64) % 128 = 64 + d.val; omega)]
  · next h =>
    rw [add_comm, show (⟨(d.val + 128 - 64) % 128, by omega⟩ : Fin 128) = ⟨d.val - 64, by omega⟩ from Fin.ext (by show (d.val + 128 - 64) % 128 = d.val - 64; omega)]

/-- The roped queries of a block. -/
theorem pay5_at (c s : Vec Ideal S8x128 .f32) (hc : IsCos c) (hs : IsSin s) (z) (r : Fin 256) (d : Fin 128) :
    k0_pay5 (F := Ideal) c s z (ix2 r d) = rot (fun d => z (ix3 0 r d)) (r.val % 8) d := by
  unfold k0_pay5
  pointwise
  rw [pay3_at, pay4_at, hc, hs]
  exact roll_rot (fun d => z (ix3 0 r d)) (r.val % 8) d

/-- The roped and scaled keys of a block. -/
theorem pay6_at (c s : Vec Ideal S8x128 .f32) (hc : IsCos c) (hs : IsSin s) (z) (r : Fin 256) (d : Fin 128) :
    k0_pay6 (F := Ideal) c s z (ix2 r d) = rot (fun d => z (ix3 0 r d)) (r.val % 8) d * kscale := by
  unfold k0_pay6
  pointwise
  rw [pay3_at, pay4_at, hc, hs]
  exact congrArg (· * kscale) (roll_rot (fun d => z (ix3 0 r d)) (r.val % 8) d)

/-- The values of a block, its two halves side by side. -/
theorem pay7_at (x y) (r : Fin 256) (u : Fin 256) :
    k0_pay7 (F := Ideal) x y (ix2 r u) = if h : u.val < 128 then x (ix3 0 r ⟨u.val, h⟩) else y (ix3 0 r ⟨u.val - 128, by omega⟩) := by
  unfold k0_pay7
  pointwise

/-- The mask: the column's token is not later than the row's and belongs to the same sequence of eight. -/
theorem mask_eq (r x : Fin 256) :
    IntOp.andi (IntOp.cmpi .sle (BitVec.ofNat 32 x.val) (BitVec.ofNat 32 r.val))
      (IntOp.cmpi .eq (IntOp.shrui ArithUnit.vector (BitVec.ofNat 32 r.val) 3#32) (IntOp.shrui ArithUnit.vector (BitVec.ofNat 32 x.val) 3#32))
      = if x.val ≤ r.val ∧ x.val / 8 = r.val / 8 then 1#1 else 0#1 := by
  have hs : ∀ r : Fin 256, IntOp.shrui ArithUnit.vector (BitVec.ofNat 32 r.val) 3#32 = BitVec.ofNat 32 (r.val / 8) := by decide +kernel
  have hi : ∀ r : ℕ, r < 256 → (BitVec.ofNat 32 r).toInt = r := fun r hr => by
    rw [BitVec.toInt_eq_toNat_of_lt (by rw [BitVec.toNat_ofNat]; omega), BitVec.toNat_ofNat, Nat.mod_eq_of_lt (by omega)]
  rw [hs, hs]
  have h1 : IntOp.cmpi .sle (BitVec.ofNat 32 x.val) (BitVec.ofNat 32 r.val) = BitVec.ofBool (decide (x.val ≤ r.val)) := by
    show BitVec.ofBool ((BitVec.ofNat 32 x.val).sle (BitVec.ofNat 32 r.val)) = _
    unfold BitVec.sle
    rw [hi _ x.isLt, hi _ r.isLt]
    simp
  have h2 : IntOp.cmpi .eq (BitVec.ofNat 32 (r.val / 8)) (BitVec.ofNat 32 (x.val / 8)) = BitVec.ofBool (decide (x.val / 8 = r.val / 8)) := by
    show BitVec.ofBool (BitVec.ofNat 32 (r.val / 8) == BitVec.ofNat 32 (x.val / 8)) = _
    refine congrArg _ ?_
    rw [beq_eq_decide]
    refine decide_eq_decide.mpr ⟨fun e => ?_, fun e => by rw [e]⟩
    have := congrArg BitVec.toNat e
    simp only [BitVec.toNat_ofNat] at this
    omega
  rw [h1, h2]
  by_cases a : x.val ≤ r.val <;> by_cases b : x.val / 8 = r.val / 8 <;> simp only [a, b, decide_true, decide_false, and_self, and_true, and_false, if_true, if_false] <;> rfl

/-- The distance of two tokens, as the kernel computes it. -/
theorem dist_eq (r x : Fin 256) (h : x.val ≤ r.val) :
    IntOp.maxsi (IntOp.subi (BitVec.ofNat 32 r.val) (BitVec.ofNat 32 x.val)) 0#32 = BitVec.ofNat 32 (r.val - x.val) := by
  have hsub : IntOp.subi (BitVec.ofNat 32 r.val) (BitVec.ofNat 32 x.val) = BitVec.ofNat 32 (r.val - x.val) := by
    unfold IntOp.subi
    apply BitVec.eq_of_toNat_eq
    simp
    omega
  rw [hsub]
  have hm : ∀ d : Fin 256, IntOp.maxsi (BitVec.ofNat 32 d.val) 0#32 = BitVec.ofNat 32 d.val := by decide +kernel
  exact hm ⟨r.val - x.val, by omega⟩

/-- The position of a row in its sequence. -/
theorem pos_eq : ∀ r : Fin 256, IntOp.andi (BitVec.ofNat 32 r.val) 7#32 = BitVec.ofNat 32 (r.val % 8) := by decide +kernel

/-- A sum over the block's 256 rows of a term that vanishes outside sequence `n` is the sum over the sequence's
    eight rows. -/
theorem sum_one_seq (n : Fin 32) (f : Fin 256 → EReal) (h : ∀ x : Fin 256, x.val / 8 ≠ n.val → f x = 0) :
    ∑ x, f x = ∑ s : Fin 8, f ⟨8 * n.val + s.val, by omega⟩ := by
  refine (Finset.sum_of_injOn (fun s : Fin 8 => (⟨8 * n.val + s.val, by omega⟩ : Fin 256)) (fun a _ b _ e => ?_)
    (fun _ _ => by simp) (fun x _ hx => h x fun e => hx ?_) (fun _ _ => rfl)).symm
  · have := congrArg Fin.val e
    simp only at this
    exact Fin.ext (by omega)
  · exact ⟨⟨x.val % 8, by omega⟩, by simp, Fin.ext (by show 8 * n.val + x.val % 8 = x.val; omega)⟩

/-- The masked attention of a block, at row `t` of its sequence `n`: the decayed attention inside the sequence. -/
theorem pay8_at (lg : FVec Ideal S1x1 .f32) (h : ℕ) (hl : lg (ix2 0 0) = ((lgR h : ℝ) : EReal)) (q k v) (n : Fin 32) (t : Fin 8) (u : Fin 256) :
    k0_pay8 (F := Ideal) lg q k v (iota Kind.tc S256x256 32 [0] iota_S256x256_d0_w32)
      (iota Kind.tc S256x256 32 [1] iota_S256x256_d1_w32) (ix2 ⟨8 * n.val + t.val, by omega⟩ u)
      = ∑ s : Fin 8, (∑ d : Fin 128, q (ix2 ⟨8 * n.val + t.val, by omega⟩ d) * k (ix2 ⟨8 * n.val + s.val, by omega⟩ d)) * dec h t s
          * v (ix2 ⟨8 * n.val + s.val, by omega⟩ u) := by
  unfold k0_pay8
  pointwise
  have hm := mask_eq ⟨8 * n.val + t.val, by omega⟩
  have hd := dist_eq ⟨8 * n.val + t.val, by omega⟩
  dsimp only at hm hd
  refine (sum_one_seq n _ fun x hx => ?_).trans (Finset.sum_congr rfl fun s _ => ?_)
  · rw [hm x, if_neg (by omega)]
    rfl
  · have hm' := hm ⟨8 * n.val + s.val, by omega⟩
    have hd' := hd ⟨8 * n.val + s.val, by omega⟩
    dsimp only at hm' hd'
    rw [hm', hl]
    unfold dec
    by_cases hst : s.val ≤ t.val
    · rw [if_pos (by omega), if_pos hst, hd' (by omega), sitofp_nat _ (by omega), ← EReal.coe_mul,
        show 8 * n.val + t.val - (8 * n.val + s.val) = t.val - s.val by omega]
      rfl
    · rw [if_neg (by omega), if_neg hst, mul_zero, zero_mul]
      rfl

/-- The decayed queries that read the state. -/
theorem pay10_at (lg : FVec Ideal S1x1 .f32) (h : ℕ) (hl : lg (ix2 0 0) = ((lgR h : ℝ) : EReal)) (q) (r : Fin 256) (d : Fin 128) :
    k0_pay10 (F := Ideal) lg q (ix2 r d) = q (ix2 r d) * Ideal.exp ((((((r.val % 8 : ℕ) : ℝ) + 1) * lgR h : ℝ)) : EReal) := by
  unfold k0_pay10 k0_pay9
  pointwise
  rw [pos_eq, hl, sitofp_nat _ (by omega), ← EReal.coe_one, ← EReal.coe_add, ← EReal.coe_mul]

/-- The decayed keys that write the state. -/
theorem pay11_at (lg : FVec Ideal S1x1 .f32) (h : ℕ) (hl : lg (ix2 0 0) = ((lgR h : ℝ) : EReal)) (k) (r : Fin 256) (d : Fin 128) :
    k0_pay11 (F := Ideal) lg k (ix2 r d) = k (ix2 r d) * Ideal.exp ((((7 - ((r.val % 8 : ℕ) : ℝ)) * lgR h : ℝ)) : EReal) := by
  unfold k0_pay11 k0_pay9
  pointwise
  rw [pos_eq, hl, sitofp_nat _ (by omega), bits_7, ← EReal.coe_sub, ← EReal.coe_mul]

/-- The decay of the state over eight tokens. -/
theorem pay12_at (lg : FVec Ideal S1x1 .f32) (h : ℕ) (hl : lg (ix2 0 0) = ((lgR h : ℝ) : EReal)) :
    k0_pay12 (F := Ideal) lg (ix2 0 0) = Ideal.exp ((((8 : ℝ) * lgR h : ℝ)) : EReal) := by
  unfold k0_pay12
  pointwise
  rw [hl, bits_8, ← EReal.coe_mul]

end Cert.KernelIdeal.Ret
end
-- ==== Proof.RetBlk.lean ====
/- The retention call on the sample group: what one grid point leaves in its two output blocks. -/
module

public import proofs.«01_k».proof.Defs
public import proofs.«01_k».proof.Proof.Gen.KernelIdeal.Value
public import proofs.«01_k».proof.Proof.RetPay
public import Idealize.ShloMosaic.Lib.Claim
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

open Cert.Ret

/-- The group of 32 sequences a grid point treats. -/
def sg (t : Fin cfg0.N) : Fin 4 := ⟨(grid0.coords t 0).val, (grid0.coords t 0).isLt⟩

/-- The head a grid point treats. -/
def hd (t : Fin cfg0.N) : Fin 4 := ⟨(grid0.coords t 1).val, (grid0.coords t 1).isLt⟩

/-- Where each window's block lies, at every grid point. -/
theorem idx (t : Fin cfg0.N) : win0_0.index t = ![(hd t).val, 32 + (sg t).val, 0]
    ∧ win0_1.index t = ![4 + (hd t).val, 32 + (sg t).val, 0]
    ∧ win0_2.index t = ![4 + (hd t).val, 32 + (sg t).val, 0]
    ∧ win0_3.index t = ![8 + (hd t).val, 32 + (sg t).val, 0]
    ∧ win0_4.index t = ![0, 0] ∧ win0_5.index t = ![0, 0]
    ∧ win0_6.index t = ![0, (hd t).val]
    ∧ win0_7.index t = ![(sg t).val, (hd t).val, 0, 0]
    ∧ win0_8.index t = ![32 + (sg t).val, (hd t).val]
    ∧ win0_9.index t = ![(sg t).val, (hd t).val, 0, 0] := by
  revert t
  decide +kernel

/-- A point's block of the queries. -/
theorem blk0 (c : Dev nD) (t : Fin cfg0.N) (r : Fin 256) (d : Fin 128) :
    iblk m c 0 t (ix3 0 r d) = V m c main_v1 (ix3 ⟨(hd t).val, by omega⟩ ⟨8192 + ((sg t).val * 256 + r.val), by omega⟩ d) := by
  blk_ext [iblk, V, (idx t).1]

/-- A point's block of the keys. -/
theorem blk1 (c : Dev nD) (t : Fin cfg0.N) (r : Fin 256) (d : Fin 128) :
    iblk m c 1 t (ix3 0 r d) = V m c main_v1 (ix3 ⟨4 + (hd t).val, by omega⟩ ⟨8192 + ((sg t).val * 256 + r.val), by omega⟩ d) := by
  blk_ext [iblk, V, (idx t).2.1]

/-- A point's block of the values. -/
theorem blk2 (c : Dev nD) (t : Fin cfg0.N) (e : Fin 2) (r : Fin 256) (d : Fin 128) :
    iblk m c 2 t (ix3 e r d) = V m c main_v1 (ix3 ⟨8 + ((hd t).val * 2 + e.val), by omega⟩ ⟨8192 + ((sg t).val * 256 + r.val), by omega⟩ d) := by
  blk_ext [iblk, V, (idx t).2.2.1]

/-- A point's block of the gates. -/
theorem blk3 (c : Dev nD) (t : Fin cfg0.N) (e : Fin 2) (r : Fin 256) (d : Fin 128) :
    iblk m c 3 t (ix3 e r d) = V m c main_v1 (ix3 ⟨16 + ((hd t).val * 2 + e.val), by omega⟩ ⟨8192 + ((sg t).val * 256 + r.val), by omega⟩ d) := by
  blk_ext [iblk, V, (idx t).2.2.2.1]

/-- A point's block of the cosine tile. -/
theorem blk4 (c : Dev nD) (t : Fin cfg0.N) (r : Fin 8) (d : Fin 128) :
    iblk m c 4 t (ix2 r d) = V m c main_v18 (ix2 r d) := by
  blk_ext [iblk, V, (idx t).2.2.2.2.1]

/-- A point's block of the sine tile. -/
theorem blk5 (c : Dev nD) (t : Fin cfg0.N) (r : Fin 8) (d : Fin 128) :
    iblk m c 5 t (ix2 r d) = V m c main_v20 (ix2 r d) := by
  blk_ext [iblk, V, (idx t).2.2.2.2.2.1]

/-- A point's block of the head norm weights. -/
theorem blk6 (c : Dev nD) (t : Fin cfg0.N) (u : Fin 256) :
    iblk m c 6 t (ix2 0 u) = V m c main_v23 (ix2 0 ⟨(hd t).val * 256 + u.val, by omega⟩) := by
  blk_ext [iblk, V, (idx t).2.2.2.2.2.2.1]

/-- A point's block of the old state. -/
theorem blk7 (c : Dev nD) (t : Fin cfg0.N) (n : Fin 32) (d : Fin 128) (u : Fin 256) :
    iblk m c 7 t (ix4 n 0 d u) = V m c main_v21 (ix4 ⟨(sg t).val * 32 + n.val, by omega⟩ (hd t) d u) := by
  blk_ext [iblk, V, (idx t).2.2.2.2.2.2.2.1]

/-- The projection, its columns split into 56 groups of 128. -/
theorem V1 (c : Dev nD) (a : Fin 56) (r : Fin 9216) (d : Fin 128) :
    V m c main_v1 (ix3 a r d) = m ((c : Thread nD τ).loc main_arg0) (ix2 r ⟨a.val * 128 + d.val, by omega⟩) := by
  entry_read
  pointwise

/-- The head norm weights. -/
theorem V23 (c : Dev nD) (u : Fin 1024) :
    V m c main_v23 (ix2 0 u) = m ((c : Thread nD τ).loc main_arg3) (ix2 0 u) := by
  entry_read
  pointwise

/-- The state the chunk starts from. -/
theorem V21 (c : Dev nD) (n : Fin 128) (h : Fin 4) (d : Fin 128) (u : Fin 256)  :
    V m c main_v21 (ix4 n h d u) = m ((c : Thread nD τ).loc main_arg2) (ix5 0 n h d u) := by
  entry_read
  pointwise

/-- The cosine tile. -/
theorem V18 (c : Dev nD) : IsCos (V m c main_v18) := by
  intro t d
  entry_read
  pointwise
  unfold ang
  split_ifs <;> rfl

/-- The sine tile. -/
theorem V20 (c : Dev nD) : IsSin (V m c main_v20) := by
  intro t d
  entry_read
  pointwise
  unfold ang
  split_ifs <;> rfl

end Cert.KernelIdeal.Ret
end
-- ==== Proof.RetPoint.lean ====
/- The retention call on the sample group: what one grid point leaves in its two output blocks. -/
module

public import proofs.«01_k».proof.Defs
public import proofs.«01_k».proof.Proof.Gen.KernelIdeal.Value
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

/-- The new state of the block's 32 sequences: the old one, decayed over eight tokens, plus the sum over the
    sequence's eight tokens of key times value. -/
def newState (kw : FVec Ideal S256x128 .bf16) (v : FVec Ideal S256x256 .bf16) (e : FVec Ideal S1x1 .f32)
    (st : FVec Ideal S32x1x128x256 .f32) (n : Fin 32) (d : Fin 128) (u : Fin 256) : EReal :=
  e (ix2 0 0) * st (ix4 n 0 d u) +
    ∑ k : Fin 8, kw (ix2 ⟨8 * n.val + k.val, by omega⟩ d) * v (ix2 ⟨8 * n.val + k.val, by omega⟩ u)

set_option maxHeartbeats 2000000 in
/-- The block of the state result that a grid point writes, at an index. -/
theorem state_block (c : Dev nD) (t : Fin cfg0.N) (y : S32x1x128x256.Idx) :
    (dats m 0 c).after 9 t y
      = newState
          (k0_pay11 (k0_pay2 (F := Ideal) (grid0.coords t)) (k0_pay6 (iblk m c 4 t) (iblk m c 5 t) (iblk m c 1 t)))
          (k0_pay7 (View.ld (iblk m c 2 t) (Rect.unit ![0, 0, 0] ![1, 256, 128] inb_S2x256x128_S1x256x128_0_0_0))
            (View.ld (iblk m c 2 t) (Rect.unit ![1, 0, 0] ![1, 256, 128] inb_S2x256x128_S1x256x128_1_0_0)))
          (k0_pay12 (F := Ideal) (k0_pay2 (F := Ideal) (grid0.coords t))) (iblk m c 7 t) (y 0) (y 2) (y 3) := by
  rw [after0_9]
  unfold outsAt0
  dsimp only
  frame_out
  generalize k0_pay7 (View.ld (iblk m c 2 t) (Rect.unit ![0, 0, 0] ![1, 256, 128] inb_S2x256x128_S1x256x128_0_0_0))
              (View.ld (iblk m c 2 t) (Rect.unit ![1, 0, 0] ![1, 256, 128] inb_S2x256x128_S1x256x128_1_0_0)) = v
  generalize (k0_pay11 (k0_pay2 (F := Ideal) (grid0.coords t)) (k0_pay6 (iblk m c 4 t) (iblk m c 5 t) (iblk m c 1 t))) = kw
  generalize k0_pay12 (F := Ideal) (k0_pay2 (F := Ideal) (grid0.coords t)) = e
  generalize iblk m c 7 t = st
  idx_vars y
  canon_tiles x h
  all_goals
    idx_vars x
    unfold_payloads
    pointwise [newState] at h0 h1 h2 h3 ⊢
    obtain rfl := Fin.ext h2
    obtain rfl := Fin.ext h3
    refine congrArg₂ (· + ·) (congrArg _ (by blk_ext)) (Finset.sum_congr rfl fun k _ => ?_)
    refine congrArg₂ (· * ·) ?_ ?_ <;> blk_ext

end Cert.KernelIdeal.Ret
end
-- ==== Proof.RetPointY.lean ====
/- The retention call on the sample group: what one grid point leaves in its block of the first result. -/
module

public import proofs.«01_k».proof.Defs
public import proofs.«01_k».proof.Proof.Gen.KernelIdeal.Value
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

/-- The retention output before the head norm, row `r`, column `u`. -/
def attOut (o : FVec Ideal S256x256 .f32) (qt : FVec Ideal S256x128 .bf16)
    (st : FVec Ideal S32x1x128x256 .f32) (r u : Fin 256) : EReal :=
  o (ix2 r u) + ∑ d : Fin 128, qt (ix2 r d) * st (ix4 ⟨r.val / 8, by omega⟩ 0 d u)

/-- Thirty-two blocks of eight rows stacked, each known at its rows: the stack at its rows. -/
theorem concat_rows (xs : List ((s : Shape) × (s.Idx → EReal))) (h : Shape.Concatenates (xs.map (·.1)) S256x256 0)
    (hs : xs.map (·.1) = List.replicate 32 S8x256) (G : Fin 256 → Fin 256 → EReal)
    (hx : ∀ (n : Nat) (hn : n < 32), ∃ x : S8x256.Idx → EReal, xs[n]? = some ⟨S8x256, x⟩ ∧
      ∀ (i : Fin 8) (u : Fin 256), x (ix2 i u) = G ⟨8 * n + i.val, by omega⟩ u) :
    concatenate S256x256 0 xs h = fun y => G (y 0) (y 1) := by
  funext y
  idx_vars y
  obtain ⟨x, hx1, hx2⟩ := hx (y0.val / 8) (by omega)
  have hlen : xs.length = 32 := by simpa using congrArg List.length hs
  have hk : y0.val / 8 < xs.length := by omega
  rw [List.getElem?_eq_getElem hk, Option.some_inj] at hx1
  refine (concatenate_apply_piece 0 xs h (ix2 y0 y1) (y0.val / 8) hk S8x256 x hx1 rfl (8 * (y0.val / 8)) ?_
    (ix2 ⟨y0.val % 8, by omega⟩ y1) ?_ ?_).trans ?_
  · rw [List.map_take, hs, List.take_replicate, List.map_replicate, List.sum_replicate, Nat.min_eq_left (by omega)]
    simp
    omega
  · intro b hb
    match b, hb with
    | ⟨0, _⟩, hb => exact absurd rfl hb
    | ⟨1, _⟩, _ => rfl
  · show 8 * (y0.val / 8) + y0.val % 8 = y0.val
    omega
  · rw [hx2]
    congr 1
    exact Fin.ext (by show 8 * (y0.val / 8) + y0.val % 8 = y0.val; omega)

/-- The head norm of one row `a`, scaled by `gn` and gated by the silu of `g`. -/
def headOut (a : Fin 256 → EReal) (gn g : EReal) (u : Fin 256) : EReal :=
  a u * Ideal.rsqrt (Ideal.div (∑ x, a x * a x) (Ideal.ofBits .f32 1132462080#32) + Ideal.ofBits .f32 897988541#32)
    * gn * (g * Ideal.logistic g)

set_option maxHeartbeats 4000000 in
/-- The block of the output that a grid point writes, at an index. -/
theorem y_block (c : Dev nD) (t : Fin cfg0.N) (y0 y1 : Fin 256) :
    (dats m 0 c).after 8 t (ix2 y0 y1)
      = headOut (attOut
          (k0_pay8 (F := Ideal) (k0_pay2 (grid0.coords t)) (k0_pay5 (iblk m c 4 t) (iblk m c 5 t) (iblk m c 0 t))
            (k0_pay6 (iblk m c 4 t) (iblk m c 5 t) (iblk m c 1 t))
            (k0_pay7 (View.ld (iblk m c 2 t) (Rect.unit ![0, 0, 0] ![1, 256, 128] inb_S2x256x128_S1x256x128_0_0_0))
              (View.ld (iblk m c 2 t) (Rect.unit ![1, 0, 0] ![1, 256, 128] inb_S2x256x128_S1x256x128_1_0_0)))
            (iota Kind.tc S256x256 32 [0] iota_S256x256_d0_w32) (iota Kind.tc S256x256 32 [1] iota_S256x256_d1_w32))
          (k0_pay10 (F := Ideal) (k0_pay2 (grid0.coords t)) (k0_pay5 (iblk m c 4 t) (iblk m c 5 t) (iblk m c 0 t)))
          (iblk m c 7 t) y0) (iblk m c 6 t (ix2 0 y1))
          (if h : y1.val < 128 then iblk m c 3 t (ix3 0 y0 ⟨y1.val, h⟩) else iblk m c 3 t (ix3 1 y0 ⟨y1.val - 128, by omega⟩)) y1 := by
  rw [after0_8]
  unfold outsAt0
  dsimp only
  frame_out
  generalize hst : View.read (Elt Ideal) (ms0_7 t).view ((hs0_7 t).unread (iblk m c 7 t)) = st
  generalize hv : (k0_pay7 _ _ : FVec Ideal _ _) = v
  generalize hq : (k0_pay5 _ _ _ : FVec Ideal _ _) = q
  generalize hk : (k0_pay6 _ _ _ : FVec Ideal _ _) = k
  generalize hqt : (k0_pay10 _ q : FVec Ideal _ _) = qt
  generalize ho : (k0_pay8 _ _ _ _ _ _ : FVec Ideal _ _) = o
  simp (disch := decide) only [View.ld_unit_lit', Memref.IsWhole.read_unread] at hst hv hq hk hqt ho
  generalize hC : (concatenate S256x256 0 _ _ : FVec Ideal S256x256 .f32) = C
  have hC' : C = fun y => attOut o qt st (y 0) (y 1) := by
    rw [← hC]
    refine concat_rows _ _ rfl _ fun n hn => ?_
    interval_cases n <;> refine ⟨_, rfl, fun i u => ?_⟩
    all_goals
      unfold_payloads
      pointwise [attOut]
      refine congrArg _ (Finset.sum_congr rfl fun d _ => congrArg _ (by blk_ext))
  clear hC
  subst hC'
  refine Eq.trans (b := headOut (attOut o qt st y0) (iblk m c 6 t (ix2 0 y1))
    (if h : y1.val < 128 then iblk m c 3 t (ix3 0 y0 ⟨y1.val, h⟩) else iblk m c 3 t (ix3 1 y0 ⟨y1.val - 128, by omega⟩)) y1) ?_ ?_
  · clear hst hv hq hk hqt ho
    unfold_payloads
    pointwise [headOut]
  · subst hst hv hq hk hqt ho
    rfl

end Cert.KernelIdeal.Ret
end
-- ==== Proof.RetRef.lean ====
/- The retention call on the sample group: what one grid point leaves in its two output blocks. -/
module

public import proofs.«01_k».proof.Defs
public import proofs.«01_k».proof.Proof.Gen.ReferenceIdeal.Read
public import proofs.«01_k».proof.Proof.RetSpec
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Ret

open Cert.ReferenceIdeal Cert.ReferenceIdeal.Value Cert.ReferenceIdeal.Read Cert.ReferenceIdeal.Gen

open Cert.Ret

/-- The row of the projection that holds token `t` of sequence `n`. -/
abbrev row (n : Fin 128) (t : Fin 8) : Fin 9216 := ⟨8192 + (n.val * 8 + t.val), by omega⟩

/-- Head `h`'s queries, before the rotary embedding. -/
abbrev zq (x0 : (⟨S9216x7168, .f32⟩ : BufTy).Contents (Elt Ideal)) (n : Fin 128) (t : Fin 8) (h : Fin 4) (d : Fin 128) : EReal := x0 (ix2 (row n t) ⟨h.val * 128 + d.val, by omega⟩)

/-- Head `h`'s keys, before the rotary embedding. -/
abbrev zk (x0 : (⟨S9216x7168, .f32⟩ : BufTy).Contents (Elt Ideal)) (n : Fin 128) (t : Fin 8) (h : Fin 4) (d : Fin 128) : EReal := x0 (ix2 (row n t) ⟨512 + (h.val * 128 + d.val), by omega⟩)

/-- Head `h`'s values. -/
abbrev zv (x0 : (⟨S9216x7168, .f32⟩ : BufTy).Contents (Elt Ideal)) (n : Fin 128) (t : Fin 8) (h : Fin 4) (u : Fin 256) : EReal := x0 (ix2 (row n t) ⟨1024 + (h.val * 256 + u.val), by omega⟩)

/-- Head `h`'s gates. -/
abbrev zg (x0 : (⟨S9216x7168, .f32⟩ : BufTy).Contents (Elt Ideal)) (n : Fin 128) (t : Fin 8) (h : Fin 4) (u : Fin 256) : EReal := x0 (ix2 (row n t) ⟨2048 + (h.val * 256 + u.val), by omega⟩)

/-- The reference's queries are the rotary embedding of the projection's. -/
theorem ref_q (x0 : (⟨S9216x7168, .f32⟩ : BufTy).Contents (Elt Ideal)) (n : Fin 128) (t : Fin 8) (h : Fin 4) (d : Fin 128) :
    val_main_v37 (F := Ideal) x0 (ix4 n t h d) = rot (zq x0 n t h) t.val d := by
  pointwise [val_main_v0, val_main_v1, val_main_v2, val_main_v3, val_main_v4, val_main_v5, val_main_v6, val_main_cst, val_main_v7, val_main_v8, val_main_v9, val_main_v10, val_main_v11, val_main_cst_0, val_main_v12, val_main_v13, val_main_cst_1, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37]
  unfold rot ang zq
  split
  · next hd => simp only [dif_pos hd]
  · next hd =>
    have e : 64 + (d.val - 64) = d.val := by omega
    simp only [e, dif_neg hd]

/-- The reference's keys are the rotary embedding of the projection's, scaled. -/
theorem ref_k (x0 : (⟨S9216x7168, .f32⟩ : BufTy).Contents (Elt Ideal)) (n : Fin 128) (t : Fin 8) (h : Fin 4) (d : Fin 128) :
    val_main_v68 (F := Ideal) x0 (ix4 n t h d) = rot (zk x0 n t h) t.val d * kscale := by
  pointwise [val_main_v0, val_main_v1, val_main_v2, val_main_v3, val_main_v4, val_main_v5, val_main_v6, val_main_cst, val_main_v7, val_main_v8, val_main_v9, val_main_v10, val_main_v11, val_main_cst_0, val_main_v12, val_main_v13, val_main_cst_1, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst_2, val_main_v41, val_main_v42, val_main_cst_3, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_cst_4, val_main_v67, val_main_v68]
  refine congrArg (· * kscale) ?_
  unfold rot ang zk
  split
  · next hd => simp only [dif_pos hd]
  · next hd =>
    have e : 64 + (d.val - 64) = d.val := by omega
    simp only [e, dif_neg hd]

/-- The reference's values. -/
theorem ref_v (x0 : (⟨S9216x7168, .f32⟩ : BufTy).Contents (Elt Ideal)) (n : Fin 128) (t : Fin 8) (h : Fin 4) (u : Fin 256) :
    val_main_v69 (F := Ideal) x0 (ix4 n t h u) = zv x0 n t h u := by
  pointwise [val_main_v0, val_main_v1, val_main_v2, val_main_v3, val_main_v4, val_main_v5, val_main_v6, val_main_cst, val_main_v7, val_main_v8, val_main_v9, val_main_v10, val_main_v11, val_main_cst_0, val_main_v12, val_main_v13, val_main_cst_1, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst_2, val_main_v41, val_main_v42, val_main_cst_3, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_cst_4, val_main_v67, val_main_v68, val_main_v69]

/-- The reference's log decay is head `h`'s, at every token. -/
theorem ref_lg (n : Fin 128) (t : Fin 8) (h : Fin 4) : val_main_v77 (F := Ideal) (ix3 n t h) = ((lgR h.val : ℝ) : EReal) := by
  pointwise [val_main_v0, val_main_v1, val_main_v2, val_main_v3, val_main_v4, val_main_v5, val_main_v6, val_main_cst, val_main_v7, val_main_v8, val_main_v9, val_main_v10, val_main_v11, val_main_cst_0, val_main_v12, val_main_v13, val_main_cst_1, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_cst_2, val_main_v41, val_main_v42, val_main_cst_3, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_cst_4, val_main_v67, val_main_v68, val_main_v69, val_main_cst_5, val_main_v70, val_main_v71, val_main_cst_6, val_main_v72, val_main_v73, val_main_v74, val_main_v75, val_main_v76, val_main_v77]
  rw [sitofp_nat _ (by omega), bits_m5, bits_2, ← EReal.coe_sub, Ideal.pow_coe_coe, ← EReal.coe_neg, log1p_pow]

/-- A fold over the numbers below `N` is the fold over the numbers below an equal `M`. -/
theorem foldl_cast {N M : ℕ} (e : N = M) (f : EReal → Fin N → EReal) (a : EReal) :
    (List.finRange N).foldl f a = (List.finRange M).foldl (fun r k => f r (k.cast e.symm)) a := by
  subst e; rfl

/-- The running sum's window has eight positions. -/
theorem win_numel : (⟨3, ![1, 8, 1]⟩ : Shape).numel = 8 := by decide

/-- A sum of eight real terms of which those from `7 - t` on are counted. -/
theorem foldl_count (t : Fin 8) (L : ℝ) :
    (List.finRange 8).foldl (fun r k => r + if 7 ≤ t.val + k.val then (L : EReal) else 0) 0 = ((((t.val : ℝ) + 1) * L : ℝ) : EReal) := by
  have e : ∀ (l : List (Fin 8)) (a : ℝ), l.foldl (fun r k => r + if 7 ≤ t.val + k.val then (L : EReal) else 0) (a : EReal)
      = ((l.foldl (fun r k => r + if 7 ≤ t.val + k.val then L else 0) a : ℝ) : EReal) := by
    intro l
    induction l with
    | nil => intro a; rfl
    | cons k l ih =>
      intro a
      simp only [List.foldl_cons]
      rw [← ih]
      refine congrArg (fun r => List.foldl _ r l) ?_
      split
      · rw [EReal.coe_add]
      · rw [add_zero, add_zero]
  have e0 := e (List.finRange 8) 0
  rw [EReal.coe_zero] at e0
  refine e0.trans (congrArg _ ?_)
  fin_cases t <;> simp [List.finRange_succ] <;> ring

/-- The reference's running sum of the log decays: token `t`'s is `t + 1` of them. -/
theorem ref_cum (n : Fin 128) (t : Fin 8) (h : Fin 4) : val_main_v81 (F := Ideal) (ix3 n t h) = ((((t.val : ℝ) + 1) * lgR h.val : ℝ) : EReal) := by
  have h1 : val_main_v81 (F := Ideal) (ix3 n t h)
      = (List.finRange 8).foldl (fun r k => r + if 7 ≤ t.val + k.val then ((lgR h.val : ℝ) : EReal) else 0) 0 := by
    have z : val_main_call1_call0_v0 (F := Ideal) (Shape.Idx.first h_S_) = 0 := by
      rw [show Shape.Idx.first h_S_ = ix0 from Subsingleton.elim _ _]
      pointwise [val_main_call1_call0_v0, val_main_call1_call0_cst]
    unfold val_main_v81
    change Host.reduceWindow (s := S128x8x4) (t := S128x8x4) (fun a b : EReal => a + b) ![1, 8, 1] ![1, 1, 1] ![0, 7, 0] ![0, 0, 0]
      (val_main_v77 (F := Ideal)) (val_main_call1_call0_v0 (F := Ideal)) reduceWindows_S128x8x4_S128x8x4_w1s1p0_0_w8s1p7_0_w1s1p0_0 h_S_ (ix3 n t h) = _
    unfold Host.reduceWindow
    dsimp only
    rw [z]
    refine (foldl_cast win_numel _ _).trans (List.foldl_ext _ _ _ fun r k' _ => congrArg (r + ·) ?_)
    obtain ⟨k, rfl⟩ : ∃ k : Fin (⟨3, ![1, 8, 1]⟩ : Shape).numel, k.cast win_numel = k' := ⟨k'.cast win_numel.symm, rfl⟩
    have k8 : k.val < 8 := (k.cast win_numel).isLt
    rw [show (k.cast win_numel).val = k.val from rfl, show (k.cast win_numel).cast win_numel.symm = k from rfl]
    have hw : ∀ k : Fin (⟨3, ![1, 8, 1]⟩ : Shape).numel, ((⟨3, ![1, 8, 1]⟩ : Shape).rowMajor.symm k 0).val = 0 ∧ ((⟨3, ![1, 8, 1]⟩ : Shape).rowMajor.symm k 1).val = k.val
        ∧ ((⟨3, ![1, 8, 1]⟩ : Shape).rowMajor.symm k 2).val = 0 := by decide +kernel
    obtain ⟨w0, w1, w2⟩ := hw k
    split
    · next hin =>
      have h7 := (hin 1).1
      change 7 ≤ t.val * 1 + ((⟨3, ![1, 8, 1]⟩ : Shape).rowMajor.symm k 1).val at h7
      rw [w1] at h7
      rw [if_pos (by omega)]
      refine (congrArg _ ?_).trans (ref_lg n ⟨t.val + k.val - 7, by omega⟩ h)
      funext a
      apply Fin.ext
      match a with
      | ⟨0, _⟩ =>
        show n.val * 1 + ((⟨3, ![1, 8, 1]⟩ : Shape).rowMajor.symm k 0).val - 0 = n.val
        omega
      | ⟨1, _⟩ =>
        show t.val * 1 + ((⟨3, ![1, 8, 1]⟩ : Shape).rowMajor.symm k 1).val - 7 = t.val + k.val - 7
        omega
      | ⟨2, _⟩ =>
        show h.val * 1 + ((⟨3, ![1, 8, 1]⟩ : Shape).rowMajor.symm k 2).val - 0 = h.val
        omega
    · next hin =>
      rw [if_neg]
      intro h7
      refine hin fun a => ?_
      match a with
      | ⟨0, _⟩ =>
        show 0 ≤ n.val * 1 + ((⟨3, ![1, 8, 1]⟩ : Shape).rowMajor.symm k 0).val ∧ n.val * 1 + ((⟨3, ![1, 8, 1]⟩ : Shape).rowMajor.symm k 0).val - 0 < 128
        omega
      | ⟨1, _⟩ =>
        show 7 ≤ t.val * 1 + ((⟨3, ![1, 8, 1]⟩ : Shape).rowMajor.symm k 1).val ∧ t.val * 1 + ((⟨3, ![1, 8, 1]⟩ : Shape).rowMajor.symm k 1).val - 7 < 8
        omega
      | ⟨2, _⟩ =>
        show 0 ≤ h.val * 1 + ((⟨3, ![1, 8, 1]⟩ : Shape).rowMajor.symm k 2).val ∧ h.val * 1 + ((⟨3, ![1, 8, 1]⟩ : Shape).rowMajor.symm k 2).val - 0 < 4
        omega
  rw [h1, foldl_count]

/-- The reference's attention output. -/
theorem ref_o (x0 : (⟨S9216x7168, .f32⟩ : BufTy).Contents (Elt Ideal)) (x2 : (⟨S1x128x4x128x256, .f32⟩ : BufTy).Contents (Elt Ideal)) (n : Fin 128) (t : Fin 8) (h : Fin 4) (u : Fin 256) :
    val_main_v101 (F := Ideal) x0 x2 (ix4 n t h u)
      = attn h.val (fun t d => rot (zq x0 n t h) t.val d) (fun t d => rot (zk x0 n t h) t.val d * kscale) (fun t u => zv x0 n t h u)
          (fun d u => x2 (ix5 0 n h d u)) t u := by
  pointwise [val_main_v78, val_main_c, val_main_v79, val_main_call0_v0, val_main_call0_c, val_main_call0_v1, val_main_call0_v2, val_main_call0_v3, val_main_call0_v4, val_main_call0_c_0, val_main_call0_v5, val_main_v80, val_main_call1_call0_cst, val_main_call1_call0_v0, val_main_v82, val_main_v83, val_main_v84, val_main_v85, val_main_v86, val_main_v87, val_main_v88, val_main_v89, val_main_v90, val_main_v91, val_main_v92, val_main_v93, val_main_cst_7, val_main_call2_v0, val_main_call2_v1, val_main_call2_v2, val_main_v94, val_main_v95, val_main_v96, val_main_v97, val_main_v98, val_main_v99, val_main_v100, val_main_v101]
  unfold attn
  rw [add_comm]
  refine congrArg₂ (· + ·) (Finset.sum_congr rfl fun s _ => ?_) (Finset.sum_congr rfl fun d _ => ?_)
  · rw [ref_v, ref_cum, ref_cum, mul_comm]
    refine congrArg (· * _) (congrArg₂ (· * ·) (Finset.sum_congr rfl fun d _ => ?_) ?_)
    · rw [ref_k, ref_q, mul_comm]
    · have hm : ∀ t s : Fin 8, Scalar.select (IntOp.cmpi CmpIPredicate.sge (IntOp.addi (BitVec.ofNat 32 t.val) 0#32) (BitVec.ofNat 32 s.val)) (1#1) (0#1) = if s.val ≤ t.val then 1#1 else 0#1 := by
        decide +kernel
      rw [hm]
      unfold dec
      split
      · next hst =>
        rw [← EReal.coe_sub]
        refine congrArg Ideal.exp ?_
        show (((t.val : ℝ) + 1) * lgR h.val - ((s.val : ℝ) + 1) * lgR h.val : ℝ) = (_ : EReal)
        refine congrArg _ ?_
        rw [Nat.cast_sub hst]
        ring
      · refine (congrArg Ideal.exp (show _ = (⊥ : EReal) from bits_bot)).trans rfl
  · rw [ref_q, ref_cum, mul_comm]

/-- The state the reference leaves. -/
theorem ref_state (x0 : (⟨S9216x7168, .f32⟩ : BufTy).Contents (Elt Ideal)) (x2 : (⟨S1x128x4x128x256, .f32⟩ : BufTy).Contents (Elt Ideal)) (n : Fin 128) (h : Fin 4) (d : Fin 128) (u : Fin 256) :
    val_main_v116 (F := Ideal) x0 x2 (ix4 n h d u)
      = state h.val (fun t d => rot (zk x0 n t h) t.val d * kscale) (fun t u => zv x0 n t h u) (fun d u => x2 (ix5 0 n h d u)) d u := by
  pointwise [val_main_v78, val_main_v102, val_main_v103, val_main_v104, val_main_v105, val_main_v106, val_main_v107, val_main_v108, val_main_v109, val_main_v110, val_main_v111, val_main_v112, val_main_v113, val_main_v114, val_main_v115, val_main_v116]
  unfold state
  have h7 : ((((7 : Fin 8).val : ℝ) + 1) * lgR h.val : ℝ) = 8 * lgR h.val := by norm_num
  rw [ref_cum, h7]
  refine congrArg _ (Finset.sum_congr rfl fun s _ => ?_)
  rw [ref_k, ref_cum, ref_v, ← EReal.coe_sub]
  refine congrArg (fun e => _ * Ideal.exp (Real.toEReal e) * _) ?_
  ring

end Cert.ReferenceIdeal.Ret
end
-- ==== Proof.RetRefY.lean ====
/- The retention call on the sample group: what one grid point leaves in its two output blocks. -/
module

public import proofs.«01_k».proof.Defs
public import proofs.«01_k».proof.Proof.Gen.ReferenceIdeal.Read
public import proofs.«01_k».proof.Proof.RetRef
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Ret

open Cert.ReferenceIdeal Cert.ReferenceIdeal.Value Cert.ReferenceIdeal.Read Cert.ReferenceIdeal.Gen

open Cert.Ret

/-- The reference's gated output, one row of a head. -/
theorem ref_gated (x0 : (⟨S9216x7168, .f32⟩ : BufTy).Contents (Elt Ideal)) (x2 : (⟨S1x128x4x128x256, .f32⟩ : BufTy).Contents (Elt Ideal)) (x3 : (⟨S1x1024, .f32⟩ : BufTy).Contents (Elt Ideal)) (n : Fin 128) (t : Fin 8) (h : Fin 4) (u : Fin 256) :
    val_main_v133 (F := Ideal) x0 x2 x3 (ix3 n t ⟨h.val * 256 + u.val, by omega⟩)
      = gated (fun u => val_main_v101 (F := Ideal) x0 x2 (ix4 n t h u)) (x3 (ix2 0 ⟨h.val * 256 + u.val, by omega⟩)) (zg x0 n t h u) u := by
  have e1 : (⟨(h.val * 256 + u.val) / 256, by omega⟩ : Fin 4) = h := Fin.ext (by show (h.val * 256 + u.val) / 256 = h.val; omega)
  have e2 : (⟨(h.val * 256 + u.val) % 256, by omega⟩ : Fin 256) = u := Fin.ext (by show (h.val * 256 + u.val) % 256 = u.val; omega)
  pointwise [val_main_v0, val_main_v1, val_main_v2, val_main_v3, val_main_v4, val_main_v5, val_main_v117, val_main_v118, val_main_cst_8, val_main_v119, val_main_v120, val_main_cst_9, val_main_v121, val_main_v122, val_main_cst_10, val_main_v123, val_main_v124, val_main_v125, val_main_v126, val_main_v127, val_main_v128, val_main_v129, val_main_v130, val_main_v131, val_main_call3_v0, val_main_call3_v1, val_main_call3_cst, val_main_call3_v2, val_main_call3_v3, val_main_call3_cst_0, val_main_call3_v4, val_main_call3_v5, val_main_v132, val_main_v133]
  rfl

/-- Rows and columns the call does not write keep what the array held. -/
theorem ref_keep (x0 : (⟨S9216x7168, .f32⟩ : BufTy).Contents (Elt Ideal)) (x1 : (⟨S9216x2048, .bf16⟩ : BufTy).Contents (Elt Ideal)) (x2 : (⟨S1x128x4x128x256, .f32⟩ : BufTy).Contents (Elt Ideal)) (x3 : (⟨S1x1024, .f32⟩ : BufTy).Contents (Elt Ideal)) (r : Fin 9216) (c : Fin 2048) (hr : r.val < 8192 ∨ 1024 ≤ c.val) :
    val_main_v139 (F := Ideal) x0 x1 x2 x3 (ix2 r c) = x1 (ix2 r c) := by
  pointwise [val_main_v134, val_main_v135, val_main_v136, val_main_v137, val_main_v138, val_main_v139]
  by_cases h1 : r.val < 8192
  · rw [dif_pos h1]
  · have h2 : ¬ c.val < 1024 := by omega
    rw [dif_neg h1, dif_neg h2]
    exact congrArg x1 (congrArg₂ ix2 (Fin.ext (by show 8192 + (r.val - 8192) = r.val; omega)) (Fin.ext (by show 1024 + (c.val - 1024) = c.val; omega)))

/-- The rows and columns the call writes hold the gated output. -/
theorem ref_new (x0 : (⟨S9216x7168, .f32⟩ : BufTy).Contents (Elt Ideal)) (x1 : (⟨S9216x2048, .bf16⟩ : BufTy).Contents (Elt Ideal)) (x2 : (⟨S1x128x4x128x256, .f32⟩ : BufTy).Contents (Elt Ideal)) (x3 : (⟨S1x1024, .f32⟩ : BufTy).Contents (Elt Ideal)) (r : Fin 9216) (c : Fin 2048) (h1 : ¬ r.val < 8192) (h2 : c.val < 1024) :
    val_main_v139 (F := Ideal) x0 x1 x2 x3 (ix2 r c) = val_main_v133 (F := Ideal) x0 x2 x3 (ix3 ⟨(r.val - 8192) / 8, by omega⟩ ⟨(r.val - 8192) % 8, by omega⟩ ⟨c.val, h2⟩) := by
  pointwise [val_main_v134, val_main_v135, val_main_v136, val_main_v137, val_main_v138, val_main_v139]
  rw [dif_neg h1, dif_pos h2]

end Cert.ReferenceIdeal.Ret
end
-- ==== Proof.RetArr.lean ====
/- The retention call on the sample group: what one grid point leaves in its two output blocks. -/
module

public import proofs.«01_k».proof.Defs
public import proofs.«01_k».proof.Proof.Gen.KernelIdeal.Value
public import proofs.«01_k».proof.Proof.RetBlk
public import proofs.«01_k».proof.Proof.RetPoint
public import proofs.«01_k».proof.Proof.RetPointY
public import proofs.«01_k».proof.Proof.RetRefY
public import Idealize.ShloMosaic.Lib.Claim
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen

variable (m : (ℓ : Loc nD τ sig) → Buf (Elt Ideal) ℓ)

open Cert.Ret
open Cert.ReferenceIdeal.Ret (zq zk zv zg row)

/-- The projection argument. -/
abbrev X0 (c : Dev nD) : (⟨S9216x7168, .f32⟩ : BufTy).Contents (Elt Ideal) := m ((c : Thread nD τ).loc main_arg0)

/-- The state argument. -/
abbrev X2 (c : Dev nD) : (⟨S1x128x4x128x256, .f32⟩ : BufTy).Contents (Elt Ideal) := m ((c : Thread nD τ).loc main_arg2)

/-- The head norm weights. -/
abbrev X3 (c : Dev nD) : (⟨S1x1024, .f32⟩ : BufTy).Contents (Elt Ideal) := m ((c : Thread nD τ).loc main_arg3)

/-- The sequence that is the `n`-th of a grid point's group. -/
abbrev sq (t : Fin cfg0.N) (n : Fin 32) : Fin 128 := ⟨(sg t).val * 32 + n.val, by omega⟩

/-- The tiles a point reads are the cosines and sines. -/
theorem cos_blk (c : Dev nD) (t : Fin cfg0.N) : IsCos (iblk m c 4 t) := fun r d => (blk4 m c t r d).trans (V18 m c r d)
theorem sin_blk (c : Dev nD) (t : Fin cfg0.N) : IsSin (iblk m c 5 t) := fun r d => (blk5 m c t r d).trans (V20 m c r d)

/-- The roped queries of a point, row `s` of sequence `n`. -/
theorem q_at (c : Dev nD) (t : Fin cfg0.N) (n : Fin 32) (s : Fin 8) (d : Fin 128) :
    k0_pay5 (F := Ideal) (iblk m c 4 t) (iblk m c 5 t) (iblk m c 0 t) (ix2 ⟨8 * n.val + s.val, by omega⟩ d)
      = rot (zq (X0 m c) (sq t n) s (hd t)) s.val d := by
  rw [pay5_at _ _ (cos_blk m c t) (sin_blk m c t)]
  have e : (8 * n.val + s.val) % 8 = s.val := by omega
  dsimp only
  rw [e]
  congr 1
  funext d
  rw [blk0, V1]
  exact congrArg (X0 m c) (congrArg₂ ix2 (Fin.ext (by show 8192 + ((sg t).val * 256 + (8 * n.val + s.val)) = 8192 + (((sg t).val * 32 + n.val) * 8 + s.val); omega)) rfl)

/-- The roped and scaled keys of a point, row `s` of sequence `n`. -/
theorem k_at (c : Dev nD) (t : Fin cfg0.N) (n : Fin 32) (s : Fin 8) (d : Fin 128) :
    k0_pay6 (F := Ideal) (iblk m c 4 t) (iblk m c 5 t) (iblk m c 1 t) (ix2 ⟨8 * n.val + s.val, by omega⟩ d)
      = rot (zk (X0 m c) (sq t n) s (hd t)) s.val d * kscale := by
  rw [pay6_at _ _ (cos_blk m c t) (sin_blk m c t)]
  have e : (8 * n.val + s.val) % 8 = s.val := by omega
  dsimp only
  rw [e]
  congr 2
  funext d
  rw [blk1, V1]
  exact congrArg (X0 m c) (congrArg₂ ix2 (Fin.ext (by show 8192 + ((sg t).val * 256 + (8 * n.val + s.val)) = 8192 + (((sg t).val * 32 + n.val) * 8 + s.val); omega))
    (Fin.ext (by show (4 + (hd t).val) * 128 + d.val = 512 + ((hd t).val * 128 + d.val); omega)))

/-- A half of the two-column-block value window, at an index. -/
theorem ld_half0 (B : Vec Ideal S2x256x128 .f32) (r : Fin 256) (d : Fin 128) :
    (View.ld B (Rect.unit ![0, 0, 0] ![1, 256, 128] inb_S2x256x128_S1x256x128_0_0_0) : S1x256x128.Idx → EReal) (ix3 0 r d) = B (ix3 0 r d) := by
  show B _ = B _
  refine congrArg B (funext fun a => Fin.ext ?_)
  match a with
  | ⟨0, _⟩ => rfl
  | ⟨1, _⟩ => simp [Rect.unit]
  | ⟨2, _⟩ => simp [Rect.unit]

/-- The other half. -/
theorem ld_half1 (B : Vec Ideal S2x256x128 .f32) (r : Fin 256) (d : Fin 128) :
    (View.ld B (Rect.unit ![1, 0, 0] ![1, 256, 128] inb_S2x256x128_S1x256x128_1_0_0) : S1x256x128.Idx → EReal) (ix3 0 r d) = B (ix3 1 r d) := by
  show B _ = B _
  refine congrArg B (funext fun a => Fin.ext ?_)
  match a with
  | ⟨0, _⟩ => rfl
  | ⟨1, _⟩ => simp [Rect.unit]
  | ⟨2, _⟩ => simp [Rect.unit]

/-- The values of a point, row `s` of sequence `n`. -/
theorem v_at (c : Dev nD) (t : Fin cfg0.N) (n : Fin 32) (s : Fin 8) (u : Fin 256) :
    k0_pay7 (F := Ideal) (View.ld (iblk m c 2 t) (Rect.unit ![0, 0, 0] ![1, 256, 128] inb_S2x256x128_S1x256x128_0_0_0))
            (View.ld (iblk m c 2 t) (Rect.unit ![1, 0, 0] ![1, 256, 128] inb_S2x256x128_S1x256x128_1_0_0)) (ix2 ⟨8 * n.val + s.val, by omega⟩ u)
      = zv (X0 m c) (sq t n) s (hd t) u := by
  rw [pay7_at]
  split
  · refine (ld_half0 _ _ _).trans ?_
    rw [blk2, V1]
    exact congrArg (X0 m c) (congrArg₂ ix2 (Fin.ext (by show 8192 + ((sg t).val * 256 + (8 * n.val + s.val)) = 8192 + (((sg t).val * 32 + n.val) * 8 + s.val); omega))
      (Fin.ext (by show (8 + ((hd t).val * 2 + 0)) * 128 + u.val = 1024 + ((hd t).val * 256 + u.val); omega)))
  · refine (ld_half1 _ _ _).trans ?_
    rw [blk2, V1]
    exact congrArg (X0 m c) (congrArg₂ ix2 (Fin.ext (by show 8192 + ((sg t).val * 256 + (8 * n.val + s.val)) = 8192 + (((sg t).val * 32 + n.val) * 8 + s.val); omega))
      (Fin.ext (by show (8 + ((hd t).val * 2 + 1)) * 128 + (u.val - 128) = 1024 + ((hd t).val * 256 + u.val); omega)))

/-- The gates of a point, row `s` of sequence `n`. -/
theorem g_at (c : Dev nD) (t : Fin cfg0.N) (n : Fin 32) (s : Fin 8) (u : Fin 256) :
    (if h : u.val < 128 then iblk m c 3 t (ix3 0 ⟨8 * n.val + s.val, by omega⟩ ⟨u.val, h⟩) else iblk m c 3 t (ix3 1 ⟨8 * n.val + s.val, by omega⟩ ⟨u.val - 128, by omega⟩))
      = zg (X0 m c) (sq t n) s (hd t) u := by
  split
  · rw [blk3, V1]
    exact congrArg (X0 m c) (congrArg₂ ix2 (Fin.ext (by show 8192 + ((sg t).val * 256 + (8 * n.val + s.val)) = 8192 + (((sg t).val * 32 + n.val) * 8 + s.val); omega))
      (Fin.ext (by show (16 + ((hd t).val * 2 + 0)) * 128 + u.val = 2048 + ((hd t).val * 256 + u.val); omega)))
  · rw [blk3, V1]
    exact congrArg (X0 m c) (congrArg₂ ix2 (Fin.ext (by show 8192 + ((sg t).val * 256 + (8 * n.val + s.val)) = 8192 + (((sg t).val * 32 + n.val) * 8 + s.val); omega))
      (Fin.ext (by show (16 + ((hd t).val * 2 + 1)) * 128 + (u.val - 128) = 2048 + ((hd t).val * 256 + u.val); omega)))

/-- The old state of a point's sequence `n`. -/
theorem st_at (c : Dev nD) (t : Fin cfg0.N) (n : Fin 32) (d : Fin 128) (u : Fin 256) :
    iblk m c 7 t (ix4 n 0 d u) = X2 m c (ix5 0 (sq t n) (hd t) d u) := by
  rw [blk7, V21]

/-- The state block of a point, as the chunk's formula. -/
theorem newState_at (c : Dev nD) (t : Fin cfg0.N) (n : Fin 32) (d : Fin 128) (u : Fin 256) :
    (dats m 0 c).after 9 t (ix4 n 0 d u)
      = state (hd t).val (fun s d => rot (zk (X0 m c) (sq t n) s (hd t)) s.val d * kscale) (fun s u => zv (X0 m c) (sq t n) s (hd t) u)
          (fun d u => X2 m c (ix5 0 (sq t n) (hd t) d u)) d u := by
  rw [state_block]
  have hl := pay2_at (grid0.coords t)
  show newState _ _ _ _ n d u = _
  unfold newState state
  rw [pay12_at _ _ hl, st_at]
  refine congrArg₂ (· + ·) rfl (Finset.sum_congr rfl fun s _ => ?_)
  rw [pay11_at _ _ hl, k_at, v_at]
  have e : (8 * n.val + s.val) % 8 = s.val := by omega
  dsimp only
  rw [e]
  rfl

/-- The output block of a point, as the chunk's formula. -/
theorem y_at (c : Dev nD) (t : Fin cfg0.N) (n : Fin 32) (s : Fin 8) (u : Fin 256) :
    (dats m 0 c).after 8 t (ix2 ⟨8 * n.val + s.val, by omega⟩ u)
      = gated (fun u => attn (hd t).val (fun s d => rot (zq (X0 m c) (sq t n) s (hd t)) s.val d)
            (fun s d => rot (zk (X0 m c) (sq t n) s (hd t)) s.val d * kscale) (fun s u => zv (X0 m c) (sq t n) s (hd t) u)
            (fun d u => X2 m c (ix5 0 (sq t n) (hd t) d u)) s u)
          (X3 m c (ix2 0 ⟨(hd t).val * 256 + u.val, by omega⟩)) (zg (X0 m c) (sq t n) s (hd t) u) u := by
  rw [y_block, g_at, blk6, V23]
  have hl := pay2_at (grid0.coords t)
  unfold headOut gated
  have ea : ∀ u : Fin 256, attOut
          (k0_pay8 (F := Ideal) (k0_pay2 (grid0.coords t)) (k0_pay5 (iblk m c 4 t) (iblk m c 5 t) (iblk m c 0 t))
            (k0_pay6 (iblk m c 4 t) (iblk m c 5 t) (iblk m c 1 t))
            (k0_pay7 (View.ld (iblk m c 2 t) (Rect.unit ![0, 0, 0] ![1, 256, 128] inb_S2x256x128_S1x256x128_0_0_0))
              (View.ld (iblk m c 2 t) (Rect.unit ![1, 0, 0] ![1, 256, 128] inb_S2x256x128_S1x256x128_1_0_0)))
            (iota Kind.tc S256x256 32 [0] iota_S256x256_d0_w32) (iota Kind.tc S256x256 32 [1] iota_S256x256_d1_w32))
          (k0_pay10 (F := Ideal) (k0_pay2 (grid0.coords t)) (k0_pay5 (iblk m c 4 t) (iblk m c 5 t) (iblk m c 0 t)))
          (iblk m c 7 t) ⟨8 * n.val + s.val, by omega⟩ u
      = attn (hd t).val (fun s d => rot (zq (X0 m c) (sq t n) s (hd t)) s.val d)
            (fun s d => rot (zk (X0 m c) (sq t n) s (hd t)) s.val d * kscale) (fun s u => zv (X0 m c) (sq t n) s (hd t) u)
            (fun d u => X2 m c (ix5 0 (sq t n) (hd t) d u)) s u := by
    intro u
    unfold attOut attn
    rw [pay8_at _ _ hl]
    refine congrArg₂ (· + ·) (Finset.sum_congr rfl fun s' _ => ?_) (Finset.sum_congr rfl fun d _ => ?_)
    · rw [v_at]
      refine congrArg (· * _) (congrArg (· * _) (Finset.sum_congr rfl fun d _ => ?_))
      rw [q_at, k_at]
    · rw [pay10_at _ _ hl, q_at]
      have e : (8 * n.val + s.val) % 8 = s.val := by omega
      have e2 : (8 * n.val + s.val) / 8 = n.val := by omega
      dsimp only
      have e3 : (⟨(8 * n.val + s.val) / 8, by omega⟩ : Fin 32) = n := Fin.ext e2
      rw [e3, st_at, e]
      rfl
  simp only [ea]

/-- The state result after the run. -/
def G9 (x0 : (⟨S9216x7168, .f32⟩ : BufTy).Contents (Elt Ideal)) (x2 : (⟨S1x128x4x128x256, .f32⟩ : BufTy).Contents (Elt Ideal)) : S128x4x128x256.Idx → EReal := fun i =>
  state (i 1).val (fun s d => rot (zk x0 (i 0) s (i 1)) s.val d * kscale) (fun s u => zv x0 (i 0) s (i 1) u)
          (fun d u => x2 (ix5 0 (i 0) (i 1) d u)) (i 2) (i 3)

theorem arr9 (c : Dev nD) : (dats m 0 c).arrAt 9 cfg0.N = G9 (X0 m c) (X2 m c) := by
  refine (dats m 0 c).arrAt_eq_of_covers 9 _ (by decide +kernel) fun t hf y => ?_
  blk_simp
  idx_vars y
  obtain rfl : y1 = 0 := Subsingleton.elim _ _
  have e : ((View.whole main_v24_1).slice (win0_9.rect t)).emb (ix4 y0 0 y2 y3) = ix4 (sq t y0) (hd t) y2 y3 := by
    blk_ext [(idx t).2.2.2.2.2.2.2.2.2]
  rw [newState_at]
  refine Eq.trans ?_ (congrArg (G9 (X0 m c) (X2 m c)) e.symm)
  rfl

/-- The gated output of token `s` of sequence `n`, head `h`, column `u`. -/
def yv (x0 : (⟨S9216x7168, .f32⟩ : BufTy).Contents (Elt Ideal)) (x2 : (⟨S1x128x4x128x256, .f32⟩ : BufTy).Contents (Elt Ideal))
    (x3 : (⟨S1x1024, .f32⟩ : BufTy).Contents (Elt Ideal)) (n : Fin 128) (s : Fin 8) (h : Fin 4) (u : Fin 256) : EReal :=
  gated (fun u => attn h.val (fun s d => rot (zq x0 n s h) s.val d) (fun s d => rot (zk x0 n s h) s.val d * kscale)
            (fun s u => zv x0 n s h u) (fun d u => x2 (ix5 0 n h d u)) s u)
          (x3 (ix2 0 ⟨h.val * 256 + u.val, by omega⟩)) (zg x0 n s h u) u

/-- The output at a written row and column. -/
def G8 (x0 : (⟨S9216x7168, .f32⟩ : BufTy).Contents (Elt Ideal)) (x2 : (⟨S1x128x4x128x256, .f32⟩ : BufTy).Contents (Elt Ideal))
    (x3 : (⟨S1x1024, .f32⟩ : BufTy).Contents (Elt Ideal)) (i : S9216x2048.Idx) : EReal :=
  yv x0 x2 x3 ⟨((i 0).val - 8192) / 8, by have : (i 0).val < 9216 := (i 0).isLt; omega⟩ ⟨((i 0).val - 8192) % 8, by omega⟩
    ⟨(i 1).val / 256 % 4, by omega⟩ ⟨(i 1).val % 256, by omega⟩

/-- `G8` at token `s` of sequence `n`, column `u` of head `h`. -/
theorem G8_at (x0 : (⟨S9216x7168, .f32⟩ : BufTy).Contents (Elt Ideal)) (x2 : (⟨S1x128x4x128x256, .f32⟩ : BufTy).Contents (Elt Ideal))
    (x3 : (⟨S1x1024, .f32⟩ : BufTy).Contents (Elt Ideal)) (r : Fin 9216) (j : Fin 2048) (n : Fin 128) (s : Fin 8) (h : Fin 4) (u : Fin 256)
    (hr : r.val = 8192 + (n.val * 8 + s.val)) (hj : j.val = h.val * 256 + u.val) :
    G8 x0 x2 x3 (ix2 r j) = yv x0 x2 x3 n s h u := by
  have e1 : ∀ (a : Fin 128) (b : Fin 8) (d : Fin 4) (w : Fin 256), a = n → b = s → d = h → w = u → yv x0 x2 x3 a b d w = yv x0 x2 x3 n s h u := by
    rintro _ _ _ _ rfl rfl rfl rfl; rfl
  unfold G8
  refine e1 _ _ _ _ (Fin.ext ?_) (Fin.ext ?_) (Fin.ext ?_) (Fin.ext ?_)
  · show (r.val - 8192) / 8 = n.val; omega
  · show (r.val - 8192) % 8 = s.val; omega
  · show j.val / 256 % 4 = h.val; omega
  · show j.val % 256 = u.val; omega

/-- The output array after the run: the sample rows of the first 1024 columns written, the rest kept. -/
theorem arr8 (c : Dev nD) : (dats m 0 c).arrAt 8 cfg0.N
    = fun i : S9216x2048.Idx => if 32 ≤ (i 0).val / 256 ∧ (i 1).val / 256 < 4 then G8 (X0 m c) (X2 m c) (X3 m c) i
        else m ((c : Thread nD τ).loc main_arg1) i := by
  refine ((dats m 0 c).arrAt_eq_of_coversWhere 8 (G8 (X0 m c) (X2 m c) (X3 m c))
    (P := fun i : S9216x2048.Idx => 32 ≤ (i 0).val / 256 ∧ (i 1).val / 256 < 4) (fun β => 32 ≤ β (0 : Fin 2) ∧ β (1 : Fin 2) < 4) (by decide +kernel)
    (fun t hf y => ?_) (fun j => Iff.rfl)).trans ?_
  · blk_simp
    idx_vars y
    have e : ((View.whole main_v24_0).slice (win0_8.rect t)).emb (ix2 y0 y1)
        = ix2 ⟨8192 + ((sg t).val * 256 + y0.val), by omega⟩ ⟨(hd t).val * 256 + y1.val, by omega⟩ := by
      blk_ext [(idx t).2.2.2.2.2.2.2.2.1]
    obtain ⟨n, s, rfl⟩ : ∃ (n : Fin 32) (s : Fin 8), y0 = ⟨8 * n.val + s.val, by omega⟩ :=
      ⟨⟨y0.val / 8, by omega⟩, ⟨y0.val % 8, by omega⟩, Fin.ext (by show y0.val = 8 * (y0.val / 8) + y0.val % 8; omega)⟩
    rw [y_at]
    refine Eq.trans ?_ (congrArg (G8 (X0 m c) (X2 m c) (X3 m c)) e.symm)
    exact (G8_at _ _ _ _ _ (sq t n) s (hd t) y1 (by show 8192 + ((sg t).val * 256 + (8 * n.val + s.val)) = 8192 + (((sg t).val * 32 + n.val) * 8 + s.val); omega) rfl).symm
  · funext i
    refine if_congr Iff.rfl rfl ?_
    rw [A_eq]
    show V m c main_v24_0 i = _
    entry_read
    rfl

end Cert.KernelIdeal.Ret
end
-- ==== Proof.RetClaim.lean ====
/- The retention call on the sample group: what one grid point leaves in its two output blocks. -/
module

public import proofs.«01_k».proof.Defs
public import proofs.«01_k».proof.Proof.RetArr
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Ret

open Cert.ReferenceIdeal.Read Cert.KernelIdeal.Ret Cert.ReferenceIdeal.Ret
open Cert.KernelIdeal (S9216x7168 S9216x2048 S1x128x4x128x256 S1x1024 S128x4x128x256)

/-- The reference's state result is the array the kernel leaves. -/
theorem ref_arr9 (x0 : (⟨S9216x7168, .f32⟩ : BufTy).Contents (Elt Ideal)) (x2 : (⟨S1x128x4x128x256, .f32⟩ : BufTy).Contents (Elt Ideal)) :
    val_main_v116 (F := Ideal) x0 x2 = G9 x0 x2 := by
  funext i
  idx_vars i
  exact ref_state x0 x2 i0 i1 i2 i3

/-- The reference's gated output at a token, head and column. -/
theorem ref_yv (x0 : (⟨S9216x7168, .f32⟩ : BufTy).Contents (Elt Ideal)) (x2 : (⟨S1x128x4x128x256, .f32⟩ : BufTy).Contents (Elt Ideal))
    (x3 : (⟨S1x1024, .f32⟩ : BufTy).Contents (Elt Ideal)) (n : Fin 128) (t : Fin 8) (h : Fin 4) (u : Fin 256) :
    val_main_v133 (F := Ideal) x0 x2 x3 (ix3 n t ⟨h.val * 256 + u.val, by omega⟩) = yv x0 x2 x3 n t h u := by
  rw [ref_gated]
  unfold yv
  refine congrArg (fun o => gated o _ _ u) (funext fun u => ?_)
  exact ref_o x0 x2 n t h u

/-- The reference's output is the array the kernel leaves. -/
theorem ref_arr8 (x0 : (⟨S9216x7168, .f32⟩ : BufTy).Contents (Elt Ideal)) (x1 : (⟨S9216x2048, .bf16⟩ : BufTy).Contents (Elt Ideal)) (x2 : (⟨S1x128x4x128x256, .f32⟩ : BufTy).Contents (Elt Ideal))
    (x3 : (⟨S1x1024, .f32⟩ : BufTy).Contents (Elt Ideal)) :
    val_main_v139 (F := Ideal) x0 x1 x2 x3
      = fun i : S9216x2048.Idx => if 32 ≤ (i 0).val / 256 ∧ (i 1).val / 256 < 4 then G8 x0 x2 x3 i else x1 i := by
  funext i
  idx_vars i
  show _ = if 32 ≤ i0.val / 256 ∧ i1.val / 256 < 4 then G8 x0 x2 x3 (ix2 i0 i1) else x1 (ix2 i0 i1)
  by_cases hc : 32 ≤ i0.val / 256 ∧ i1.val / 256 < 4
  · rw [if_pos hc, ref_new x0 x1 x2 x3 i0 i1 (by omega) (by omega)]
    have e : (⟨i1.val, by omega⟩ : Fin 1024) = ⟨i1.val / 256 * 256 + i1.val % 256, by omega⟩ := Fin.ext (by show i1.val = i1.val / 256 * 256 + i1.val % 256; omega)
    rw [e]
    refine (ref_yv x0 x2 x3 _ _ ⟨i1.val / 256, by omega⟩ ⟨i1.val % 256, by omega⟩).trans
      (G8_at _ _ _ _ _ _ _ _ _ ?_ ?_).symm
    · show i0.val = 8192 + ((i0.val - 8192) / 8 * 8 + (i0.val - 8192) % 8); omega
    · show i1.val = i1.val / 256 * 256 + i1.val % 256; omega
  · rw [if_neg hc, ref_keep x0 x1 x2 x3 i0 i1 (by omega)]

/-- The kernel and the reference leave equal results. -/
theorem algebraic : Cert.algebraic_KernelIdeal_ReferenceIdeal := by
  intro m g m' g' _ hagree
  refine ⟨fun c => (Cert.KernelIdeal.Gen.dats m 0 c).arrAt 8 Cert.KernelIdeal.cfg0.N,
    fun c => (Cert.KernelIdeal.Gen.dats m 0 c).arrAt 9 Cert.KernelIdeal.cfg0.N, Cert.KernelIdeal.Value.run_blocks m g, ?_⟩
  refine (θ_run _ _ _).mono (fun r h c => ?_) (Cert.ReferenceIdeal.Value.run m' g')
  obtain ⟨h1, h2, h3⟩ := h c
  refine ⟨h1.trans ?_, h2.trans ?_, h3⟩
  · rw [val_main_v139_eq, (hagree c).1, (hagree c).2.1, (hagree c).2.2.1, (hagree c).2.2.2]
    refine (ref_arr8 _ _ _ _).trans ?_
    exact (arr8 m c).symm
  · rw [val_main_v116_eq, (hagree c).1, (hagree c).2.2.1]
    refine (ref_arr9 _ _).trans ?_
    exact (arr9 m c).symm

end Cert.Ret
end
-- ==== Proof.FfnSpec.lean ====
module

public import proofs.«01_k».proof.Defs
public import Idealize.ShloMosaic.Lib.Pipeline.ValueKit
public import Idealize.ShloMosaic.Lib.ValueIdx
public import Idealize.ShloMosaic.PureOps.Ideal.Laws

/-! The feed-forward part on one token: the norm, the gated hidden layer, and the sum over its 5632 columns in blocks. -/

@[expose] public section

noncomputable section

open Idealize.ShloMosaic

namespace Cert.FfnSpec

/-- The root mean square norm of a token's row `x` with gain `g`. -/
def rms (x g : Fin 2048 → EReal) (d : Fin 2048) : EReal :=
  x d * Ideal.rsqrt (Ideal.div (∑ k, x k * x k) (Ideal.ofBits .f32 0x45000000#32) + Ideal.ofBits .f32 0x358637BD#32) * g d

/-- One column of the gated hidden layer: the silu of one projection times the other projection. -/
def hid (xn : Fin 2048 → EReal) (w1 w3 : Fin 2048 → Fin 5632 → EReal) (f : Fin 5632) : EReal :=
  (∑ d, xn d * w1 d f) * Ideal.logistic (∑ d, xn d * w1 d f) * ∑ d, xn d * w3 d f

/-- The column `512 s + k` of the hidden layer. -/
def col (s : ℕ) (k : Fin 512) : Fin 5632 := ⟨(s * 512 + k.val) % 5632, Nat.mod_lt _ (by decide)⟩

/-- What block `s` of 512 hidden columns adds to output column `d`. -/
def part (h : Fin 5632 → EReal) (w2 : Fin 5632 → Fin 2048 → EReal) (s : ℕ) (d : Fin 2048) : EReal :=
  ∑ k : Fin 512, h (col s k) * w2 (col s k) d

/-- The feed-forward part with its residual: `x + (silu(x̂ w1) · (x̂ w3)) w2 / 2`. -/
def ffn (x g : Fin 2048 → EReal) (w1 w3 : Fin 2048 → Fin 5632 → EReal) (w2 : Fin 5632 → Fin 2048 → EReal) (d : Fin 2048) : EReal :=
  x d + Ideal.ofBits .f32 0x3F000000#32 * ∑ f, hid (rms x g) w1 w3 f * w2 f d

/-- Eleven blocks of 512 columns are the 5632 columns. -/
theorem sum_parts (h : Fin 5632 → EReal) (w2 : Fin 5632 → Fin 2048 → EReal) (d : Fin 2048) :
    ∑ s ∈ Finset.range 11, part h w2 s d = ∑ f, h f * w2 f d := by
  let F : ℕ → EReal := fun n => h ⟨n % 5632, Nat.mod_lt _ (by decide)⟩ * w2 ⟨n % 5632, Nat.mod_lt _ (by decide)⟩ d
  have e : ∀ s, part h w2 s d = ∑ k ∈ Finset.range 512, F (s * 512 + k) := fun s =>
    (Finset.sum_range (fun k => F (s * 512 + k))).symm
  rw [Finset.sum_congr rfl fun s _ => e s, Finset.sum_range_range_mul_add 11 512 F, Finset.sum_range]
  refine Finset.sum_congr rfl fun f _ => ?_
  have hf : (⟨f.val % 5632, Nat.mod_lt _ (by decide)⟩ : Fin 5632) = f := Fin.ext (Nat.mod_eq_of_lt f.isLt)
  show h ⟨f.val % 5632, _⟩ * w2 ⟨f.val % 5632, _⟩ d = _
  rw [hf]

end Cert.FfnSpec
end
-- ==== Proof.FfnNormPay.lean ====
module

public import proofs.«01_k».proof.Defs
public import proofs.«01_k».proof.Proof.Gen.FfnNormIdeal.Value
public import proofs.«01_k».proof.Proof.FfnSpec
public import Idealize.ShloMosaic.Lib.Claim
public import Idealize.ShloMosaic.Lib.Pipeline.ValueKit
public import Idealize.ShloMosaic.Lib.ValueIdx
public import Idealize.ShloMosaic.Lib.Pointwise

/-! The first feed-forward part: what each step of a grid point computes, at an index. -/

@[expose] public section

set_option maxRecDepth 16384

noncomputable section

open Idealize.ShloMosaic Idealize.ShloMosaic.TcCoe Idealize.SL.Sem
open Idealize.ShloMosaic.Pipeline (Dat)

namespace Cert.FfnNormVal

open Cert.FfnNormIdeal Cert.FfnNormIdeal.Gen Cert.FfnSpec

/-- The normalised rows of a block. -/
theorem norm_at (x : Vec Ideal S768x2048 .f32) (g : Vec Ideal S1x2048 .f32) (r : Fin 768) (d : Fin 2048) :
    k0_pay4 (F := Ideal) x g (ix2 r d) = rms (fun d => x (ix2 r d)) (fun d => g (ix2 0 d)) d := by
  unfold k0_pay4
  pointwise
  rfl

/-- The accumulator's first contents. -/
theorem zero_at (i : S768x2048.Idx) : k0_pay5 (F := Ideal) i = 0 := by
  unfold k0_pay5
  pointwise

/-- The accumulator is read as it is. -/
theorem reread (a : Vec Ideal S768x2048 .f32) : k0_pay6 (F := Ideal) a = a := by
  unfold k0_pay6
  exact shapeCast_self _ _

/-- A block of 512 hidden columns, computed in two halves of 256. -/
theorem hid_at (xn : Vec Ideal S768x2048 .bf16) (a b a' b' : Vec Ideal S1x1x2048x256 .bf16) (r : Fin 768) (k : Fin 512) :
    k0_pay7 (F := Ideal) xn a b a' b' (ix2 r k)
      = if h : k.val < 256 then
          (∑ d : Fin 2048, xn (ix2 r d) * a (ix4 0 0 d ⟨k.val, h⟩)) * Ideal.logistic (∑ d : Fin 2048, xn (ix2 r d) * a (ix4 0 0 d ⟨k.val, h⟩))
            * ∑ d : Fin 2048, xn (ix2 r d) * b (ix4 0 0 d ⟨k.val, h⟩)
        else
          (∑ d : Fin 2048, xn (ix2 r d) * a' (ix4 0 0 d ⟨k.val - 256, by omega⟩)) * Ideal.logistic (∑ d : Fin 2048, xn (ix2 r d) * a' (ix4 0 0 d ⟨k.val - 256, by omega⟩))
            * ∑ d : Fin 2048, xn (ix2 r d) * b' (ix4 0 0 d ⟨k.val - 256, by omega⟩) := by
  unfold k0_pay7
  pointwise

/-- The accumulator after a block of hidden columns. -/
theorem acc_at (a : FVec Ideal S768x2048 .f32) (h : FVec Ideal S768x512 .bf16) (w : Vec Ideal S1x1x512x2048 .bf16) (r : Fin 768) (d : Fin 2048) :
    k0_pay1 (F := Ideal) a h w (ix2 r d) = a (ix2 r d) + ∑ k : Fin 512, h (ix2 r k) * w (ix4 0 0 k d) := by
  unfold k0_pay1
  pointwise

/-- The residual: the input plus half of the accumulator. -/
theorem res_at (x a : Vec Ideal S768x2048 .f32) (r : Fin 768) (d : Fin 2048) :
    k0_pay2 (F := Ideal) x a (ix2 r d) = x (ix2 r d) + Ideal.ofBits .f32 0x3F000000#32 * a (ix2 r d) := by
  unfold k0_pay2
  pointwise

/-- The normalised result. -/
theorem post_at (x a : Vec Ideal S768x2048 .f32) (g : Vec Ideal S1x2048 .f32) (r : Fin 768) (d : Fin 2048) :
    k0_pay3 (F := Ideal) x a g (ix2 r d)
      = rms (fun d => x (ix2 r d) + Ideal.ofBits .f32 0x3F000000#32 * a (ix2 r d)) (fun d => g (ix2 0 d)) d := by
  unfold k0_pay3
  pointwise
  simp only [res_at]
  rfl

end Cert.FfnNormVal
end
-- ==== Proof.FfnNormBlk.lean ====
module

public import proofs.«01_k».proof.Defs
public import proofs.«01_k».proof.Proof.Gen.FfnNormIdeal.Value
public import proofs.«01_k».proof.Proof.FfnSpec
public import Idealize.ShloMosaic.Lib.Claim
public import Idealize.ShloMosaic.Lib.Pipeline.ValueKit
public import Idealize.ShloMosaic.Lib.ValueIdx
public import Idealize.ShloMosaic.Lib.Pointwise

/-! The first feed-forward part: the blocks a grid point reads. -/

@[expose] public section

set_option maxRecDepth 16384

noncomputable section

open Idealize.ShloMosaic Idealize.ShloMosaic.TcCoe Idealize.SL.Sem
open Idealize.ShloMosaic.Pipeline (Dat)

namespace Cert.FfnNormVal

open Cert.FfnNormIdeal Cert.FfnNormIdeal.Gen Cert.FfnSpec

variable (m : (ℓ : Loc nD τ sig) → Buf (Elt Ideal) ℓ)

/-- The grid has 12 row blocks times 11 blocks of hidden columns. -/
theorem lt_N (t : Fin cfg0.N) : t.val < 132 := lt_of_lt_of_eq t.isLt (show cfg0.N = 132 from N_0)

/-- The token that row `r` of point `t`'s block is. -/
def tok (t : Fin cfg0.N) (r : Fin 768) : Fin 9216 := ⟨t.val / 11 * 768 + r.val, by have := lt_N t; omega⟩

/-- Where each window's block lies, at every grid point. -/
theorem idx (t : Fin cfg0.N) : win0_0.index t = ![t.val / 11, 0] ∧ win0_1.index t = ![0, 0]
    ∧ win0_2.index t = ![0, 0, 0, t.val % 11] ∧ win0_3.index t = ![0, 0, 0, t.val % 11]
    ∧ win0_4.index t = ![0, 0, t.val % 11, 0] ∧ win0_5.index t = ![0, 0] ∧ win0_6.index t = ![t.val / 11, 0] ∧ win0_7.index t = ![t.val / 11, 0] := by
  revert t
  decide +kernel

/-- A point's block of tokens. -/
theorem blk0 (c : Dev nD) (t : Fin cfg0.N) (r : Fin 768) (d : Fin 2048) :
    iblk m c 0 t (ix2 r d) = V m c main_arg0 (ix2 (tok t r) d) := by
  have := lt_N t
  blk_ext [iblk, V, (idx t).1, tok]

/-- A point's block of the gain. -/
theorem blk1 (c : Dev nD) (t : Fin cfg0.N) (d : Fin 2048) : iblk m c 1 t (ix2 0 d) = V m c main_v7 (ix2 0 d) := by
  blk_ext [iblk, V, (idx t).2.1]

/-- A point's block of the first projection. -/
theorem blk2 (c : Dev nD) (t : Fin cfg0.N) (d : Fin 2048) (k : Fin 512) :
    iblk m c 2 t (ix4 0 0 d k) = V m c main_v0 (ix4 0 0 d (col (t.val % 11) k)) := by
  have : (t.val % 11 * 512 + k.val) % 5632 = t.val % 11 * 512 + k.val := by omega
  blk_ext [iblk, V, (idx t).2.2.1, col, this]

/-- A point's block of the second projection. -/
theorem blk3 (c : Dev nD) (t : Fin cfg0.N) (d : Fin 2048) (k : Fin 512) :
    iblk m c 3 t (ix4 0 0 d k) = V m c main_v1 (ix4 0 0 d (col (t.val % 11) k)) := by
  have : (t.val % 11 * 512 + k.val) % 5632 = t.val % 11 * 512 + k.val := by omega
  blk_ext [iblk, V, (idx t).2.2.2.1, col, this]

/-- A point's block of the projection back. -/
theorem blk4 (c : Dev nD) (t : Fin cfg0.N) (k : Fin 512) (d : Fin 2048) :
    iblk m c 4 t (ix4 0 0 k d) = V m c main_v2 (ix4 0 0 (col (t.val % 11) k) d) := by
  have : (t.val % 11 * 512 + k.val) % 5632 = t.val % 11 * 512 + k.val := by omega
  blk_ext [iblk, V, (idx t).2.2.2.2.1, col, this]

/-- A point's block of the second gain. -/
theorem blk5 (c : Dev nD) (t : Fin cfg0.N) (d : Fin 2048) : iblk m c 5 t (ix2 0 d) = V m c main_v8 (ix2 0 d) := by
  blk_ext [iblk, V, (idx t).2.2.2.2.2.1]

/-- The second gain. -/
theorem Vpost (c : Dev nD) (d : Fin 2048) :
    V m c main_v8 (ix2 0 d) = m ((c : Thread nD τ).loc main_arg1) (ix3 0 1 d) := by
  entry_read
  pointwise

/-- The gain. -/
theorem Vgain (c : Dev nD) (d : Fin 2048) : V m c main_v7 (ix2 0 d) = m ((c : Thread nD τ).loc main_arg1) (ix3 0 0 d) := by
  entry_read
  pointwise

/-- The first projection's weights. -/
theorem Vw1 (c : Dev nD) (d : Fin 2048) (f : Fin 5632) :
    V m c main_v0 (ix4 0 0 d f) = m ((c : Thread nD τ).loc main_arg2) (ix4 0 0 d f) := by
  entry_read
  pointwise

/-- The second projection's weights. -/
theorem Vw3 (c : Dev nD) (d : Fin 2048) (f : Fin 5632) :
    V m c main_v1 (ix4 0 0 d f) = m ((c : Thread nD τ).loc main_arg3) (ix4 0 0 d f) := by
  entry_read
  pointwise

/-- The weights of the projection back. -/
theorem Vw2 (c : Dev nD) (f : Fin 5632) (d : Fin 2048) :
    V m c main_v2 (ix4 0 0 f d) = m ((c : Thread nD τ).loc main_arg4) (ix4 0 0 f d) := by
  entry_read
  pointwise

end Cert.FfnNormVal
end
-- ==== Proof.FfnNormSweep.lean ====
module

public import proofs.«01_k».proof.Defs
public import proofs.«01_k».proof.Proof.Gen.FfnNormIdeal.Value
public import proofs.«01_k».proof.Proof.FfnNormPay
public import proofs.«01_k».proof.Proof.FfnNormBlk
public import proofs.«01_k».proof.Proof.FfnSpec
public import Idealize.ShloMosaic.Lib.Claim
public import Idealize.ShloMosaic.Lib.Pipeline.ReadBack
public import Idealize.ShloMosaic.Lib.Pipeline.ValueKit
public import Idealize.ShloMosaic.Lib.ValueIdx
public import Idealize.ShloMosaic.Lib.Pointwise

/-! The first feed-forward part: what the grid points of a block of tokens leave, by induction over the points. -/

@[expose] public section

set_option maxRecDepth 16384

noncomputable section

open Idealize.ShloMosaic Idealize.ShloMosaic.TcCoe Idealize.SL.Sem
open Idealize.ShloMosaic.Pipeline (Dat)

namespace Cert.FfnNormVal

open Cert.FfnNormIdeal Cert.FfnNormIdeal.Gen Cert.FfnSpec

variable (m : (ℓ : Loc nD τ sig) → Buf (Elt Ideal) ℓ)

/-- A token's row. -/
abbrev rowX (c : Dev nD) (R : Fin 9216) : Fin 2048 → EReal := fun d => (m ((c : Thread nD τ).loc main_arg0) : (⟨S9216x2048, .f32⟩ : BufTy).Contents (Elt Ideal)) (ix2 R d)

/-- The gain of the norm before the feed-forward part. -/
abbrev gain (c : Dev nD) : Fin 2048 → EReal := fun d => (m ((c : Thread nD τ).loc main_arg1) : (⟨S2x3x2048, .f32⟩ : BufTy).Contents (Elt Ideal)) (ix3 0 0 d)

/-- The gated projection's weights. -/
abbrev w1 (c : Dev nD) : Fin 2048 → Fin 5632 → EReal := fun d f => (m ((c : Thread nD τ).loc main_arg2) : (⟨S2x2x2048x5632, .f32⟩ : BufTy).Contents (Elt Ideal)) (ix4 0 0 d f)

/-- The other projection's weights. -/
abbrev w3 (c : Dev nD) : Fin 2048 → Fin 5632 → EReal := fun d f => (m ((c : Thread nD τ).loc main_arg3) : (⟨S2x2x2048x5632, .f32⟩ : BufTy).Contents (Elt Ideal)) (ix4 0 0 d f)

/-- The weights of the projection back. -/
abbrev w2 (c : Dev nD) : Fin 5632 → Fin 2048 → EReal := fun f d => (m ((c : Thread nD τ).loc main_arg4) : (⟨S2x2x5632x2048, .f32⟩ : BufTy).Contents (Elt Ideal)) (ix4 0 0 f d)

/-- The hidden layer of a token. -/
abbrev hidRow (c : Dev nD) (R : Fin 9216) : Fin 5632 → EReal := hid (rms (rowX m c R) (gain m c)) (w1 m c) (w3 m c)

/-- What a point computes of the hidden layer from normalised rows `xn`. -/
abbrev hidBlk (c : Dev nD) (t : Fin cfg0.N) (xn : Vec Ideal S768x2048 .bf16) : FVec Ideal S768x512 .bf16 :=
  k0_pay7 xn
        (View.ld (iblk m c 2 t) (Rect.unit ![0, 0, 0, 0] ![1, 1, 2048, 256] inb_S1x1x2048x512_S1x1x2048x256_0_0_0_0))
        (View.ld (iblk m c 3 t) (Rect.unit ![0, 0, 0, 0] ![1, 1, 2048, 256] inb_S1x1x2048x512_S1x1x2048x256_0_0_0_0))
        (View.ld (iblk m c 2 t) (Rect.unit ![0, 0, 0, 256] ![1, 1, 2048, 256] inb_S1x1x2048x512_S1x1x2048x256_0_0_0_256))
        (View.ld (iblk m c 3 t) (Rect.unit ![0, 0, 0, 256] ![1, 1, 2048, 256] inb_S1x1x2048x512_S1x1x2048x256_0_0_0_256))

/-- The hidden block of a point: columns `512 (t % 11) + k` of the hidden layer. -/
theorem hidBlk_at (c : Dev nD) (t : Fin cfg0.N) (xn : Vec Ideal S768x2048 .bf16) (r : Fin 768) (k : Fin 512)
    (h : ∀ d, xn (ix2 r d) = rms (rowX m c (tok t r)) (gain m c) d) :
    hidBlk m c t xn (ix2 r k) = hidRow m c (tok t r) (col (t.val % 11) k) := by
  have e0 : ∀ (B : Vec Ideal S1x1x2048x512 .bf16) (d : Fin 2048) (hk : k.val < 256),
      View.ld B (Rect.unit ![0, 0, 0, 0] ![1, 1, 2048, 256] inb_S1x1x2048x512_S1x1x2048x256_0_0_0_0) (ix4 0 0 d ⟨k.val, hk⟩) = B (ix4 0 0 d k) := fun B d hk => by
    pointwise
  have e1 : ∀ (B : Vec Ideal S1x1x2048x512 .bf16) (d : Fin 2048) (hk : ¬ k.val < 256),
      View.ld B (Rect.unit ![0, 0, 0, 256] ![1, 1, 2048, 256] inb_S1x1x2048x512_S1x1x2048x256_0_0_0_256) (ix4 0 0 d ⟨k.val - 256, by omega⟩) = B (ix4 0 0 d k) := fun B d hk => by
    pointwise
    exact congrArg B (congrArg (ix4 0 0 d) (Fin.ext (by show 256 + (k.val - 256) = k.val; omega)))
  unfold hidBlk
  rw [hid_at]
  split
  · next hk =>
    have s1 := fun d => congrArg₂ (· * ·) (h d) ((e0 (iblk m c 2 t) d hk).trans ((blk2 m c t d k).trans (Vw1 m c d _)))
    have s3 := fun d => congrArg₂ (· * ·) (h d) ((e0 (iblk m c 3 t) d hk).trans ((blk3 m c t d k).trans (Vw3 m c d _)))
    exact congrArg₂ (· * ·) (congrArg₂ (· * ·) (Finset.sum_congr rfl fun d _ => s1 d) (congrArg Ideal.logistic (Finset.sum_congr rfl fun d _ => s1 d)))
      (Finset.sum_congr rfl fun d _ => s3 d)
  · next hk =>
    have s1 := fun d => congrArg₂ (· * ·) (h d) ((e1 (iblk m c 2 t) d hk).trans ((blk2 m c t d k).trans (Vw1 m c d _)))
    have s3 := fun d => congrArg₂ (· * ·) (h d) ((e1 (iblk m c 3 t) d hk).trans ((blk3 m c t d k).trans (Vw3 m c d _)))
    exact congrArg₂ (· * ·) (congrArg₂ (· * ·) (Finset.sum_congr rfl fun d _ => s1 d) (congrArg Ideal.logistic (Finset.sum_congr rfl fun d _ => s1 d)))
      (Finset.sum_congr rfl fun d _ => s3 d)

/-- A point's normalised rows. -/
theorem norm_blk (c : Dev nD) (t : Fin cfg0.N) (r : Fin 768) (d : Fin 2048) :
    k0_pay4 (F := Ideal) (iblk m c 0 t) (iblk m c 1 t) (ix2 r d) = rms (rowX m c (tok t r)) (gain m c) d := by
  rw [norm_at]
  congr 1
  · funext d
    rw [blk0, V_main_arg0]
  · funext d
    rw [blk1, Vgain]

/-- One accumulation: the point's hidden block times its rows of the projection back. -/
theorem acc_blk (c : Dev nD) (t : Fin cfg0.N) (a : FVec Ideal S768x2048 .f32) (xn : Vec Ideal S768x2048 .bf16) (r : Fin 768) (d : Fin 2048)
    (h : ∀ d, xn (ix2 r d) = rms (rowX m c (tok t r)) (gain m c) d) :
    k0_pay1 (F := Ideal) a (hidBlk m c t xn) (iblk m c 4 t) (ix2 r d)
      = a (ix2 r d) + part (hidRow m c (tok t r)) (w2 m c) (t.val % 11) d := by
  rw [acc_at]
  refine congrArg _ (Finset.sum_congr rfl fun k _ => ?_)
  rw [hidBlk_at m c t xn r k h, blk4, Vw2]

/-- The first point of a block of tokens: the accumulator. -/
theorem first_acc (c : Dev nD) (t : Fin cfg0.N) (h0 : t.val % 11 = 0) :
    (outsAt0 m c t.val t.isLt).1 = k0_pay1 (k0_pay6 k0_pay5) (hidBlk m c t (k0_pay4 (iblk m c 0 t) (iblk m c 1 t))) (iblk m c 4 t) := by
  rw [outsAt0_A m c t h0 (by omega)]
  dsimp only
  frame_out
  rfl

/-- The first point of a block of tokens: the normalised rows. -/
theorem first_norm (c : Dev nD) (t : Fin cfg0.N) (h0 : t.val % 11 = 0) :
    (outsAt0 m c t.val t.isLt).2.2 = k0_pay4 (iblk m c 0 t) (iblk m c 1 t) := by
  rw [outsAt0_A m c t h0 (by omega)]
  dsimp only
  frame_out

/-- A later point: the accumulator. -/
theorem next_acc (c : Dev nD) (t : Fin cfg0.N) (h0 : ¬t.val % 11 = 0) (h1 : ¬t.val % 11 = 10) :
    (outsAt0 m c t.val t.isLt).1 = k0_pay1 (k0_pay6 (outsAt0 m c (t.val - 1) (Nat.lt_of_le_of_lt (Nat.sub_le _ _) t.isLt)).1) (hidBlk m c t (outsAt0 m c (t.val - 1) (Nat.lt_of_le_of_lt (Nat.sub_le _ _) t.isLt)).2.2) (iblk m c 4 t) := by
  rw [outsAt0_B m c t h0 h1]
  dsimp only
  frame_out
  simp only [read_unread_whole]
  rfl

/-- A later point leaves the normalised rows. -/
theorem next_norm (c : Dev nD) (t : Fin cfg0.N) (h0 : ¬t.val % 11 = 0) (h1 : ¬t.val % 11 = 10) :
    (outsAt0 m c t.val t.isLt).2.2 = (outsAt0 m c (t.val - 1) (Nat.lt_of_le_of_lt (Nat.sub_le _ _) t.isLt)).2.2 := by
  rw [outsAt0_B m c t h0 h1]
  dsimp only
  unfold sout0_B_0
  rfl

/-- The last point of a block of tokens: the output. -/
theorem last_out0 (c : Dev nD) (t : Fin cfg0.N) (h1 : t.val % 11 = 10) :
    (outsAt0 m c t.val t.isLt).1 = k0_pay2 (iblk m c 0 t)
      (k0_pay1 (k0_pay6 (outsAt0 m c (t.val - 1) (Nat.lt_of_le_of_lt (Nat.sub_le _ _) t.isLt)).1) (hidBlk m c t (outsAt0 m c (t.val - 1) (Nat.lt_of_le_of_lt (Nat.sub_le _ _) t.isLt)).2.2) (iblk m c 4 t)) := by
  rw [outsAt0_C m c t (by omega) h1]
  dsimp only
  frame_out
  simp only [read_unread_whole]
  rfl

/-- The last point of a block of tokens: the normalised output. -/
theorem last_out1 (c : Dev nD) (t : Fin cfg0.N) (h1 : t.val % 11 = 10) :
    (outsAt0 m c t.val t.isLt).2.1 = k0_pay3 (iblk m c 0 t)
      (k0_pay1 (k0_pay6 (outsAt0 m c (t.val - 1) (Nat.lt_of_le_of_lt (Nat.sub_le _ _) t.isLt)).1) (hidBlk m c t (outsAt0 m c (t.val - 1) (Nat.lt_of_le_of_lt (Nat.sub_le _ _) t.isLt)).2.2) (iblk m c 4 t)) (iblk m c 5 t) := by
  rw [outsAt0_C m c t (by omega) h1]
  dsimp only
  frame_out
  simp only [read_unread_whole]
  rfl

/-- After a point before the last of its block: the normalised rows, and the sum of the blocks of columns so far. -/
theorem sweep (c : Dev nD) : ∀ (n : ℕ) (h : n < cfg0.N), n % 11 ≠ 10 → ∀ (r : Fin 768) (d : Fin 2048),
    (outsAt0 m c n h).2.2 (ix2 r d) = rms (rowX m c (tok ⟨n, h⟩ r)) (gain m c) d
    ∧ (outsAt0 m c n h).1 (ix2 r d) = ∑ s ∈ Finset.range (n % 11 + 1), part (hidRow m c (tok ⟨n, h⟩ r)) (w2 m c) s d := by
  intro n
  induction n with
  | zero =>
    intro h _ r d
    refine ⟨(congrFun (first_norm m c ⟨0, h⟩ rfl) _).trans (norm_blk m c ⟨0, h⟩ r d), (congrFun (first_acc m c ⟨0, h⟩ rfl) _).trans ?_⟩
    rw [acc_blk m c ⟨0, h⟩ _ _ r d (norm_blk m c ⟨0, h⟩ r), reread, zero_at, zero_add]
    exact (Finset.sum_range_one (fun s => part (hidRow m c (tok ⟨0, h⟩ r)) (w2 m c) s d)).symm
  | succ n ih =>
    intro h h1 r d
    by_cases h0 : (n + 1) % 11 = 0
    · refine ⟨(congrFun (first_norm m c ⟨n + 1, h⟩ h0) _).trans (norm_blk m c ⟨n + 1, h⟩ r d), (congrFun (first_acc m c ⟨n + 1, h⟩ h0) _).trans ?_⟩
      rw [acc_blk m c ⟨n + 1, h⟩ _ _ r d (norm_blk m c ⟨n + 1, h⟩ r), reread, zero_at, zero_add, h0]
      exact (Finset.sum_range_one (fun s => part (hidRow m c (tok ⟨n + 1, h⟩ r)) (w2 m c) s d)).symm
    · have hn : n < cfg0.N := Nat.lt_of_succ_lt h
      have et : tok ⟨n + 1, h⟩ r = tok ⟨n, hn⟩ r := Fin.ext (by show (n + 1) / 11 * 768 + r.val = n / 11 * 768 + r.val; congr 2; omega)
      have hp := fun d => ih hn (by omega) r d
      refine ⟨(congrFun (next_norm m c ⟨n + 1, h⟩ h0 h1) _).trans (((hp d).1).trans (by rw [et])),
        (congrFun (next_acc m c ⟨n + 1, h⟩ h0 h1) _).trans ?_⟩
      refine (acc_blk m c ⟨n + 1, h⟩ _ _ r d (fun d => ((hp d).1).trans (by rw [et]))).trans ?_
      rw [reread]
      refine (congrArg (· + _) (hp d).2).trans ?_
      have e1 : (n + 1) % 11 = n % 11 + 1 := by omega
      dsimp only
      rw [← et, e1]
      exact (Finset.sum_range_succ (fun s => part (hidRow m c (tok ⟨n + 1, h⟩ r)) (w2 m c) s d) _).symm

/-- The full accumulator at the last point of a block. -/
theorem last_acc (c : Dev nD) (t : Fin cfg0.N) (h1 : t.val % 11 = 10) (r : Fin 768) (d : Fin 2048) :
    k0_pay1 (F := Ideal) (k0_pay6 (outsAt0 m c (t.val - 1) (Nat.lt_of_le_of_lt (Nat.sub_le _ _) t.isLt)).1) (hidBlk m c t (outsAt0 m c (t.val - 1) (Nat.lt_of_le_of_lt (Nat.sub_le _ _) t.isLt)).2.2) (iblk m c 4 t) (ix2 r d)
      = ∑ f, hidRow m c (tok t r) f * w2 m c f d := by
  have hn : t.val - 1 < cfg0.N := Nat.lt_of_le_of_lt (Nat.sub_le _ _) t.isLt
  have et : tok t r = tok ⟨t.val - 1, hn⟩ r := Fin.ext (by show t.val / 11 * 768 + r.val = (t.val - 1) / 11 * 768 + r.val; congr 2; omega)
  have hp := fun d => sweep m c (t.val - 1) hn (by omega) r d
  rw [acc_blk m c t _ _ r d (fun d => ((hp d).1).trans (by rw [et])), reread, ← sum_parts]
  refine (congrArg (· + _) (hp d).2).trans ?_
  rw [← et, show (t.val - 1) % 11 + 1 = 10 by omega, h1]
  exact (Finset.sum_range_succ (fun s => part (hidRow m c (tok t r)) (w2 m c) s d) _).symm

/-- The feed-forward part of a token. -/
abbrev ffnRow (c : Dev nD) (R : Fin 9216) : Fin 2048 → EReal := ffn (rowX m c R) (gain m c) (w1 m c) (w3 m c) (w2 m c)

/-- The gain of the norm after the feed-forward part. -/
abbrev gain2 (c : Dev nD) : Fin 2048 → EReal := fun d => (m ((c : Thread nD τ).loc main_arg1) : (⟨S2x3x2048, .f32⟩ : BufTy).Contents (Elt Ideal)) (ix3 0 1 d)

/-- The last point of a block of tokens leaves the feed-forward part of each token. -/
theorem out0_at (c : Dev nD) (t : Fin cfg0.N) (h1 : t.val % 11 = 10) (r : Fin 768) (d : Fin 2048) :
    (outsAt0 m c t.val t.isLt).1 (ix2 r d) = ffnRow m c (tok t r) d := by
  rw [last_out0 m c t h1]
  rw [res_at, last_acc m c t h1 r d, blk0, V_main_arg0]
  rfl

/-- The last point of a block of tokens leaves the norm of the feed-forward part of each token. -/
theorem out1_at (c : Dev nD) (t : Fin cfg0.N) (h1 : t.val % 11 = 10) (r : Fin 768) (d : Fin 2048) :
    (outsAt0 m c t.val t.isLt).2.1 (ix2 r d) = rms (ffnRow m c (tok t r)) (gain2 m c) d := by
  rw [last_out1 m c t h1]
  rw [post_at]
  congr 1
  · funext d
    rw [last_acc m c t h1 r d, blk0, V_main_arg0]
    rfl
  · funext d
    rw [blk5, Vpost]

end Cert.FfnNormVal
end
-- ==== Proof.FfnNormRef.lean ====
module

public import proofs.«01_k».proof.Defs
public import proofs.«01_k».proof.Proof.Gen.FfnNormRefIdeal.Read
public import proofs.«01_k».proof.Proof.FfnSpec
public import Idealize.ShloMosaic.Lib.Claim
public import Idealize.ShloMosaic.Lib.Pipeline.ValueKit
public import Idealize.ShloMosaic.Lib.ValueIdx
public import Idealize.ShloMosaic.Lib.Pointwise

/-! The first feed-forward part: the reference at a token and column. -/

@[expose] public section

set_option maxRecDepth 16384

noncomputable section

open Idealize.ShloMosaic Idealize.ShloMosaic.TcCoe Idealize.SL.Sem
open Idealize.ShloMosaic.Pipeline (Dat)

namespace Cert.FfnNormRef

open Cert.FfnNormRefIdeal Cert.FfnNormRefIdeal.Read Cert.FfnSpec

/-- The normalised input. -/
theorem norm_at (x0 : (⟨S9216x2048, .f32⟩ : BufTy).Contents (Elt Ideal)) (x1 : (⟨S2x3x2048, .f32⟩ : BufTy).Contents (Elt Ideal)) (R : Fin 9216) (d : Fin 2048) :
    val_main_v14 (F := Ideal) x0 x1 (ix2 R d) = rms (fun d => x0 (ix2 R d)) (fun d => x1 (ix3 0 0 d)) d := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  rfl

/-- The hidden layer. -/
theorem hid_at (x0 : (⟨S9216x2048, .f32⟩ : BufTy).Contents (Elt Ideal)) (x1 : (⟨S2x3x2048, .f32⟩ : BufTy).Contents (Elt Ideal)) (x2 x3 : (⟨S2x2x2048x5632, .f32⟩ : BufTy).Contents (Elt Ideal)) (R : Fin 9216) (f : Fin 5632) :
    val_main_v24 (F := Ideal) x0 x1 x2 x3 (ix2 R f)
      = hid (rms (fun d => x0 (ix2 R d)) (fun d => x1 (ix3 0 0 d))) (fun d f => x2 (ix4 0 0 d f)) (fun d f => x3 (ix4 0 0 d f)) f := by
  pointwise [val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24]
  simp only [norm_at]
  rfl

/-- The feed-forward part with its residual. -/
theorem ffn_at (x0 : (⟨S9216x2048, .f32⟩ : BufTy).Contents (Elt Ideal)) (x1 : (⟨S2x3x2048, .f32⟩ : BufTy).Contents (Elt Ideal)) (x2 x3 : (⟨S2x2x2048x5632, .f32⟩ : BufTy).Contents (Elt Ideal))
    (x4 : (⟨S2x2x5632x2048, .f32⟩ : BufTy).Contents (Elt Ideal)) (R : Fin 9216) (d : Fin 2048) :
    val_main_v28 (F := Ideal) x0 x1 x2 x3 x4 (ix2 R d)
      = ffn (fun d => x0 (ix2 R d)) (fun d => x1 (ix3 0 0 d)) (fun d f => x2 (ix4 0 0 d f)) (fun d f => x3 (ix4 0 0 d f))
          (fun f d => x4 (ix4 0 0 f d)) d := by
  pointwise [val_main_v19, val_main_v20, val_main_v25, val_main_cst_2, val_main_v26, val_main_v27, val_main_v28]
  simp only [hid_at]
  rfl

/-- The norm of the feed-forward part. -/
theorem post_at (x0 : (⟨S9216x2048, .f32⟩ : BufTy).Contents (Elt Ideal)) (x1 : (⟨S2x3x2048, .f32⟩ : BufTy).Contents (Elt Ideal)) (x2 x3 : (⟨S2x2x2048x5632, .f32⟩ : BufTy).Contents (Elt Ideal))
    (x4 : (⟨S2x2x5632x2048, .f32⟩ : BufTy).Contents (Elt Ideal)) (R : Fin 9216) (d : Fin 2048) :
    val_main_v44 (F := Ideal) x0 x1 x2 x3 x4 (ix2 R d)
      = rms (fun d => ffn (fun d => x0 (ix2 R d)) (fun d => x1 (ix3 0 0 d)) (fun d f => x2 (ix4 0 0 d f)) (fun d f => x3 (ix4 0 0 d f))
          (fun f d => x4 (ix4 0 0 f d)) d) (fun d => x1 (ix3 0 1 d)) d := by
  pointwise [val_main_v29, val_main_v30, val_main_v31, val_main_cst_3, val_main_v32, val_main_v33, val_main_cst_4, val_main_v34, val_main_v35, val_main_cst_5, val_main_v36, val_main_v37, val_main_v38, val_main_v39, val_main_v40, val_main_v41, val_main_v42, val_main_v43, val_main_v44]
  simp only [ffn_at]
  rfl

end Cert.FfnNormRef
end
-- ==== Proof.FfnNormClaim.lean ====
module

public import proofs.«01_k».proof.Defs
public import proofs.«01_k».proof.Proof.Gen.FfnNormIdeal.Value
public import proofs.«01_k».proof.Proof.Gen.FfnNormRefIdeal.Read
public import proofs.«01_k».proof.Proof.Gen.FfnNormRefIdeal.Run
public import proofs.«01_k».proof.Proof.FfnNormSweep
public import proofs.«01_k».proof.Proof.FfnNormRef
public import Idealize.ShloMosaic.Lib.Claim
public import Idealize.ShloMosaic.Lib.Pipeline.ValueKit
public import Idealize.ShloMosaic.Lib.ValueIdx
public import Idealize.ShloMosaic.Lib.Pointwise

/-! The first feed-forward part: the arrays after the run, and the claim that kernel and reference leave equal results. -/

@[expose] public section

set_option maxRecDepth 16384

noncomputable section

open Idealize.ShloMosaic Idealize.ShloMosaic.TcCoe Idealize.SL.Sem
open Idealize.ShloMosaic.Pipeline (Dat)

namespace Cert.FfnNormVal

open Cert.FfnNormIdeal Cert.FfnNormIdeal.Gen Cert.FfnSpec

variable (m : (ℓ : Loc nD τ sig) → Buf (Elt Ideal) ℓ)

/-- Output 0 after the run: the feed-forward part of every token. -/
theorem arr0 (c : Dev nD) : (dats m 0 c).arrAt 6 cfg0.N
    = fun i : S9216x2048.Idx => ffnRow m c (i 0) (i 1) := by
  refine (dats m 0 c).arrAt_eq_of_covers 6 _ (by decide +kernel) fun t hf y => ?_
  have h1 : t.val % 11 = 10 := (flush0_6 t).mp hf
  blk_simp
  idx_vars y
  have := lt_N t
  have e : ((View.whole main_v9_0).slice (win0_6.rect t)).emb (ix2 y0 y1) = ix2 (tok t y0) y1 := by
    blk_ext [(idx t).2.2.2.2.2.2.1, tok]
  rw [after0_6]
  refine (out0_at m c t h1 y0 y1).trans ?_
  rw [e]
  rfl

/-- Output 1 after the run: the norm of the feed-forward part of every token. -/
theorem arr1 (c : Dev nD) : (dats m 0 c).arrAt 7 cfg0.N
    = fun i : S9216x2048.Idx => rms (ffnRow m c (i 0)) (gain2 m c) (i 1) := by
  refine (dats m 0 c).arrAt_eq_of_covers 7 _ (by decide +kernel) fun t hf y => ?_
  have h1 : t.val % 11 = 10 := (flush0_7 t).mp hf
  blk_simp
  idx_vars y
  have := lt_N t
  have e : ((View.whole main_v9_1).slice (win0_7.rect t)).emb (ix2 y0 y1) = ix2 (tok t y0) y1 := by
    blk_ext [(idx t).2.2.2.2.2.2.2, tok]
  rw [after0_7]
  refine (out1_at m c t h1 y0 y1).trans ?_
  rw [e]
  rfl

/-- The kernel and the reference leave equal results. -/
theorem algebraic : Cert.algebraic_FfnNormIdeal_FfnNormRefIdeal := by
  intro m g m' g' _ hagree
  refine ⟨fun c => (dats m 0 c).arrAt 6 cfg0.N, fun c => (dats m 0 c).arrAt 7 cfg0.N, Cert.FfnNormIdeal.Value.run_blocks m g, ?_⟩
  refine (θ_run _ _ _).mono (fun r h c => ?_) (Cert.FfnNormRefIdeal.Value.run m' g')
  obtain ⟨h1, h2, h3⟩ := h c
  refine ⟨h1.trans ?_, h2.trans ?_, h3⟩
  · rw [Cert.FfnNormRefIdeal.Read.val_main_v28_eq, (hagree c).1, (hagree c).2.1, (hagree c).2.2.1, (hagree c).2.2.2.1, (hagree c).2.2.2.2]
    refine Eq.trans ?_ (arr0 m c).symm
    funext i
    idx_vars i
    exact Cert.FfnNormRef.ffn_at _ _ _ _ _ i0 i1
  · rw [Cert.FfnNormRefIdeal.Read.val_main_v44_eq, (hagree c).1, (hagree c).2.1, (hagree c).2.2.1, (hagree c).2.2.2.1, (hagree c).2.2.2.2]
    refine Eq.trans ?_ (arr1 m c).symm
    funext i
    idx_vars i
    exact Cert.FfnNormRef.post_at _ _ _ _ _ i0 i1

end Cert.FfnNormVal
end
-- ==== Proof.FfnPay.lean ====
module

public import proofs.«01_k».proof.Defs
public import proofs.«01_k».proof.Proof.Gen.FfnIdeal.Value
public import proofs.«01_k».proof.Proof.FfnSpec
public import Idealize.ShloMosaic.Lib.Claim
public import Idealize.ShloMosaic.Lib.Pipeline.ValueKit
public import Idealize.ShloMosaic.Lib.ValueIdx
public import Idealize.ShloMosaic.Lib.Pointwise

/-! The second feed-forward part: what each step of a grid point computes, at an index. -/

@[expose] public section

set_option maxRecDepth 16384

noncomputable section

open Idealize.ShloMosaic Idealize.ShloMosaic.TcCoe Idealize.SL.Sem
open Idealize.ShloMosaic.Pipeline (Dat)

namespace Cert.FfnVal

open Cert.FfnIdeal Cert.FfnIdeal.Gen Cert.FfnSpec

/-- The normalised rows of a block. -/
theorem norm_at (x : Vec Ideal S1024x2048 .f32) (g : Vec Ideal S1x2048 .f32) (r : Fin 1024) (d : Fin 2048) :
    k0_pay3 (F := Ideal) x g (ix2 r d) = rms (fun d => x (ix2 r d)) (fun d => g (ix2 0 d)) d := by
  unfold k0_pay3
  pointwise
  rfl

/-- The accumulator's first contents. -/
theorem zero_at (i : S1024x2048.Idx) : k0_pay4 (F := Ideal) i = 0 := by
  unfold k0_pay4
  pointwise

/-- The accumulator is read as it is. -/
theorem reread (a : Vec Ideal S1024x2048 .f32) : k0_pay5 (F := Ideal) a = a := by
  unfold k0_pay5
  exact shapeCast_self _ _

/-- A block of 512 hidden columns, computed in two halves of 256. -/
theorem hid_at (xn : Vec Ideal S1024x2048 .bf16) (a b a' b' : Vec Ideal S1x1x2048x256 .bf16) (r : Fin 1024) (k : Fin 512) :
    k0_pay6 (F := Ideal) xn a b a' b' (ix2 r k)
      = if h : k.val < 256 then
          (∑ d : Fin 2048, xn (ix2 r d) * a (ix4 0 0 d ⟨k.val, h⟩)) * Ideal.logistic (∑ d : Fin 2048, xn (ix2 r d) * a (ix4 0 0 d ⟨k.val, h⟩))
            * ∑ d : Fin 2048, xn (ix2 r d) * b (ix4 0 0 d ⟨k.val, h⟩)
        else
          (∑ d : Fin 2048, xn (ix2 r d) * a' (ix4 0 0 d ⟨k.val - 256, by omega⟩)) * Ideal.logistic (∑ d : Fin 2048, xn (ix2 r d) * a' (ix4 0 0 d ⟨k.val - 256, by omega⟩))
            * ∑ d : Fin 2048, xn (ix2 r d) * b' (ix4 0 0 d ⟨k.val - 256, by omega⟩) := by
  unfold k0_pay6
  pointwise

/-- The accumulator after a block of hidden columns. -/
theorem acc_at (a : FVec Ideal S1024x2048 .f32) (h : FVec Ideal S1024x512 .bf16) (w : Vec Ideal S1x1x512x2048 .bf16) (r : Fin 1024) (d : Fin 2048) :
    k0_pay1 (F := Ideal) a h w (ix2 r d) = a (ix2 r d) + ∑ k : Fin 512, h (ix2 r k) * w (ix4 0 0 k d) := by
  unfold k0_pay1
  pointwise

/-- The residual: the input plus half of the accumulator. -/
theorem res_at (x a : Vec Ideal S1024x2048 .f32) (r : Fin 1024) (d : Fin 2048) :
    k0_pay2 (F := Ideal) x a (ix2 r d) = x (ix2 r d) + Ideal.ofBits .f32 0x3F000000#32 * a (ix2 r d) := by
  unfold k0_pay2
  pointwise

end Cert.FfnVal
end
-- ==== Proof.FfnBlk.lean ====
module

public import proofs.«01_k».proof.Defs
public import proofs.«01_k».proof.Proof.Gen.FfnIdeal.Value
public import proofs.«01_k».proof.Proof.FfnSpec
public import Idealize.ShloMosaic.Lib.Claim
public import Idealize.ShloMosaic.Lib.Pipeline.ValueKit
public import Idealize.ShloMosaic.Lib.ValueIdx
public import Idealize.ShloMosaic.Lib.Pointwise

/-! The second feed-forward part: the blocks a grid point reads. -/

@[expose] public section

set_option maxRecDepth 16384

noncomputable section

open Idealize.ShloMosaic Idealize.ShloMosaic.TcCoe Idealize.SL.Sem
open Idealize.ShloMosaic.Pipeline (Dat)

namespace Cert.FfnVal

open Cert.FfnIdeal Cert.FfnIdeal.Gen Cert.FfnSpec

variable (m : (ℓ : Loc nD τ sig) → Buf (Elt Ideal) ℓ)

/-- The grid has 9 row blocks times 11 blocks of hidden columns. -/
theorem lt_N (t : Fin cfg0.N) : t.val < 99 := lt_of_lt_of_eq t.isLt (show cfg0.N = 99 from N_0)

/-- The token that row `r` of point `t`'s block is. -/
def tok (t : Fin cfg0.N) (r : Fin 1024) : Fin 9216 := ⟨t.val / 11 * 1024 + r.val, by have := lt_N t; omega⟩

/-- Where each window's block lies, at every grid point. -/
theorem idx (t : Fin cfg0.N) : win0_0.index t = ![t.val / 11, 0] ∧ win0_1.index t = ![0, 0]
    ∧ win0_2.index t = ![0, 1, 0, t.val % 11] ∧ win0_3.index t = ![0, 1, 0, t.val % 11]
    ∧ win0_4.index t = ![0, 1, t.val % 11, 0] ∧ win0_5.index t = ![t.val / 11, 0] := by
  revert t
  decide +kernel

/-- A point's block of tokens. -/
theorem blk0 (c : Dev nD) (t : Fin cfg0.N) (r : Fin 1024) (d : Fin 2048) :
    iblk m c 0 t (ix2 r d) = V m c main_arg0 (ix2 (tok t r) d) := by
  have := lt_N t
  blk_ext [iblk, V, (idx t).1, tok]

/-- A point's block of the gain. -/
theorem blk1 (c : Dev nD) (t : Fin cfg0.N) (d : Fin 2048) : iblk m c 1 t (ix2 0 d) = V m c main_v5 (ix2 0 d) := by
  blk_ext [iblk, V, (idx t).2.1]

/-- A point's block of the first projection. -/
theorem blk2 (c : Dev nD) (t : Fin cfg0.N) (d : Fin 2048) (k : Fin 512) :
    iblk m c 2 t (ix4 0 0 d k) = V m c main_v0 (ix4 0 1 d (col (t.val % 11) k)) := by
  have : (t.val % 11 * 512 + k.val) % 5632 = t.val % 11 * 512 + k.val := by omega
  blk_ext [iblk, V, (idx t).2.2.1, col, this]

/-- A point's block of the second projection. -/
theorem blk3 (c : Dev nD) (t : Fin cfg0.N) (d : Fin 2048) (k : Fin 512) :
    iblk m c 3 t (ix4 0 0 d k) = V m c main_v1 (ix4 0 1 d (col (t.val % 11) k)) := by
  have : (t.val % 11 * 512 + k.val) % 5632 = t.val % 11 * 512 + k.val := by omega
  blk_ext [iblk, V, (idx t).2.2.2.1, col, this]

/-- A point's block of the projection back. -/
theorem blk4 (c : Dev nD) (t : Fin cfg0.N) (k : Fin 512) (d : Fin 2048) :
    iblk m c 4 t (ix4 0 0 k d) = V m c main_v2 (ix4 0 1 (col (t.val % 11) k) d) := by
  have : (t.val % 11 * 512 + k.val) % 5632 = t.val % 11 * 512 + k.val := by omega
  blk_ext [iblk, V, (idx t).2.2.2.2.1, col, this]

/-- The gain. -/
theorem Vgain (c : Dev nD) (d : Fin 2048) : V m c main_v5 (ix2 0 d) = m ((c : Thread nD τ).loc main_arg1) (ix3 0 2 d) := by
  entry_read
  pointwise

/-- The first projection's weights. -/
theorem Vw1 (c : Dev nD) (d : Fin 2048) (f : Fin 5632) :
    V m c main_v0 (ix4 0 1 d f) = m ((c : Thread nD τ).loc main_arg2) (ix4 0 1 d f) := by
  entry_read
  pointwise

/-- The second projection's weights. -/
theorem Vw3 (c : Dev nD) (d : Fin 2048) (f : Fin 5632) :
    V m c main_v1 (ix4 0 1 d f) = m ((c : Thread nD τ).loc main_arg3) (ix4 0 1 d f) := by
  entry_read
  pointwise

/-- The weights of the projection back. -/
theorem Vw2 (c : Dev nD) (f : Fin 5632) (d : Fin 2048) :
    V m c main_v2 (ix4 0 1 f d) = m ((c : Thread nD τ).loc main_arg4) (ix4 0 1 f d) := by
  entry_read
  pointwise

end Cert.FfnVal
end
-- ==== Proof.FfnSweep.lean ====
module

public import proofs.«01_k».proof.Defs
public import proofs.«01_k».proof.Proof.Gen.FfnIdeal.Value
public import proofs.«01_k».proof.Proof.FfnPay
public import proofs.«01_k».proof.Proof.FfnBlk
public import proofs.«01_k».proof.Proof.FfnSpec
public import Idealize.ShloMosaic.Lib.Claim
public import Idealize.ShloMosaic.Lib.Pipeline.ReadBack
public import Idealize.ShloMosaic.Lib.Pipeline.ValueKit
public import Idealize.ShloMosaic.Lib.ValueIdx
public import Idealize.ShloMosaic.Lib.Pointwise

/-! The second feed-forward part: what the grid points of a block of tokens leave, by induction over the points. -/

@[expose] public section

set_option maxRecDepth 16384

noncomputable section

open Idealize.ShloMosaic Idealize.ShloMosaic.TcCoe Idealize.SL.Sem
open Idealize.ShloMosaic.Pipeline (Dat)

namespace Cert.FfnVal

open Cert.FfnIdeal Cert.FfnIdeal.Gen Cert.FfnSpec

variable (m : (ℓ : Loc nD τ sig) → Buf (Elt Ideal) ℓ)

/-- A token's row. -/
abbrev rowX (c : Dev nD) (R : Fin 9216) : Fin 2048 → EReal := fun d => (m ((c : Thread nD τ).loc main_arg0) : (⟨S9216x2048, .f32⟩ : BufTy).Contents (Elt Ideal)) (ix2 R d)

/-- The gain of the norm before the feed-forward part. -/
abbrev gain (c : Dev nD) : Fin 2048 → EReal := fun d => (m ((c : Thread nD τ).loc main_arg1) : (⟨S2x3x2048, .f32⟩ : BufTy).Contents (Elt Ideal)) (ix3 0 2 d)

/-- The gated projection's weights. -/
abbrev w1 (c : Dev nD) : Fin 2048 → Fin 5632 → EReal := fun d f => (m ((c : Thread nD τ).loc main_arg2) : (⟨S2x2x2048x5632, .f32⟩ : BufTy).Contents (Elt Ideal)) (ix4 0 1 d f)

/-- The other projection's weights. -/
abbrev w3 (c : Dev nD) : Fin 2048 → Fin 5632 → EReal := fun d f => (m ((c : Thread nD τ).loc main_arg3) : (⟨S2x2x2048x5632, .f32⟩ : BufTy).Contents (Elt Ideal)) (ix4 0 1 d f)

/-- The weights of the projection back. -/
abbrev w2 (c : Dev nD) : Fin 5632 → Fin 2048 → EReal := fun f d => (m ((c : Thread nD τ).loc main_arg4) : (⟨S2x2x5632x2048, .f32⟩ : BufTy).Contents (Elt Ideal)) (ix4 0 1 f d)

/-- The hidden layer of a token. -/
abbrev hidRow (c : Dev nD) (R : Fin 9216) : Fin 5632 → EReal := hid (rms (rowX m c R) (gain m c)) (w1 m c) (w3 m c)

/-- What a point computes of the hidden layer from normalised rows `xn`. -/
abbrev hidBlk (c : Dev nD) (t : Fin cfg0.N) (xn : Vec Ideal S1024x2048 .bf16) : FVec Ideal S1024x512 .bf16 :=
  k0_pay6 xn
        (View.ld (iblk m c 2 t) (Rect.unit ![0, 0, 0, 0] ![1, 1, 2048, 256] inb_S1x1x2048x512_S1x1x2048x256_0_0_0_0))
        (View.ld (iblk m c 3 t) (Rect.unit ![0, 0, 0, 0] ![1, 1, 2048, 256] inb_S1x1x2048x512_S1x1x2048x256_0_0_0_0))
        (View.ld (iblk m c 2 t) (Rect.unit ![0, 0, 0, 256] ![1, 1, 2048, 256] inb_S1x1x2048x512_S1x1x2048x256_0_0_0_256))
        (View.ld (iblk m c 3 t) (Rect.unit ![0, 0, 0, 256] ![1, 1, 2048, 256] inb_S1x1x2048x512_S1x1x2048x256_0_0_0_256))

/-- The hidden block of a point: columns `512 (t % 11) + k` of the hidden layer. -/
theorem hidBlk_at (c : Dev nD) (t : Fin cfg0.N) (xn : Vec Ideal S1024x2048 .bf16) (r : Fin 1024) (k : Fin 512)
    (h : ∀ d, xn (ix2 r d) = rms (rowX m c (tok t r)) (gain m c) d) :
    hidBlk m c t xn (ix2 r k) = hidRow m c (tok t r) (col (t.val % 11) k) := by
  have e0 : ∀ (B : Vec Ideal S1x1x2048x512 .bf16) (d : Fin 2048) (hk : k.val < 256),
      View.ld B (Rect.unit ![0, 0, 0, 0] ![1, 1, 2048, 256] inb_S1x1x2048x512_S1x1x2048x256_0_0_0_0) (ix4 0 0 d ⟨k.val, hk⟩) = B (ix4 0 0 d k) := fun B d hk => by
    pointwise
  have e1 : ∀ (B : Vec Ideal S1x1x2048x512 .bf16) (d : Fin 2048) (hk : ¬ k.val < 256),
      View.ld B (Rect.unit ![0, 0, 0, 256] ![1, 1, 2048, 256] inb_S1x1x2048x512_S1x1x2048x256_0_0_0_256) (ix4 0 0 d ⟨k.val - 256, by omega⟩) = B (ix4 0 0 d k) := fun B d hk => by
    pointwise
    exact congrArg B (congrArg (ix4 0 0 d) (Fin.ext (by show 256 + (k.val - 256) = k.val; omega)))
  unfold hidBlk
  rw [hid_at]
  split
  · next hk =>
    have s1 := fun d => congrArg₂ (· * ·) (h d) ((e0 (iblk m c 2 t) d hk).trans ((blk2 m c t d k).trans (Vw1 m c d _)))
    have s3 := fun d => congrArg₂ (· * ·) (h d) ((e0 (iblk m c 3 t) d hk).trans ((blk3 m c t d k).trans (Vw3 m c d _)))
    exact congrArg₂ (· * ·) (congrArg₂ (· * ·) (Finset.sum_congr rfl fun d _ => s1 d) (congrArg Ideal.logistic (Finset.sum_congr rfl fun d _ => s1 d)))
      (Finset.sum_congr rfl fun d _ => s3 d)
  · next hk =>
    have s1 := fun d => congrArg₂ (· * ·) (h d) ((e1 (iblk m c 2 t) d hk).trans ((blk2 m c t d k).trans (Vw1 m c d _)))
    have s3 := fun d => congrArg₂ (· * ·) (h d) ((e1 (iblk m c 3 t) d hk).trans ((blk3 m c t d k).trans (Vw3 m c d _)))
    exact congrArg₂ (· * ·) (congrArg₂ (· * ·) (Finset.sum_congr rfl fun d _ => s1 d) (congrArg Ideal.logistic (Finset.sum_congr rfl fun d _ => s1 d)))
      (Finset.sum_congr rfl fun d _ => s3 d)

/-- A point's normalised rows. -/
theorem norm_blk (c : Dev nD) (t : Fin cfg0.N) (r : Fin 1024) (d : Fin 2048) :
    k0_pay3 (F := Ideal) (iblk m c 0 t) (iblk m c 1 t) (ix2 r d) = rms (rowX m c (tok t r)) (gain m c) d := by
  rw [norm_at]
  congr 1
  · funext d
    rw [blk0, V_main_arg0]
  · funext d
    rw [blk1, Vgain]

/-- One accumulation: the point's hidden block times its rows of the projection back. -/
theorem acc_blk (c : Dev nD) (t : Fin cfg0.N) (a : FVec Ideal S1024x2048 .f32) (xn : Vec Ideal S1024x2048 .bf16) (r : Fin 1024) (d : Fin 2048)
    (h : ∀ d, xn (ix2 r d) = rms (rowX m c (tok t r)) (gain m c) d) :
    k0_pay1 (F := Ideal) a (hidBlk m c t xn) (iblk m c 4 t) (ix2 r d)
      = a (ix2 r d) + part (hidRow m c (tok t r)) (w2 m c) (t.val % 11) d := by
  rw [acc_at]
  refine congrArg _ (Finset.sum_congr rfl fun k _ => ?_)
  rw [hidBlk_at m c t xn r k h, blk4, Vw2]

/-- The first point of a block of tokens: the accumulator. -/
theorem first_acc (c : Dev nD) (t : Fin cfg0.N) (h0 : t.val % 11 = 0) :
    (outsAt0 m c t.val t.isLt).1 = k0_pay1 (k0_pay5 k0_pay4) (hidBlk m c t (k0_pay3 (iblk m c 0 t) (iblk m c 1 t))) (iblk m c 4 t) := by
  rw [outsAt0_A m c t h0 (by omega)]
  dsimp only
  frame_out
  rfl

/-- The first point of a block of tokens: the normalised rows. -/
theorem first_norm (c : Dev nD) (t : Fin cfg0.N) (h0 : t.val % 11 = 0) :
    (outsAt0 m c t.val t.isLt).2 = k0_pay3 (iblk m c 0 t) (iblk m c 1 t) := by
  rw [outsAt0_A m c t h0 (by omega)]
  dsimp only
  frame_out

/-- A later point: the accumulator. -/
theorem next_acc (c : Dev nD) (t : Fin cfg0.N) (h0 : ¬t.val % 11 = 0) (h1 : ¬t.val % 11 = 10) :
    (outsAt0 m c t.val t.isLt).1 = k0_pay1 (k0_pay5 (outsAt0 m c (t.val - 1) (Nat.lt_of_le_of_lt (Nat.sub_le _ _) t.isLt)).1) (hidBlk m c t (outsAt0 m c (t.val - 1) (Nat.lt_of_le_of_lt (Nat.sub_le _ _) t.isLt)).2) (iblk m c 4 t) := by
  rw [outsAt0_B m c t h0 h1]
  dsimp only
  frame_out
  simp only [read_unread_whole]
  rfl

/-- A later point leaves the normalised rows. -/
theorem next_norm (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]
  dsimp only
  unfold sout0_B_0
  rfl

/-- The last point of a block of tokens: the output. -/
theorem last_out0 (c : Dev nD) (t : Fin cfg0.N) (h1 : t.val % 11 = 10) :
    (outsAt0 m c t.val t.isLt).1 = k0_pay2 (iblk m c 0 t)
      (k0_pay1 (k0_pay5 (outsAt0 m c (t.val - 1) (Nat.lt_of_le_of_lt (Nat.sub_le _ _) t.isLt)).1) (hidBlk m c t (outsAt0 m c (t.val - 1) (Nat.lt_of_le_of_lt (Nat.sub_le _ _) t.isLt)).2) (iblk m c 4 t)) := by
  rw [outsAt0_C m c t (by omega) h1]
  dsimp only
  frame_out
  simp only [read_unread_whole]
  rfl

/-- After a point before the last of its block: the normalised rows, and the sum of the blocks of columns so far. -/
theorem sweep (c : Dev nD) : ∀ (n : ℕ) (h : n < cfg0.N), n % 11 ≠ 10 → ∀ (r : Fin 1024) (d : Fin 2048),
    (outsAt0 m c n h).2 (ix2 r d) = rms (rowX m c (tok ⟨n, h⟩ r)) (gain m c) d
    ∧ (outsAt0 m c n h).1 (ix2 r d) = ∑ s ∈ Finset.range (n % 11 + 1), part (hidRow m c (tok ⟨n, h⟩ r)) (w2 m c) s d := by
  intro n
  induction n with
  | zero =>
    intro h _ r d
    refine ⟨(congrFun (first_norm m c ⟨0, h⟩ rfl) _).trans (norm_blk m c ⟨0, h⟩ r d), (congrFun (first_acc m c ⟨0, h⟩ rfl) _).trans ?_⟩
    rw [acc_blk m c ⟨0, h⟩ _ _ r d (norm_blk m c ⟨0, h⟩ r), reread, zero_at, zero_add]
    exact (Finset.sum_range_one (fun s => part (hidRow m c (tok ⟨0, h⟩ r)) (w2 m c) s d)).symm
  | succ n ih =>
    intro h h1 r d
    by_cases h0 : (n + 1) % 11 = 0
    · refine ⟨(congrFun (first_norm m c ⟨n + 1, h⟩ h0) _).trans (norm_blk m c ⟨n + 1, h⟩ r d), (congrFun (first_acc m c ⟨n + 1, h⟩ h0) _).trans ?_⟩
      rw [acc_blk m c ⟨n + 1, h⟩ _ _ r d (norm_blk m c ⟨n + 1, h⟩ r), reread, zero_at, zero_add, h0]
      exact (Finset.sum_range_one (fun s => part (hidRow m c (tok ⟨n + 1, h⟩ r)) (w2 m c) s d)).symm
    · have hn : n < cfg0.N := Nat.lt_of_succ_lt h
      have et : tok ⟨n + 1, h⟩ r = tok ⟨n, hn⟩ r := Fin.ext (by show (n + 1) / 11 * 1024 + r.val = n / 11 * 1024 + r.val; congr 2; omega)
      have hp := fun d => ih hn (by omega) r d
      refine ⟨(congrFun (next_norm m c ⟨n + 1, h⟩ h0 h1) _).trans (((hp d).1).trans (by rw [et])),
        (congrFun (next_acc m c ⟨n + 1, h⟩ h0 h1) _).trans ?_⟩
      refine (acc_blk m c ⟨n + 1, h⟩ _ _ r d (fun d => ((hp d).1).trans (by rw [et]))).trans ?_
      rw [reread]
      refine (congrArg (· + _) (hp d).2).trans ?_
      have e1 : (n + 1) % 11 = n % 11 + 1 := by omega
      dsimp only
      rw [← et, e1]
      exact (Finset.sum_range_succ (fun s => part (hidRow m c (tok ⟨n + 1, h⟩ r)) (w2 m c) s d) _).symm

/-- The full accumulator at the last point of a block. -/
theorem last_acc (c : Dev nD) (t : Fin cfg0.N) (h1 : t.val % 11 = 10) (r : Fin 1024) (d : Fin 2048) :
    k0_pay1 (F := Ideal) (k0_pay5 (outsAt0 m c (t.val - 1) (Nat.lt_of_le_of_lt (Nat.sub_le _ _) t.isLt)).1) (hidBlk m c t (outsAt0 m c (t.val - 1) (Nat.lt_of_le_of_lt (Nat.sub_le _ _) t.isLt)).2) (iblk m c 4 t) (ix2 r d)
      = ∑ f, hidRow m c (tok t r) f * w2 m c f d := by
  have hn : t.val - 1 < cfg0.N := Nat.lt_of_le_of_lt (Nat.sub_le _ _) t.isLt
  have et : tok t r = tok ⟨t.val - 1, hn⟩ r := Fin.ext (by show t.val / 11 * 1024 + r.val = (t.val - 1) / 11 * 1024 + r.val; congr 2; omega)
  have hp := fun d => sweep m c (t.val - 1) hn (by omega) r d
  rw [acc_blk m c t _ _ r d (fun d => ((hp d).1).trans (by rw [et])), reread, ← sum_parts]
  refine (congrArg (· + _) (hp d).2).trans ?_
  rw [← et, show (t.val - 1) % 11 + 1 = 10 by omega, h1]
  exact (Finset.sum_range_succ (fun s => part (hidRow m c (tok t r)) (w2 m c) s d) _).symm

/-- The feed-forward part of a token. -/
abbrev ffnRow (c : Dev nD) (R : Fin 9216) : Fin 2048 → EReal := ffn (rowX m c R) (gain m c) (w1 m c) (w3 m c) (w2 m c)

/-- The last point of a block of tokens leaves the feed-forward part of each token. -/
theorem out0_at (c : Dev nD) (t : Fin cfg0.N) (h1 : t.val % 11 = 10) (r : Fin 1024) (d : Fin 2048) :
    (outsAt0 m c t.val t.isLt).1 (ix2 r d) = ffnRow m c (tok t r) d := by
  rw [last_out0 m c t h1]
  rw [res_at, last_acc m c t h1 r d, blk0, V_main_arg0]
  rfl

end Cert.FfnVal
end
-- ==== Proof.FfnRef.lean ====
module

public import proofs.«01_k».proof.Defs
public import proofs.«01_k».proof.Proof.Gen.FfnRefIdeal.Read
public import proofs.«01_k».proof.Proof.FfnSpec
public import Idealize.ShloMosaic.Lib.Claim
public import Idealize.ShloMosaic.Lib.Pipeline.ValueKit
public import Idealize.ShloMosaic.Lib.ValueIdx
public import Idealize.ShloMosaic.Lib.Pointwise

/-! The second feed-forward part: the reference at a token and column. -/

@[expose] public section

set_option maxRecDepth 16384

noncomputable section

open Idealize.ShloMosaic Idealize.ShloMosaic.TcCoe Idealize.SL.Sem
open Idealize.ShloMosaic.Pipeline (Dat)

namespace Cert.FfnRef

open Cert.FfnRefIdeal Cert.FfnRefIdeal.Read Cert.FfnSpec

/-- The normalised input. -/
theorem norm_at (x0 : (⟨S9216x2048, .f32⟩ : BufTy).Contents (Elt Ideal)) (x1 : (⟨S2x3x2048, .f32⟩ : BufTy).Contents (Elt Ideal)) (R : Fin 9216) (d : Fin 2048) :
    val_main_v14 (F := Ideal) x0 x1 (ix2 R d) = rms (fun d => x0 (ix2 R d)) (fun d => x1 (ix3 0 2 d)) d := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  rfl

/-- The hidden layer. -/
theorem hid_at (x0 : (⟨S9216x2048, .f32⟩ : BufTy).Contents (Elt Ideal)) (x1 : (⟨S2x3x2048, .f32⟩ : BufTy).Contents (Elt Ideal)) (x2 x3 : (⟨S2x2x2048x5632, .f32⟩ : BufTy).Contents (Elt Ideal)) (R : Fin 9216) (f : Fin 5632) :
    val_main_v24 (F := Ideal) x0 x1 x2 x3 (ix2 R f)
      = hid (rms (fun d => x0 (ix2 R d)) (fun d => x1 (ix3 0 2 d))) (fun d f => x2 (ix4 0 1 d f)) (fun d f => x3 (ix4 0 1 d f)) f := by
  pointwise [val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24]
  simp only [norm_at]
  rfl

/-- The feed-forward part with its residual. -/
theorem ffn_at (x0 : (⟨S9216x2048, .f32⟩ : BufTy).Contents (Elt Ideal)) (x1 : (⟨S2x3x2048, .f32⟩ : BufTy).Contents (Elt Ideal)) (x2 x3 : (⟨S2x2x2048x5632, .f32⟩ : BufTy).Contents (Elt Ideal))
    (x4 : (⟨S2x2x5632x2048, .f32⟩ : BufTy).Contents (Elt Ideal)) (R : Fin 9216) (d : Fin 2048) :
    val_main_v28 (F := Ideal) x0 x1 x2 x3 x4 (ix2 R d)
      = ffn (fun d => x0 (ix2 R d)) (fun d => x1 (ix3 0 2 d)) (fun d f => x2 (ix4 0 1 d f)) (fun d f => x3 (ix4 0 1 d f))
          (fun f d => x4 (ix4 0 1 f d)) d := by
  pointwise [val_main_v19, val_main_v20, val_main_v25, val_main_cst_2, val_main_v26, val_main_v27, val_main_v28]
  simp only [hid_at]
  rfl

end Cert.FfnRef
end
-- ==== Proof.FfnClaim.lean ====
module

public import proofs.«01_k».proof.Defs
public import proofs.«01_k».proof.Proof.Gen.FfnIdeal.Value
public import proofs.«01_k».proof.Proof.Gen.FfnRefIdeal.Read
public import proofs.«01_k».proof.Proof.Gen.FfnRefIdeal.Run
public import proofs.«01_k».proof.Proof.FfnSweep
public import proofs.«01_k».proof.Proof.FfnRef
public import Idealize.ShloMosaic.Lib.Claim
public import Idealize.ShloMosaic.Lib.Pipeline.ValueKit
public import Idealize.ShloMosaic.Lib.ValueIdx
public import Idealize.ShloMosaic.Lib.Pointwise

/-! The second feed-forward part: the arrays after the run, and the claim that kernel and reference leave equal results. -/

@[expose] public section

set_option maxRecDepth 16384

noncomputable section

open Idealize.ShloMosaic Idealize.ShloMosaic.TcCoe Idealize.SL.Sem
open Idealize.ShloMosaic.Pipeline (Dat)

namespace Cert.FfnVal

open Cert.FfnIdeal Cert.FfnIdeal.Gen Cert.FfnSpec

variable (m : (ℓ : Loc nD τ sig) → Buf (Elt Ideal) ℓ)

/-- Output 0 after the run: the feed-forward part of every token. -/
theorem arr0 (c : Dev nD) : (dats m 0 c).arrAt 5 cfg0.N
    = fun i : S9216x2048.Idx => ffnRow m c (i 0) (i 1) := by
  refine (dats m 0 c).arrAt_eq_of_covers 5 _ (by decide +kernel) fun t hf y => ?_
  have h1 : t.val % 11 = 10 := (flush0_5 t).mp hf
  blk_simp
  idx_vars y
  have := lt_N t
  have e : ((View.whole main_v6).slice (win0_5.rect t)).emb (ix2 y0 y1) = ix2 (tok t y0) y1 := by
    blk_ext [(idx t).2.2.2.2.2, tok]
  rw [after0_5]
  refine (out0_at m c t h1 y0 y1).trans ?_
  rw [e]
  rfl

/-- The kernel and the reference leave equal results. -/
theorem algebraic : Cert.algebraic_FfnIdeal_FfnRefIdeal := by
  intro m g m' g' _ hagree
  refine ⟨fun c => (dats m 0 c).arrAt 5 cfg0.N, Cert.FfnIdeal.Value.run_blocks m g, ?_⟩
  refine (θ_run _ _ _).mono (fun r h c => ?_) (Cert.FfnRefIdeal.Value.run m' g')
  obtain ⟨h1, h2⟩ := h c
  refine ⟨h1.trans ?_, h2⟩
  · rw [Cert.FfnRefIdeal.Read.val_main_v28_eq, (hagree c).1, (hagree c).2.1, (hagree c).2.2.1, (hagree c).2.2.2.1, (hagree c).2.2.2.2]
    refine Eq.trans ?_ (arr0 m c).symm
    funext i
    idx_vars i
    exact Cert.FfnRef.ffn_at _ _ _ _ _ i0 i1

end Cert.FfnVal
end
-- ==== Proof.FfnFinalPay.lean ====
module

public import proofs.«01_k».proof.Defs
public import proofs.«01_k».proof.Proof.Gen.FfnFinalIdeal.Value
public import proofs.«01_k».proof.Proof.FfnSpec
public import Idealize.ShloMosaic.Lib.Claim
public import Idealize.ShloMosaic.Lib.Pipeline.ValueKit
public import Idealize.ShloMosaic.Lib.ValueIdx
public import Idealize.ShloMosaic.Lib.Pointwise

/-! The last feed-forward part: what each step of a grid point computes, at an index. -/

@[expose] public section

set_option maxRecDepth 16384

noncomputable section

open Idealize.ShloMosaic Idealize.ShloMosaic.TcCoe Idealize.SL.Sem
open Idealize.ShloMosaic.Pipeline (Dat)

namespace Cert.FfnFinalVal

open Cert.FfnFinalIdeal Cert.FfnFinalIdeal.Gen Cert.FfnSpec

/-- The normalised rows of a block. -/
theorem norm_at (x : Vec Ideal S768x2048 .f32) (g : Vec Ideal S1x2048 .f32) (r : Fin 768) (d : Fin 2048) :
    k0_pay3 (F := Ideal) x g (ix2 r d) = rms (fun d => x (ix2 r d)) (fun d => g (ix2 0 d)) d := by
  unfold k0_pay3
  pointwise
  rfl

/-- The accumulator's first contents. -/
theorem zero_at (i : S768x2048.Idx) : k0_pay4 (F := Ideal) i = 0 := by
  unfold k0_pay4
  pointwise

/-- The accumulator is read as it is. -/
theorem reread (a : Vec Ideal S768x2048 .f32) : k0_pay5 (F := Ideal) a = a := by
  unfold k0_pay5
  exact shapeCast_self _ _

/-- A block of 512 hidden columns, computed in two halves of 256. -/
theorem hid_at (xn : Vec Ideal S768x2048 .bf16) (a b a' b' : Vec Ideal S1x1x2048x256 .bf16) (r : Fin 768) (k : Fin 512) :
    k0_pay6 (F := Ideal) xn a b a' b' (ix2 r k)
      = if h : k.val < 256 then
          (∑ d : Fin 2048, xn (ix2 r d) * a (ix4 0 0 d ⟨k.val, h⟩)) * Ideal.logistic (∑ d : Fin 2048, xn (ix2 r d) * a (ix4 0 0 d ⟨k.val, h⟩))
            * ∑ d : Fin 2048, xn (ix2 r d) * b (ix4 0 0 d ⟨k.val, h⟩)
        else
          (∑ d : Fin 2048, xn (ix2 r d) * a' (ix4 0 0 d ⟨k.val - 256, by omega⟩)) * Ideal.logistic (∑ d : Fin 2048, xn (ix2 r d) * a' (ix4 0 0 d ⟨k.val - 256, by omega⟩))
            * ∑ d : Fin 2048, xn (ix2 r d) * b' (ix4 0 0 d ⟨k.val - 256, by omega⟩) := by
  unfold k0_pay6
  pointwise

/-- The accumulator after a block of hidden columns. -/
theorem acc_at (a : FVec Ideal S768x2048 .f32) (h : FVec Ideal S768x512 .bf16) (w : Vec Ideal S1x1x512x2048 .bf16) (r : Fin 768) (d : Fin 2048) :
    k0_pay1 (F := Ideal) a h w (ix2 r d) = a (ix2 r d) + ∑ k : Fin 512, h (ix2 r k) * w (ix4 0 0 k d) := by
  unfold k0_pay1
  pointwise

/-- The normalised result. -/
theorem post_at (x a : Vec Ideal S768x2048 .f32) (g : Vec Ideal S1x2048 .f32) (r : Fin 768) (d : Fin 2048) :
    k0_pay2 (F := Ideal) x a g (ix2 r d)
      = rms (fun d => x (ix2 r d) + Ideal.ofBits .f32 0x3F000000#32 * a (ix2 r d)) (fun d => g (ix2 0 d)) d := by
  unfold k0_pay2
  pointwise
  rfl

end Cert.FfnFinalVal
end
-- ==== Proof.FfnFinalBlk.lean ====
module

public import proofs.«01_k».proof.Defs
public import proofs.«01_k».proof.Proof.Gen.FfnFinalIdeal.Value
public import proofs.«01_k».proof.Proof.FfnSpec
public import Idealize.ShloMosaic.Lib.Claim
public import Idealize.ShloMosaic.Lib.Pipeline.ValueKit
public import Idealize.ShloMosaic.Lib.ValueIdx
public import Idealize.ShloMosaic.Lib.Pointwise

/-! The last feed-forward part: the blocks a grid point reads. -/

@[expose] public section

set_option maxRecDepth 16384

noncomputable section

open Idealize.ShloMosaic Idealize.ShloMosaic.TcCoe Idealize.SL.Sem
open Idealize.ShloMosaic.Pipeline (Dat)

namespace Cert.FfnFinalVal

open Cert.FfnFinalIdeal Cert.FfnFinalIdeal.Gen Cert.FfnSpec

variable (m : (ℓ : Loc nD τ sig) → Buf (Elt Ideal) ℓ)

/-- The grid has 12 row blocks times 11 blocks of hidden columns. -/
theorem lt_N (t : Fin cfg0.N) : t.val < 132 := lt_of_lt_of_eq t.isLt (show cfg0.N = 132 from N_0)

/-- The token that row `r` of point `t`'s block is. -/
def tok (t : Fin cfg0.N) (r : Fin 768) : Fin 9216 := ⟨t.val / 11 * 768 + r.val, by have := lt_N t; omega⟩

/-- Where each window's block lies, at every grid point. -/
theorem idx (t : Fin cfg0.N) : win0_0.index t = ![t.val / 11, 0] ∧ win0_1.index t = ![0, 0]
    ∧ win0_2.index t = ![1, 1, 0, t.val % 11] ∧ win0_3.index t = ![1, 1, 0, t.val % 11]
    ∧ win0_4.index t = ![1, 1, t.val % 11, 0] ∧ win0_5.index t = ![0, 0] ∧ win0_6.index t = ![t.val / 11, 0] := by
  revert t
  decide +kernel

/-- A point's block of tokens. -/
theorem blk0 (c : Dev nD) (t : Fin cfg0.N) (r : Fin 768) (d : Fin 2048) :
    iblk m c 0 t (ix2 r d) = V m c main_arg0 (ix2 (tok t r) d) := by
  have := lt_N t
  blk_ext [iblk, V, (idx t).1, tok]

/-- A point's block of the gain. -/
theorem blk1 (c : Dev nD) (t : Fin cfg0.N) (d : Fin 2048) : iblk m c 1 t (ix2 0 d) = V m c main_v5 (ix2 0 d) := by
  blk_ext [iblk, V, (idx t).2.1]

/-- A point's block of the first projection. -/
theorem blk2 (c : Dev nD) (t : Fin cfg0.N) (d : Fin 2048) (k : Fin 512) :
    iblk m c 2 t (ix4 0 0 d k) = V m c main_v0 (ix4 1 1 d (col (t.val % 11) k)) := by
  have : (t.val % 11 * 512 + k.val) % 5632 = t.val % 11 * 512 + k.val := by omega
  blk_ext [iblk, V, (idx t).2.2.1, col, this]

/-- A point's block of the second projection. -/
theorem blk3 (c : Dev nD) (t : Fin cfg0.N) (d : Fin 2048) (k : Fin 512) :
    iblk m c 3 t (ix4 0 0 d k) = V m c main_v1 (ix4 1 1 d (col (t.val % 11) k)) := by
  have : (t.val % 11 * 512 + k.val) % 5632 = t.val % 11 * 512 + k.val := by omega
  blk_ext [iblk, V, (idx t).2.2.2.1, col, this]

/-- A point's block of the projection back. -/
theorem blk4 (c : Dev nD) (t : Fin cfg0.N) (k : Fin 512) (d : Fin 2048) :
    iblk m c 4 t (ix4 0 0 k d) = V m c main_v2 (ix4 1 1 (col (t.val % 11) k) d) := by
  have : (t.val % 11 * 512 + k.val) % 5632 = t.val % 11 * 512 + k.val := by omega
  blk_ext [iblk, V, (idx t).2.2.2.2.1, col, this]

/-- A point's block of the second gain. -/
theorem blk5 (c : Dev nD) (t : Fin cfg0.N) (d : Fin 2048) : iblk m c 5 t (ix2 0 d) = V m c main_v6 (ix2 0 d) := by
  blk_ext [iblk, V, (idx t).2.2.2.2.2.1]

/-- The second gain. -/
theorem Vpost (c : Dev nD) (d : Fin 2048) :
    V m c main_v6 (ix2 0 d) = m ((c : Thread nD τ).loc main_arg5) (ix1 d) := by
  entry_read
  pointwise

/-- The gain. -/
theorem Vgain (c : Dev nD) (d : Fin 2048) : V m c main_v5 (ix2 0 d) = m ((c : Thread nD τ).loc main_arg1) (ix3 1 2 d) := by
  entry_read
  pointwise

/-- The first projection's weights. -/
theorem Vw1 (c : Dev nD) (d : Fin 2048) (f : Fin 5632) :
    V m c main_v0 (ix4 1 1 d f) = m ((c : Thread nD τ).loc main_arg2) (ix4 1 1 d f) := by
  entry_read
  pointwise

/-- The second projection's weights. -/
theorem Vw3 (c : Dev nD) (d : Fin 2048) (f : Fin 5632) :
    V m c main_v1 (ix4 1 1 d f) = m ((c : Thread nD τ).loc main_arg3) (ix4 1 1 d f) := by
  entry_read
  pointwise

/-- The weights of the projection back. -/
theorem Vw2 (c : Dev nD) (f : Fin 5632) (d : Fin 2048) :
    V m c main_v2 (ix4 1 1 f d) = m ((c : Thread nD τ).loc main_arg4) (ix4 1 1 f d) := by
  entry_read
  pointwise

end Cert.FfnFinalVal
end
-- ==== Proof.FfnFinalSweep.lean ====
module

public import proofs.«01_k».proof.Defs
public import proofs.«01_k».proof.Proof.Gen.FfnFinalIdeal.Value
public import proofs.«01_k».proof.Proof.FfnFinalPay
public import proofs.«01_k».proof.Proof.FfnFinalBlk
public import proofs.«01_k».proof.Proof.FfnSpec
public import Idealize.ShloMosaic.Lib.Claim
public import Idealize.ShloMosaic.Lib.Pipeline.ReadBack
public import Idealize.ShloMosaic.Lib.Pipeline.ValueKit
public import Idealize.ShloMosaic.Lib.ValueIdx
public import Idealize.ShloMosaic.Lib.Pointwise

/-! The last feed-forward part: what the grid points of a block of tokens leave, by induction over the points. -/

@[expose] public section

set_option maxRecDepth 16384

noncomputable section

open Idealize.ShloMosaic Idealize.ShloMosaic.TcCoe Idealize.SL.Sem
open Idealize.ShloMosaic.Pipeline (Dat)

namespace Cert.FfnFinalVal

open Cert.FfnFinalIdeal Cert.FfnFinalIdeal.Gen Cert.FfnSpec

variable (m : (ℓ : Loc nD τ sig) → Buf (Elt Ideal) ℓ)

/-- A token's row. -/
abbrev rowX (c : Dev nD) (R : Fin 9216) : Fin 2048 → EReal := fun d => (m ((c : Thread nD τ).loc main_arg0) : (⟨S9216x2048, .f32⟩ : BufTy).Contents (Elt Ideal)) (ix2 R d)

/-- The gain of the norm before the feed-forward part. -/
abbrev gain (c : Dev nD) : Fin 2048 → EReal := fun d => (m ((c : Thread nD τ).loc main_arg1) : (⟨S2x3x2048, .f32⟩ : BufTy).Contents (Elt Ideal)) (ix3 1 2 d)

/-- The gated projection's weights. -/
abbrev w1 (c : Dev nD) : Fin 2048 → Fin 5632 → EReal := fun d f => (m ((c : Thread nD τ).loc main_arg2) : (⟨S2x2x2048x5632, .f32⟩ : BufTy).Contents (Elt Ideal)) (ix4 1 1 d f)

/-- The other projection's weights. -/
abbrev w3 (c : Dev nD) : Fin 2048 → Fin 5632 → EReal := fun d f => (m ((c : Thread nD τ).loc main_arg3) : (⟨S2x2x2048x5632, .f32⟩ : BufTy).Contents (Elt Ideal)) (ix4 1 1 d f)

/-- The weights of the projection back. -/
abbrev w2 (c : Dev nD) : Fin 5632 → Fin 2048 → EReal := fun f d => (m ((c : Thread nD τ).loc main_arg4) : (⟨S2x2x5632x2048, .f32⟩ : BufTy).Contents (Elt Ideal)) (ix4 1 1 f d)

/-- The hidden layer of a token. -/
abbrev hidRow (c : Dev nD) (R : Fin 9216) : Fin 5632 → EReal := hid (rms (rowX m c R) (gain m c)) (w1 m c) (w3 m c)

/-- What a point computes of the hidden layer from normalised rows `xn`. -/
abbrev hidBlk (c : Dev nD) (t : Fin cfg0.N) (xn : Vec Ideal S768x2048 .bf16) : FVec Ideal S768x512 .bf16 :=
  k0_pay6 xn
        (View.ld (iblk m c 2 t) (Rect.unit ![0, 0, 0, 0] ![1, 1, 2048, 256] inb_S1x1x2048x512_S1x1x2048x256_0_0_0_0))
        (View.ld (iblk m c 3 t) (Rect.unit ![0, 0, 0, 0] ![1, 1, 2048, 256] inb_S1x1x2048x512_S1x1x2048x256_0_0_0_0))
        (View.ld (iblk m c 2 t) (Rect.unit ![0, 0, 0, 256] ![1, 1, 2048, 256] inb_S1x1x2048x512_S1x1x2048x256_0_0_0_256))
        (View.ld (iblk m c 3 t) (Rect.unit ![0, 0, 0, 256] ![1, 1, 2048, 256] inb_S1x1x2048x512_S1x1x2048x256_0_0_0_256))

/-- The hidden block of a point: columns `512 (t % 11) + k` of the hidden layer. -/
theorem hidBlk_at (c : Dev nD) (t : Fin cfg0.N) (xn : Vec Ideal S768x2048 .bf16) (r : Fin 768) (k : Fin 512)
    (h : ∀ d, xn (ix2 r d) = rms (rowX m c (tok t r)) (gain m c) d) :
    hidBlk m c t xn (ix2 r k) = hidRow m c (tok t r) (col (t.val % 11) k) := by
  have e0 : ∀ (B : Vec Ideal S1x1x2048x512 .bf16) (d : Fin 2048) (hk : k.val < 256),
      View.ld B (Rect.unit ![0, 0, 0, 0] ![1, 1, 2048, 256] inb_S1x1x2048x512_S1x1x2048x256_0_0_0_0) (ix4 0 0 d ⟨k.val, hk⟩) = B (ix4 0 0 d k) := fun B d hk => by
    pointwise
  have e1 : ∀ (B : Vec Ideal S1x1x2048x512 .bf16) (d : Fin 2048) (hk : ¬ k.val < 256),
      View.ld B (Rect.unit ![0, 0, 0, 256] ![1, 1, 2048, 256] inb_S1x1x2048x512_S1x1x2048x256_0_0_0_256) (ix4 0 0 d ⟨k.val - 256, by omega⟩) = B (ix4 0 0 d k) := fun B d hk => by
    pointwise
    exact congrArg B (congrArg (ix4 0 0 d) (Fin.ext (by show 256 + (k.val - 256) = k.val; omega)))
  unfold hidBlk
  rw [hid_at]
  split
  · next hk =>
    have s1 := fun d => congrArg₂ (· * ·) (h d) ((e0 (iblk m c 2 t) d hk).trans ((blk2 m c t d k).trans (Vw1 m c d _)))
    have s3 := fun d => congrArg₂ (· * ·) (h d) ((e0 (iblk m c 3 t) d hk).trans ((blk3 m c t d k).trans (Vw3 m c d _)))
    exact congrArg₂ (· * ·) (congrArg₂ (· * ·) (Finset.sum_congr rfl fun d _ => s1 d) (congrArg Ideal.logistic (Finset.sum_congr rfl fun d _ => s1 d)))
      (Finset.sum_congr rfl fun d _ => s3 d)
  · next hk =>
    have s1 := fun d => congrArg₂ (· * ·) (h d) ((e1 (iblk m c 2 t) d hk).trans ((blk2 m c t d k).trans (Vw1 m c d _)))
    have s3 := fun d => congrArg₂ (· * ·) (h d) ((e1 (iblk m c 3 t) d hk).trans ((blk3 m c t d k).trans (Vw3 m c d _)))
    exact congrArg₂ (· * ·) (congrArg₂ (· * ·) (Finset.sum_congr rfl fun d _ => s1 d) (congrArg Ideal.logistic (Finset.sum_congr rfl fun d _ => s1 d)))
      (Finset.sum_congr rfl fun d _ => s3 d)

/-- A point's normalised rows. -/
theorem norm_blk (c : Dev nD) (t : Fin cfg0.N) (r : Fin 768) (d : Fin 2048) :
    k0_pay3 (F := Ideal) (iblk m c 0 t) (iblk m c 1 t) (ix2 r d) = rms (rowX m c (tok t r)) (gain m c) d := by
  rw [norm_at]
  congr 1
  · funext d
    rw [blk0, V_main_arg0]
  · funext d
    rw [blk1, Vgain]

/-- One accumulation: the point's hidden block times its rows of the projection back. -/
theorem acc_blk (c : Dev nD) (t : Fin cfg0.N) (a : FVec Ideal S768x2048 .f32) (xn : Vec Ideal S768x2048 .bf16) (r : Fin 768) (d : Fin 2048)
    (h : ∀ d, xn (ix2 r d) = rms (rowX m c (tok t r)) (gain m c) d) :
    k0_pay1 (F := Ideal) a (hidBlk m c t xn) (iblk m c 4 t) (ix2 r d)
      = a (ix2 r d) + part (hidRow m c (tok t r)) (w2 m c) (t.val % 11) d := by
  rw [acc_at]
  refine congrArg _ (Finset.sum_congr rfl fun k _ => ?_)
  rw [hidBlk_at m c t xn r k h, blk4, Vw2]

/-- The first point of a block of tokens: the accumulator. -/
theorem first_acc (c : Dev nD) (t : Fin cfg0.N) (h0 : t.val % 11 = 0) :
    (outsAt0 m c t.val t.isLt).1 = k0_pay1 (k0_pay5 k0_pay4) (hidBlk m c t (k0_pay3 (iblk m c 0 t) (iblk m c 1 t))) (iblk m c 4 t) := by
  rw [outsAt0_A m c t h0 (by omega)]
  dsimp only
  frame_out
  rfl

/-- The first point of a block of tokens: the normalised rows. -/
theorem first_norm (c : Dev nD) (t : Fin cfg0.N) (h0 : t.val % 11 = 0) :
    (outsAt0 m c t.val t.isLt).2 = k0_pay3 (iblk m c 0 t) (iblk m c 1 t) := by
  rw [outsAt0_A m c t h0 (by omega)]
  dsimp only
  frame_out

/-- A later point: the accumulator. -/
theorem next_acc (c : Dev nD) (t : Fin cfg0.N) (h0 : ¬t.val % 11 = 0) (h1 : ¬t.val % 11 = 10) :
    (outsAt0 m c t.val t.isLt).1 = k0_pay1 (k0_pay5 (outsAt0 m c (t.val - 1) (Nat.lt_of_le_of_lt (Nat.sub_le _ _) t.isLt)).1) (hidBlk m c t (outsAt0 m c (t.val - 1) (Nat.lt_of_le_of_lt (Nat.sub_le _ _) t.isLt)).2) (iblk m c 4 t) := by
  rw [outsAt0_B m c t h0 h1]
  dsimp only
  frame_out
  simp only [read_unread_whole]
  rfl

/-- A later point leaves the normalised rows. -/
theorem next_norm (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]
  dsimp only
  unfold sout0_B_0
  rfl

/-- The last point of a block of tokens: the output. -/
theorem last_out0 (c : Dev nD) (t : Fin cfg0.N) (h1 : t.val % 11 = 10) :
    (outsAt0 m c t.val t.isLt).1 = k0_pay2 (iblk m c 0 t)
      (k0_pay1 (k0_pay5 (outsAt0 m c (t.val - 1) (Nat.lt_of_le_of_lt (Nat.sub_le _ _) t.isLt)).1) (hidBlk m c t (outsAt0 m c (t.val - 1) (Nat.lt_of_le_of_lt (Nat.sub_le _ _) t.isLt)).2) (iblk m c 4 t)) (iblk m c 5 t) := by
  rw [outsAt0_C m c t (by omega) h1]
  dsimp only
  frame_out
  simp only [read_unread_whole]
  rfl

/-- After a point before the last of its block: the normalised rows, and the sum of the blocks of columns so far. -/
theorem sweep (c : Dev nD) : ∀ (n : ℕ) (h : n < cfg0.N), n % 11 ≠ 10 → ∀ (r : Fin 768) (d : Fin 2048),
    (outsAt0 m c n h).2 (ix2 r d) = rms (rowX m c (tok ⟨n, h⟩ r)) (gain m c) d
    ∧ (outsAt0 m c n h).1 (ix2 r d) = ∑ s ∈ Finset.range (n % 11 + 1), part (hidRow m c (tok ⟨n, h⟩ r)) (w2 m c) s d := by
  intro n
  induction n with
  | zero =>
    intro h _ r d
    refine ⟨(congrFun (first_norm m c ⟨0, h⟩ rfl) _).trans (norm_blk m c ⟨0, h⟩ r d), (congrFun (first_acc m c ⟨0, h⟩ rfl) _).trans ?_⟩
    rw [acc_blk m c ⟨0, h⟩ _ _ r d (norm_blk m c ⟨0, h⟩ r), reread, zero_at, zero_add]
    exact (Finset.sum_range_one (fun s => part (hidRow m c (tok ⟨0, h⟩ r)) (w2 m c) s d)).symm
  | succ n ih =>
    intro h h1 r d
    by_cases h0 : (n + 1) % 11 = 0
    · refine ⟨(congrFun (first_norm m c ⟨n + 1, h⟩ h0) _).trans (norm_blk m c ⟨n + 1, h⟩ r d), (congrFun (first_acc m c ⟨n + 1, h⟩ h0) _).trans ?_⟩
      rw [acc_blk m c ⟨n + 1, h⟩ _ _ r d (norm_blk m c ⟨n + 1, h⟩ r), reread, zero_at, zero_add, h0]
      exact (Finset.sum_range_one (fun s => part (hidRow m c (tok ⟨n + 1, h⟩ r)) (w2 m c) s d)).symm
    · have hn : n < cfg0.N := Nat.lt_of_succ_lt h
      have et : tok ⟨n + 1, h⟩ r = tok ⟨n, hn⟩ r := Fin.ext (by show (n + 1) / 11 * 768 + r.val = n / 11 * 768 + r.val; congr 2; omega)
      have hp := fun d => ih hn (by omega) r d
      refine ⟨(congrFun (next_norm m c ⟨n + 1, h⟩ h0 h1) _).trans (((hp d).1).trans (by rw [et])),
        (congrFun (next_acc m c ⟨n + 1, h⟩ h0 h1) _).trans ?_⟩
      refine (acc_blk m c ⟨n + 1, h⟩ _ _ r d (fun d => ((hp d).1).trans (by rw [et]))).trans ?_
      rw [reread]
      refine (congrArg (· + _) (hp d).2).trans ?_
      have e1 : (n + 1) % 11 = n % 11 + 1 := by omega
      dsimp only
      rw [← et, e1]
      exact (Finset.sum_range_succ (fun s => part (hidRow m c (tok ⟨n + 1, h⟩ r)) (w2 m c) s d) _).symm

/-- The full accumulator at the last point of a block. -/
theorem last_acc (c : Dev nD) (t : Fin cfg0.N) (h1 : t.val % 11 = 10) (r : Fin 768) (d : Fin 2048) :
    k0_pay1 (F := Ideal) (k0_pay5 (outsAt0 m c (t.val - 1) (Nat.lt_of_le_of_lt (Nat.sub_le _ _) t.isLt)).1) (hidBlk m c t (outsAt0 m c (t.val - 1) (Nat.lt_of_le_of_lt (Nat.sub_le _ _) t.isLt)).2) (iblk m c 4 t) (ix2 r d)
      = ∑ f, hidRow m c (tok t r) f * w2 m c f d := by
  have hn : t.val - 1 < cfg0.N := Nat.lt_of_le_of_lt (Nat.sub_le _ _) t.isLt
  have et : tok t r = tok ⟨t.val - 1, hn⟩ r := Fin.ext (by show t.val / 11 * 768 + r.val = (t.val - 1) / 11 * 768 + r.val; congr 2; omega)
  have hp := fun d => sweep m c (t.val - 1) hn (by omega) r d
  rw [acc_blk m c t _ _ r d (fun d => ((hp d).1).trans (by rw [et])), reread, ← sum_parts]
  refine (congrArg (· + _) (hp d).2).trans ?_
  rw [← et, show (t.val - 1) % 11 + 1 = 10 by omega, h1]
  exact (Finset.sum_range_succ (fun s => part (hidRow m c (tok t r)) (w2 m c) s d) _).symm

/-- The feed-forward part of a token. -/
abbrev ffnRow (c : Dev nD) (R : Fin 9216) : Fin 2048 → EReal := ffn (rowX m c R) (gain m c) (w1 m c) (w3 m c) (w2 m c)

/-- The gain of the norm after the feed-forward part. -/
abbrev gain2 (c : Dev nD) : Fin 2048 → EReal := fun d => (m ((c : Thread nD τ).loc main_arg5) : (⟨S2048, .f32⟩ : BufTy).Contents (Elt Ideal)) (ix1 d)

/-- The last point of a block of tokens leaves the norm of the feed-forward part of each token. -/
theorem out0_at (c : Dev nD) (t : Fin cfg0.N) (h1 : t.val % 11 = 10) (r : Fin 768) (d : Fin 2048) :
    (outsAt0 m c t.val t.isLt).1 (ix2 r d) = rms (ffnRow m c (tok t r)) (gain2 m c) d := by
  rw [last_out0 m c t h1]
  rw [post_at]
  congr 1
  · funext d
    rw [last_acc m c t h1 r d, blk0, V_main_arg0]
    rfl
  · funext d
    rw [blk5, Vpost]

end Cert.FfnFinalVal
end
-- ==== Proof.FfnFinalRef.lean ====
module

public import proofs.«01_k».proof.Defs
public import proofs.«01_k».proof.Proof.Gen.FfnFinalRefIdeal.Read
public import proofs.«01_k».proof.Proof.FfnSpec
public import Idealize.ShloMosaic.Lib.Claim
public import Idealize.ShloMosaic.Lib.Pipeline.ValueKit
public import Idealize.ShloMosaic.Lib.ValueIdx
public import Idealize.ShloMosaic.Lib.Pointwise

/-! The last feed-forward part: the reference at a token and column. -/

@[expose] public section

set_option maxRecDepth 16384

noncomputable section

open Idealize.ShloMosaic Idealize.ShloMosaic.TcCoe Idealize.SL.Sem
open Idealize.ShloMosaic.Pipeline (Dat)

namespace Cert.FfnFinalRef

open Cert.FfnFinalRefIdeal Cert.FfnFinalRefIdeal.Read Cert.FfnSpec

/-- The normalised input. -/
theorem norm_at (x0 : (⟨S9216x2048, .f32⟩ : BufTy).Contents (Elt Ideal)) (x1 : (⟨S2x3x2048, .f32⟩ : BufTy).Contents (Elt Ideal)) (R : Fin 9216) (d : Fin 2048) :
    val_main_v14 (F := Ideal) x0 x1 (ix2 R d) = rms (fun d => x0 (ix2 R d)) (fun d => x1 (ix3 1 2 d)) d := by
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14]
  rfl

/-- The hidden layer. -/
theorem hid_at (x0 : (⟨S9216x2048, .f32⟩ : BufTy).Contents (Elt Ideal)) (x1 : (⟨S2x3x2048, .f32⟩ : BufTy).Contents (Elt Ideal)) (x2 x3 : (⟨S2x2x2048x5632, .f32⟩ : BufTy).Contents (Elt Ideal)) (R : Fin 9216) (f : Fin 5632) :
    val_main_v24 (F := Ideal) x0 x1 x2 x3 (ix2 R f)
      = hid (rms (fun d => x0 (ix2 R d)) (fun d => x1 (ix3 1 2 d))) (fun d f => x2 (ix4 1 1 d f)) (fun d f => x3 (ix4 1 1 d f)) f := by
  pointwise [val_main_v15, val_main_v16, val_main_v17, val_main_v18, val_main_v19, val_main_v20, val_main_v21, val_main_call0_v0, val_main_call0_v1, val_main_call0_cst, val_main_call0_v2, val_main_call0_v3, val_main_call0_cst_0, val_main_call0_v4, val_main_call0_v5, val_main_v22, val_main_v23, val_main_v24]
  simp only [norm_at]
  rfl

/-- The feed-forward part with its residual. -/
theorem ffn_at (x0 : (⟨S9216x2048, .f32⟩ : BufTy).Contents (Elt Ideal)) (x1 : (⟨S2x3x2048, .f32⟩ : BufTy).Contents (Elt Ideal)) (x2 x3 : (⟨S2x2x2048x5632, .f32⟩ : BufTy).Contents (Elt Ideal))
    (x4 : (⟨S2x2x5632x2048, .f32⟩ : BufTy).Contents (Elt Ideal)) (R : Fin 9216) (d : Fin 2048) :
    val_main_v28 (F := Ideal) x0 x1 x2 x3 x4 (ix2 R d)
      = ffn (fun d => x0 (ix2 R d)) (fun d => x1 (ix3 1 2 d)) (fun d f => x2 (ix4 1 1 d f)) (fun d f => x3 (ix4 1 1 d f))
          (fun f d => x4 (ix4 1 1 f d)) d := by
  pointwise [val_main_v19, val_main_v20, val_main_v25, val_main_cst_2, val_main_v26, val_main_v27, val_main_v28]
  simp only [hid_at]
  rfl

/-- The norm of the feed-forward part. -/
theorem post_at (x0 : (⟨S9216x2048, .f32⟩ : BufTy).Contents (Elt Ideal)) (x1 : (⟨S2x3x2048, .f32⟩ : BufTy).Contents (Elt Ideal)) (x2 x3 : (⟨S2x2x2048x5632, .f32⟩ : BufTy).Contents (Elt Ideal))
    (x4 : (⟨S2x2x5632x2048, .f32⟩ : BufTy).Contents (Elt Ideal)) (x5 : (⟨S2048, .f32⟩ : BufTy).Contents (Elt Ideal)) (R : Fin 9216) (d : Fin 2048) :
    val_main_v41 (F := Ideal) x0 x1 x2 x3 x4 x5 (ix2 R d)
      = rms (fun d => ffn (fun d => x0 (ix2 R d)) (fun d => x1 (ix3 1 2 d)) (fun d f => x2 (ix4 1 1 d f)) (fun d f => x3 (ix4 1 1 d f))
          (fun f d => x4 (ix4 1 1 f d)) d) (fun d => x5 (ix1 d)) d := by
  pointwise [val_main_v29, val_main_cst_3, val_main_v30, val_main_v31, val_main_cst_4, val_main_v32, val_main_v33, val_main_cst_5, val_main_v34, val_main_v35, val_main_v36, val_main_v37, val_main_v38, val_main_v39, val_main_v40, val_main_v41]
  simp only [ffn_at]
  rfl

end Cert.FfnFinalRef
end
-- ==== Proof.FfnFinalClaim.lean ====
module

public import proofs.«01_k».proof.Defs
public import proofs.«01_k».proof.Proof.Gen.FfnFinalIdeal.Value
public import proofs.«01_k».proof.Proof.Gen.FfnFinalRefIdeal.Read
public import proofs.«01_k».proof.Proof.Gen.FfnFinalRefIdeal.Run
public import proofs.«01_k».proof.Proof.FfnFinalSweep
public import proofs.«01_k».proof.Proof.FfnFinalRef
public import Idealize.ShloMosaic.Lib.Claim
public import Idealize.ShloMosaic.Lib.Pipeline.ValueKit
public import Idealize.ShloMosaic.Lib.ValueIdx
public import Idealize.ShloMosaic.Lib.Pointwise

/-! The last feed-forward part: the arrays after the run, and the claim that kernel and reference leave equal results. -/

@[expose] public section

set_option maxRecDepth 16384

noncomputable section

open Idealize.ShloMosaic Idealize.ShloMosaic.TcCoe Idealize.SL.Sem
open Idealize.ShloMosaic.Pipeline (Dat)

namespace Cert.FfnFinalVal

open Cert.FfnFinalIdeal Cert.FfnFinalIdeal.Gen Cert.FfnSpec

variable (m : (ℓ : Loc nD τ sig) → Buf (Elt Ideal) ℓ)

/-- Output 0 after the run: the norm of the feed-forward part of every token. -/
theorem arr0 (c : Dev nD) : (dats m 0 c).arrAt 6 cfg0.N
    = fun i : S9216x2048.Idx => rms (ffnRow m c (i 0)) (gain2 m c) (i 1) := by
  refine (dats m 0 c).arrAt_eq_of_covers 6 _ (by decide +kernel) fun t hf y => ?_
  have h1 : t.val % 11 = 10 := (flush0_6 t).mp hf
  blk_simp
  idx_vars y
  have := lt_N t
  have e : ((View.whole main_v7).slice (win0_6.rect t)).emb (ix2 y0 y1) = ix2 (tok t y0) y1 := by
    blk_ext [(idx t).2.2.2.2.2.2, tok]
  rw [after0_6]
  refine (out0_at m c t h1 y0 y1).trans ?_
  rw [e]
  rfl

/-- The kernel and the reference leave equal results. -/
theorem algebraic : Cert.algebraic_FfnFinalIdeal_FfnFinalRefIdeal := by
  intro m g m' g' _ hagree
  refine ⟨fun c => (dats m 0 c).arrAt 6 cfg0.N, Cert.FfnFinalIdeal.Value.run_blocks m g, ?_⟩
  refine (θ_run _ _ _).mono (fun r h c => ?_) (Cert.FfnFinalRefIdeal.Value.run m' g')
  obtain ⟨h1, h2⟩ := h c
  refine ⟨h1.trans ?_, h2⟩
  · rw [Cert.FfnFinalRefIdeal.Read.val_main_v41_eq, (hagree c).1, (hagree c).2.1, (hagree c).2.2.1, (hagree c).2.2.2.1, (hagree c).2.2.2.2.1, (hagree c).2.2.2.2.2]
    refine Eq.trans ?_ (arr0 m c).symm
    funext i
    idx_vars i
    exact Cert.FfnFinalRef.post_at _ _ _ _ _ _ i0 i1

end Cert.FfnFinalVal
end
-- ==== Proof.InprojClaim.lean ====
module

public import proofs.«01_k».proof.Defs
public import proofs.«01_k».proof.Proof.Gen.InprojIdeal.Value
public import proofs.«01_k».proof.Proof.Gen.InprojRefIdeal.Read
public import proofs.«01_k».proof.Proof.Gen.InprojRefIdeal.Run
public import Idealize.ShloMosaic.Lib.Claim
public import Idealize.ShloMosaic.Lib.Pipeline.ValueKit
public import Idealize.ShloMosaic.Lib.ValueIdx
public import Idealize.ShloMosaic.Lib.Pointwise

/-! The projection into the first layer's mixers: the array after the run, and the claim that kernel and reference leave equal results. -/

@[expose] public section

set_option maxRecDepth 16384

noncomputable section

open Idealize.ShloMosaic Idealize.ShloMosaic.TcCoe Idealize.SL.Sem
open Idealize.ShloMosaic.Pipeline (Dat)

namespace Cert.InprojVal

open Cert.InprojIdeal Cert.InprojIdeal.Gen

variable (m : (ℓ : Loc nD τ sig) → Buf (Elt Ideal) ℓ)

/-- The product of a point's blocks, at an index. -/
theorem pay_at (x : Vec Ideal S1152x2048 .bf16) (w : Vec Ideal S2048x1792 .bf16) (r : Fin 1152) (f : Fin 1792) :
    k0_pay2 (F := Ideal) x w (ix2 r f) = ∑ k : Fin 2048, x (ix2 r k) * w (ix2 k f) := by
  unfold k0_pay2
  pointwise

/-- The grid has 4 column blocks of 8 row blocks each. -/
theorem lt_N (t : Fin cfg0.N) : t.val < 32 := lt_of_lt_of_eq t.isLt (show cfg0.N = 32 from N_0)

/-- The token that row `r` of point `t`'s block is. -/
def tok (t : Fin cfg0.N) (r : Fin 1152) : Fin 9216 := ⟨t.val % 8 * 1152 + r.val, by omega⟩

/-- The column that column `f` of point `t`'s block is. -/
def colOf (t : Fin cfg0.N) (f : Fin 1792) : Fin 7168 := ⟨t.val / 8 * 1792 + f.val, by have := lt_N t; omega⟩

/-- The tile that tile `q` of point `t`'s block is. -/
def tile (t : Fin cfg0.N) (q : Fin 14) : Fin 56 := ⟨t.val / 8 * 14 + q.val, by have := lt_N t; omega⟩

/-- Where each window's block lies. -/
theorem idx (t : Fin cfg0.N) : win0_0.index t = ![t.val % 8, 0] ∧ win0_1.index t = ![0, t.val / 8] ∧ win0_2.index t = ![t.val / 8, t.val % 8, 0] := by
  revert t
  decide +kernel

/-- A point's block of the normalised tokens. -/
theorem blk0 (c : Dev nD) (t : Fin cfg0.N) (r : Fin 1152) (d : Fin 2048) : iblk m c 0 t (ix2 r d) = V m c main_arg0 (ix2 (tok t r) d) := by
  blk_ext [iblk, V, (idx t).1, tok]

/-- A point's block of the weights. -/
theorem blk1 (c : Dev nD) (t : Fin cfg0.N) (k : Fin 2048) (f : Fin 1792) : iblk m c 1 t (ix2 k f) = V m c main_v1 (ix2 k (colOf t f)) := by
  have := lt_N t
  blk_ext [iblk, V, (idx t).2.1, colOf]

/-- The weights. -/
theorem Vw (c : Dev nD) (k : Fin 2048) (f : Fin 7168) : V m c main_v1 (ix2 k f) = m ((c : Thread nD τ).loc main_arg1) (ix3 0 k f) := by
  entry_read
  pointwise

/-- The projection of a token: column `f`. -/
def zAt (x : (⟨S9216x2048, .bf16⟩ : BufTy).Contents (Elt Ideal)) (w : (⟨S1x2048x7168, .f32⟩ : BufTy).Contents (Elt Ideal)) (R : Fin 9216) (f : Fin 7168) : EReal :=
  ∑ k : Fin 2048, x (ix2 R k) * w (ix3 0 k f)

/-- The projection laid out in column tiles: tile `i 0` holds 128 columns of it. -/
def zTiles (x : (⟨S9216x2048, .bf16⟩ : BufTy).Contents (Elt Ideal)) (w : (⟨S1x2048x7168, .f32⟩ : BufTy).Contents (Elt Ideal)) (i : S56x9216x128.Idx) : EReal :=
  zAt x w (i 1) ⟨(i 0).val * 128 + (i 2).val, by have : (i 0).val < 56 := (i 0).isLt; have : (i 2).val < 128 := (i 2).isLt; omega⟩

/-- What a point leaves in its block: the product's columns in tiles. -/
theorem out_at (c : Dev nD) (t : Fin cfg0.N) (y0 : Fin 14) (y1 : Fin 1152) (y2 : Fin 128) :
    out0_2 (F := Ideal) (iblk m c 0 t) (iblk m c 1 t) (ix3 y0 y1 y2)
      = k0_pay2 (F := Ideal) (View.ld (iblk m c 0 t) r0_0) (View.ld (iblk m c 1 t) r0_1) (ix2 y1 ⟨y0.val * 128 + y2.val, by omega⟩) := by
  unfold_out out0_2
  rw [Cert.InprojIdeal.Value.canon2_eq]
  have e : Cert.InprojIdeal.Value.ix2_0 (ix3 y0 y1 y2) = ix2 y1 ⟨y0.val * 128 + y2.val, by omega⟩ := by
    funext a
    match a with
    | ⟨0, _⟩ => rfl
    | ⟨1, _⟩ => rfl
  exact congrArg (k0_pay2 (F := Ideal) _ _) e

/-- What a point leaves in its block: its tiles of the projection of its tokens. -/
theorem out_z (c : Dev nD) (t : Fin cfg0.N) (y0 : Fin 14) (y1 : Fin 1152) (y2 : Fin 128) :
    out0_2 (F := Ideal) (iblk m c 0 t) (iblk m c 1 t) (ix3 y0 y1 y2)
      = zTiles (m ((c : Thread nD τ).loc main_arg0)) (m ((c : Thread nD τ).loc main_arg1)) (ix3 (tile t y0) (tok t y1) y2) := by
  rw [out_at, pay_at]
  have e0 : ∀ k : Fin 2048, View.ld (iblk m c 0 t) r0_0 (ix2 y1 k) = (m ((c : Thread nD τ).loc main_arg0) : (⟨S9216x2048, .bf16⟩ : BufTy).Contents (Elt Ideal)) (ix2 (tok t y1) k) := fun k => by
    pointwise
    exact (blk0 m c t y1 k).trans (congrFun (V_main_arg0 m c) _)
  have e1 : ∀ (k : Fin 2048) (f : Fin 1792), View.ld (iblk m c 1 t) r0_1 (ix2 k f) = (m ((c : Thread nD τ).loc main_arg1) : (⟨S1x2048x7168, .f32⟩ : BufTy).Contents (Elt Ideal)) (ix3 0 k (colOf t f)) := fun k f => by
    pointwise
    exact (blk1 m c t k f).trans (Vw m c k (colOf t f))
  unfold zTiles zAt
  refine Finset.sum_congr rfl fun k _ => ?_
  rw [e0, e1]
  refine congrArg _ ?_
  refine congrArg (m ((c : Thread nD τ).loc main_arg1)) (congrArg (ix3 0 k) (Fin.ext ?_))
  show t.val / 8 * 1792 + (y0.val * 128 + y2.val) = (t.val / 8 * 14 + y0.val) * 128 + y2.val
  omega

/-- The projection after the run. -/
theorem arr (c : Dev nD) : (dats m 0 c).arrAt 2 cfg0.N = zTiles (m ((c : Thread nD τ).loc main_arg0)) (m ((c : Thread nD τ).loc main_arg1)) := by
  refine (dats m 0 c).arrAt_eq_of_covers 2 _ (by decide +kernel) fun t hf y => ?_
  blk_simp
  idx_vars y
  have := lt_N t
  have e : ((View.whole main_v2).slice (win0_2.rect t)).emb (ix3 y0 y1 y2) = ix3 (tile t y0) (tok t y1) y2 := by
    blk_ext [(idx t).2.2, tok, tile]
  rw [after0_2]
  refine Eq.trans ?_ (congrArg (zTiles (m ((c : Thread nD τ).loc main_arg0)) (m ((c : Thread nD τ).loc main_arg1))) e.symm)
  exact out_z m c t y0 y1 y2

/-- The reference at a tile, token and column. -/
theorem ref_at (x : (⟨S9216x2048, .bf16⟩ : BufTy).Contents (Elt Ideal)) (w : (⟨S1x2048x7168, .f32⟩ : BufTy).Contents (Elt Ideal)) (q : Fin 56) (R : Fin 9216) (d : Fin 128) :
    Cert.InprojRefIdeal.Read.val_main_v4 (F := Ideal) x w (ix3 q R d) = zAt x w R ⟨q.val * 128 + d.val, by omega⟩ := by
  pointwise [Cert.InprojRefIdeal.Read.val_main_v0, Cert.InprojRefIdeal.Read.val_main_v1, Cert.InprojRefIdeal.Read.val_main_v2, Cert.InprojRefIdeal.Read.val_main_v3, Cert.InprojRefIdeal.Read.val_main_v4]
  rfl

/-- The kernel and the reference leave equal results. -/
theorem algebraic : Cert.algebraic_InprojIdeal_InprojRefIdeal := by
  intro m g m' g' _ hagree
  refine ⟨fun c => (dats m 0 c).arrAt 2 cfg0.N, Cert.InprojIdeal.Value.run_blocks m g, ?_⟩
  refine (θ_run _ _ _).mono (fun r h c => ?_) (Cert.InprojRefIdeal.Value.run m' g')
  obtain ⟨h1, h2⟩ := h c
  refine ⟨h1.trans ?_, h2⟩
  rw [Cert.InprojRefIdeal.Read.val_main_v4_eq, (hagree c).1, (hagree c).2]
  refine Eq.trans ?_ (arr m c).symm
  funext i
  idx_vars i
  exact ref_at _ _ i0 i1 i2

end Cert.InprojVal
end
-- ==== Proof.OutprojClaim.lean ====
module

public import proofs.«01_k».proof.Defs
public import proofs.«01_k».proof.Proof.Gen.OutprojIdeal.Value
public import proofs.«01_k».proof.Proof.Gen.OutprojRefIdeal.Read
public import proofs.«01_k».proof.Proof.Gen.OutprojRefIdeal.Run
public import Idealize.ShloMosaic.Lib.Claim
public import Idealize.ShloMosaic.Lib.Pipeline.ValueKit
public import Idealize.ShloMosaic.Lib.ValueIdx
public import Idealize.ShloMosaic.Lib.Pointwise

/-! The projection out of a layer's mixers: the array after the run, and the claim that kernel and reference leave equal results. -/

@[expose] public section

set_option maxRecDepth 16384

noncomputable section

open Idealize.ShloMosaic Idealize.ShloMosaic.TcCoe Idealize.SL.Sem
open Idealize.ShloMosaic.Pipeline (Dat)

namespace Cert.OutprojVal

open Cert.OutprojIdeal Cert.OutprojIdeal.Gen

variable (m : (ℓ : Loc nD τ sig) → Buf (Elt Ideal) ℓ)

/-- What a point stores, at an index: the residual's row plus the product's. -/
theorem pay_at (x : Vec Ideal S512x2048 .f32) (y : Vec Ideal S512x2048 .bf16) (w : Vec Ideal S2048x2048 .bf16) (r : Fin 512) (d : Fin 2048) :
    k0_pay1 (F := Ideal) x y w (ix2 r d) = x (ix2 r d) + ∑ k : Fin 2048, y (ix2 r k) * w (ix2 k d) := by
  unfold k0_pay1
  pointwise

/-- The token that row `r` of point `t`'s block is. -/
def tok (t : Fin cfg0.N) (r : Fin 512) : Fin 9216 := ⟨t.val * 512 + r.val, by have := lt_of_lt_of_eq t.isLt (show cfg0.N = 18 from N_0); omega⟩

/-- Where each window's block lies. -/
theorem idx (t : Fin cfg0.N) : win0_0.index t = ![t.val, 0] ∧ win0_1.index t = ![t.val, 0] ∧ win0_2.index t = ![0, 0] ∧ win0_3.index t = ![t.val, 0] := by
  revert t
  decide +kernel

/-- A point's block of the residual. -/
theorem blk0 (c : Dev nD) (t : Fin cfg0.N) (r : Fin 512) (d : Fin 2048) : iblk m c 0 t (ix2 r d) = V m c main_arg0 (ix2 (tok t r) d) := by
  blk_ext [iblk, V, (idx t).1, tok]

/-- A point's block of the mixers' output. -/
theorem blk1 (c : Dev nD) (t : Fin cfg0.N) (r : Fin 512) (d : Fin 2048) : iblk m c 1 t (ix2 r d) = V m c main_arg1 (ix2 (tok t r) d) := by
  blk_ext [iblk, V, (idx t).2.1, tok]

/-- A point's block of the weights. -/
theorem blk2 (c : Dev nD) (t : Fin cfg0.N) (k d : Fin 2048) : iblk m c 2 t (ix2 k d) = V m c main_v1 (ix2 k d) := by
  blk_ext [iblk, V, (idx t).2.2.1]

/-- The weights. -/
theorem Vw (c : Dev nD) (k d : Fin 2048) : V m c main_v1 (ix2 k d) = m ((c : Thread nD τ).loc main_arg2) (ix3 0 k d) := by
  entry_read
  pointwise

/-- The output of a token: its residual plus the projection of its mixers' output. -/
def outRow (x : (⟨S9216x2048, .f32⟩ : BufTy).Contents (Elt Ideal)) (y : (⟨S9216x2048, .bf16⟩ : BufTy).Contents (Elt Ideal))
    (w : (⟨S1x2048x2048, .f32⟩ : BufTy).Contents (Elt Ideal)) (R : Fin 9216) (d : Fin 2048) : EReal :=
  x (ix2 R d) + ∑ k : Fin 2048, y (ix2 R k) * w (ix3 0 k d)

/-- The output after the run. -/
theorem arr (c : Dev nD) : (dats m 0 c).arrAt 3 cfg0.N = fun i : S9216x2048.Idx =>
    outRow (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  idx_vars y
  have := lt_of_lt_of_eq t.isLt (show cfg0.N = 18 from N_0)
  have e : ((View.whole main_v2).slice (win0_3.rect t)).emb (ix2 y0 y1) = ix2 (tok t y0) y1 := by
    blk_ext [(idx t).2.2.2, tok]
  rw [after0_3, e]
  frame_out
  rw [pay_at]
  refine congrArg₂ (· + ·) ((blk0 m c t y0 y1).trans (congrFun (V_main_arg0 m c) _)) (Finset.sum_congr rfl fun k _ => congrArg₂ (· * ·) ((blk1 m c t y0 k).trans (congrFun (V_main_arg1 m c) _)) ((blk2 m c t k y1).trans (Vw m c k y1)))

/-- The reference at a token and column. -/
theorem ref_at (x : (⟨S9216x2048, .f32⟩ : BufTy).Contents (Elt Ideal)) (y : (⟨S9216x2048, .bf16⟩ : BufTy).Contents (Elt Ideal))
    (w : (⟨S1x2048x2048, .f32⟩ : BufTy).Contents (Elt Ideal)) (R : Fin 9216) (d : Fin 2048) :
    Cert.OutprojRefIdeal.Read.val_main_v3 (F := Ideal) x y w (ix2 R d) = outRow x y w R d := by
  pointwise [Cert.OutprojRefIdeal.Read.val_main_v0, Cert.OutprojRefIdeal.Read.val_main_v1, Cert.OutprojRefIdeal.Read.val_main_v2, Cert.OutprojRefIdeal.Read.val_main_v3]
  rfl

/-- The kernel and the reference leave equal results. -/
theorem algebraic : Cert.algebraic_OutprojIdeal_OutprojRefIdeal := by
  intro m g m' g' _ hagree
  refine ⟨fun c => (dats m 0 c).arrAt 3 cfg0.N, Cert.OutprojIdeal.Value.run_blocks m g, ?_⟩
  refine (θ_run _ _ _).mono (fun r h c => ?_) (Cert.OutprojRefIdeal.Value.run m' g')
  obtain ⟨h1, h2⟩ := h c
  refine ⟨h1.trans ?_, h2⟩
  rw [Cert.OutprojRefIdeal.Read.val_main_v3_eq, (hagree c).1, (hagree c).2.1, (hagree c).2.2]
  refine Eq.trans ?_ (arr m c).symm
  funext i
  idx_vars i
  exact ref_at _ _ _ i0 i1

end Cert.OutprojVal
end
-- ==== Proof.MlBlk.lean ====
/- The mLSTM call on the sample group: where each grid point's blocks lie, and the arrays they are cut from. -/
module

public import proofs.«01_k».proof.Defs
public import proofs.«01_k».proof.Proof.Gen.MlstmIdeal.Value
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlstmIdeal.Ml

open Cert.MlstmIdeal Cert.MlstmIdeal.Gen

variable (m : (ℓ : Loc nD τ sig) → Buf (Elt Ideal) ℓ)

/-- The group of 32 sequences a grid point treats. -/
def sg (t : Fin cfg0.N) : Fin 4 := ⟨(grid0.coords t 0).val, (grid0.coords t 0).isLt⟩

/-- The head a grid point treats. -/
def hd (t : Fin cfg0.N) : Fin 4 := ⟨(grid0.coords t 1).val, (grid0.coords t 1).isLt⟩

/-- The sequence a grid point's local sequence `n` is. -/
def sq (t : Fin cfg0.N) (n : Fin 32) : Fin 128 := ⟨(sg t).val * 32 + n.val, by have := (sg t).isLt; omega⟩

/-- Where each window's block lies, at every grid point. -/
theorem idx (t : Fin cfg0.N) : win0_0.index t = ![(hd t).val, 32 + (sg t).val, 0]
    ∧ win0_1.index t = ![4 + (hd t).val, 32 + (sg t).val, 0]
    ∧ win0_2.index t = ![8 + (hd t).val, 32 + (sg t).val, 0]
    ∧ win0_4.index t = ![56, 32 + (sg t).val, 0]
    ∧ win0_5.index t = ![0, (hd t).val]
    ∧ win0_6.index t = ![0, 4 + (hd t).val] := by
  revert t
  decide +kernel

/-- Where the old states' blocks and the results' blocks lie, at every grid point. -/
theorem idx' (t : Fin cfg0.N) : win0_7.index t = ![0, 0]
    ∧ win0_10.index t = ![(sg t).val, 0, 4 + (hd t).val]
    ∧ win0_11.index t = ![(sg t).val, (hd t).val, 0, 0]
    ∧ win0_12.index t = ![(sg t).val, (hd t).val, 0, 0]
    ∧ win0_13.index t = ![(sg t).val, (hd t).val, 0, 0]
    ∧ win0_15.index t = ![(sg t).val, (hd t).val, 0, 0]
    ∧ win0_16.index t = ![(sg t).val, (hd t).val, 0, 0]
    ∧ win0_17.index t = ![(sg t).val, (hd t).val, 0, 0]
    ∧ win0_18.index t = ![(sg t).val, 0, (hd t).val]
    ∧ win0_19.index t = ![(sg t).val, 0, (hd t).val] := by
  revert t
  decide +kernel

/-- A point's block of the query columns. -/
theorem blk0 (c : Dev nD) (t : Fin cfg0.N) (e : Fin 2) (r : Fin 256) (d : Fin 128) :
    iblk m c 0 t (ix3 e r d) = V m c main_v7 (ix3 ⟨(hd t).val * 2 + e.val, by omega⟩ ⟨8192 + ((sg t).val * 256 + r.val), by omega⟩ d) := by
  blk_ext [iblk, V, (idx t).1]

/-- A point's block of the key columns. -/
theorem blk1 (c : Dev nD) (t : Fin cfg0.N) (e : Fin 2) (r : Fin 256) (d : Fin 128) :
    iblk m c 1 t (ix3 e r d) = V m c main_v7 (ix3 ⟨8 + ((hd t).val * 2 + e.val), by omega⟩ ⟨8192 + ((sg t).val * 256 + r.val), by omega⟩ d) := by
  blk_ext [iblk, V, (idx t).2.1]

/-- A point's block of the value columns. -/
theorem blk2 (c : Dev nD) (t : Fin cfg0.N) (e : Fin 2) (r : Fin 256) (d : Fin 128) :
    iblk m c 2 t (ix3 e r d) = V m c main_v7 (ix3 ⟨16 + ((hd t).val * 2 + e.val), by omega⟩ ⟨8192 + ((sg t).val * 256 + r.val), by omega⟩ d) := by
  blk_ext [iblk, V, (idx t).2.2.1]

/-- A point's block of the tail columns, in which the gates lie. -/
theorem blk4 (c : Dev nD) (t : Fin cfg0.N) (r : Fin 256) (d : Fin 128) :
    iblk m c 4 t (ix3 0 r d) = V m c main_v7 (ix3 56 ⟨8192 + ((sg t).val * 256 + r.val), by omega⟩ d) := by
  blk_ext [iblk, V, (idx t).2.2.2.1]

/-- A point's block of the key columns' convolution weights. -/
theorem blk6 (c : Dev nD) (t : Fin cfg0.N) (j : Fin 4) (d : Fin 256) :
    iblk m c 6 t (ix2 j d) = V m c main_v8 (ix2 j ⟨1024 + ((hd t).val * 256 + d.val), by omega⟩) := by
  blk_ext [iblk, V, (idx t).2.2.2.2.2]

/-- The gates' biases. -/
theorem blk7 (c : Dev nD) (t : Fin cfg0.N) (d : Fin 128) :
    iblk m c 7 t (ix2 0 d) = V m c main_v24 (ix2 0 d) := by
  blk_ext [iblk, V, (idx' t).1]

/-- A point's block of the key columns' last three tokens before the chunk. -/
theorem blk10 (c : Dev nD) (t : Fin cfg0.N) (n : Fin 32) (j : Fin 3) (d : Fin 256) :
    iblk m c 10 t (ix3 n j d) = V m c main_v15 (ix3 (sq t n) j ⟨1024 + ((hd t).val * 256 + d.val), by omega⟩) := by
  blk_ext [iblk, V, (idx' t).2.1, sq]

/-- A point's block of the old matrix state. -/
theorem blk11 (c : Dev nD) (t : Fin cfg0.N) (n : Fin 32) (d : Fin 256) (u : Fin 256) :
    iblk m c 11 t (ix4 n 0 d u) = V m c main_v12 (ix4 (sq t n) (hd t) d u) := by
  blk_ext [iblk, V, (idx' t).2.2.1, sq]

/-- A point's block of the old normalizer. -/
theorem blk12 (c : Dev nD) (t : Fin cfg0.N) (n : Fin 32) (u : Fin 256) :
    iblk m c 12 t (ix4 n 0 0 u) = V m c main_v25 (ix4 (sq t n) (hd t) 0 u) := by
  blk_ext [iblk, V, (idx' t).2.2.2.1, sq]

/-- A point's block of the old maximum. -/
theorem blk13 (c : Dev nD) (t : Fin cfg0.N) (n : Fin 32) (u : Fin 128) :
    iblk m c 13 t (ix4 n 0 0 u) = V m c main_v27 (ix4 (sq t n) (hd t) 0 u) := by
  blk_ext [iblk, V, (idx' t).2.2.2.2.1, sq]

end Cert.MlstmIdeal.Ml
end
-- ==== Proof.MlConv.lean ====
/- The mLSTM call on the sample group: the two convolution state blocks a grid point leaves. -/
module

public import proofs.«01_k».proof.Proof.MlBlk

@[expose] public section

set_option maxRecDepth 16384

noncomputable section

open Idealize.ShloMosaic Idealize.ShloMosaic.TcCoe Idealize.SL.Sem
open Idealize.ShloMosaic.Pipeline (Dat)

namespace Cert.MlstmIdeal.Ml

open Cert.MlstmIdeal Cert.MlstmIdeal.Gen

variable (m : (ℓ : Loc nD τ sig) → Buf (Elt Ideal) ℓ)

/-- Reading a block at equal coordinates. -/
theorem at3 {A B C : ℕ} (f : (⟨3, ![A, B, C]⟩ : Shape).Idx → EReal) {a a' : Fin A} {b b' : Fin B} {c c' : Fin C}
    (ha : a.val = a'.val) (hb : b.val = b'.val) (hc : c.val = c'.val) : f (ix3 a b c) = f (ix3 a' b' c') := by
  obtain rfl := Fin.ext ha
  obtain rfl := Fin.ext hb
  obtain rfl := Fin.ext hc
  rfl

set_option maxHeartbeats 8000000 in
/-- The query columns' convolution state a point leaves: the last three tokens of each sequence. -/
theorem after18 (c : Dev nD) (t : Fin cfg0.N) (n : Fin 32) (j : Fin 3) (d : Fin 256) :
    (dats m 0 c).after 18 t (ix3 n j d)
      = iblk m c 0 t (ix3 ⟨d.val / 128, by omega⟩ ⟨8 * n.val + 5 + j.val, by omega⟩ ⟨d.val % 128, by omega⟩) := by
  rw [after0_18]
  unfold outsAt0
  dsimp only
  frame_out
  canon_tiles x h
  all_goals
    idx_vars x
    unfold_payloads
    pointwise at h0 h1 h2 ⊢
    split <;> refine at3 (iblk m c 0 t) ?_ ?_ ?_ <;> (show _ = _; dsimp only [Fin.val_zero, Fin.val_one]; omega)

set_option maxHeartbeats 8000000 in
/-- The key columns' convolution state a point leaves: the last three tokens of each sequence. -/
theorem after19 (c : Dev nD) (t : Fin cfg0.N) (n : Fin 32) (j : Fin 3) (d : Fin 256) :
    (dats m 0 c).after 19 t (ix3 n j d)
      = iblk m c 1 t (ix3 ⟨d.val / 128, by omega⟩ ⟨8 * n.val + 5 + j.val, by omega⟩ ⟨d.val % 128, by omega⟩) := by
  rw [after0_19]
  unfold outsAt0
  dsimp only
  frame_out
  canon_tiles x h
  all_goals
    idx_vars x
    unfold_payloads
    pointwise at h0 h1 h2 ⊢
    split <;> refine at3 (iblk m c 1 t) ?_ ?_ ?_ <;> (show _ = _; dsimp only [Fin.val_zero, Fin.val_one]; omega)

end Cert.MlstmIdeal.Ml
end
-- ==== Proof.MlSpec.lean ====
/- The mLSTM mixer of the sample group: the gates and the new maximum as functions of the arguments. -/
module

public import proofs.«01_k».proof.Proof.MlBlk
public import proofs.«01_k».proof.Proof.Gen.MlstmRefIdeal.Run

@[expose] public section

set_option maxRecDepth 16384

noncomputable section

open Idealize.ShloMosaic Idealize.ShloMosaic.TcCoe Idealize.SL.Sem
open Idealize.ShloMosaic.Pipeline (Dat)

namespace Cert.Ml

open Cert.MlstmIdeal (S9216x7192 S9216x2048 S1x128x4x256x256 S1x128x4x256 S1x128x4 S1x128x3x2048 S1x4x2048 S1x4 S1x1024)

/-- The log of the logistic function, as the kernel computes it. -/
def lsig (z : EReal) : EReal := min z 0 - Ideal.log1p (Ideal.exp (0 - FloatOps.absf (F := Ideal) (φ := .f32) z))

/-- The running sum of a chunk's gates. -/
def bsum (f : Fin 8 → EReal) (p : Fin 8) : EReal := ∑ q : Fin 8, if q ≤ p then f q else 0

/-- One chunk's running maximum at row `p`: from the running sums `b`, the input gates `li` and the old maximum `mp`. -/
def mt8 (b li : Fin 8 → EReal) (mp : EReal) (p : Fin 8) : EReal :=
  max (b p + mp) (Finset.univ.sup fun s : Fin 8 => if s ≤ p then b p + (li s - b s) else ⊥)

/-- The row of a sample token. -/
def row (n : Fin 128) (q : Fin 8) : Fin 9216 := ⟨8192 + (n.val * 8 + q.val), by omega⟩

/-- The input gate of token `q` of sequence `n`, head `h`. -/
def gi (x0 : (⟨S9216x7192, .f32⟩ : BufTy).Contents (Elt Ideal)) (x7 : (⟨S1x4, .f32⟩ : BufTy).Contents (Elt Ideal)) (n : Fin 128) (h : Fin 4) (q : Fin 8) : EReal :=
  let z : S9216x7192.Idx → EReal := x0
  let b : S1x4.Idx → EReal := x7
  z (ix2 (row n q) ⟨4096 + h.val, by omega⟩) + b (ix2 0 h)

/-- The forget gate of token `q` of sequence `n`, head `h`, before the log of the logistic function. -/
def gf (x0 : (⟨S9216x7192, .f32⟩ : BufTy).Contents (Elt Ideal)) (x8 : (⟨S1x4, .f32⟩ : BufTy).Contents (Elt Ideal)) (n : Fin 128) (h : Fin 4) (q : Fin 8) : EReal :=
  let z : S9216x7192.Idx → EReal := x0
  let b : S1x4.Idx → EReal := x8
  z (ix2 (row n q) ⟨4100 + h.val, by omega⟩) + b (ix2 0 h)

/-- The new maximum of sequence `n`, head `h`. -/
def mnew (x0 : (⟨S9216x7192, .f32⟩ : BufTy).Contents (Elt Ideal)) (x4 : (⟨S1x128x4, .f32⟩ : BufTy).Contents (Elt Ideal)) (x7 x8 : (⟨S1x4, .f32⟩ : BufTy).Contents (Elt Ideal))
    (n : Fin 128) (h : Fin 4) : EReal :=
  mt8 (bsum fun q => lsig (gf x0 x8 n h q)) (gi x0 x7 n h) (x4 (ix3 0 n h)) 7

end Cert.Ml
end
-- ==== Proof.MlScat.lean ====
/- A scatter of a vector into part of a row of a matrix. -/
module

public import Idealize.ShloMosaic.Lib.Routing.OpsOne

@[expose] public section

noncomputable section

namespace Cert.Ml

open Idealize.ShloMosaic Idealize.ShloMosaic.Routing Idealize.ShloMosaic.ValueIdx

/-- A scatter of `U` entries into a row from the column the second index word names. -/
theorem scatter_row {R C U w : Nat} (d : ScatterDims (shape2 R C) (shape1 2) (shape1 U)) (hiw : d.insertedWindowDims = [0])
    (hsd : d.scatterDimsToOperandDims = [0, 1]) (hivd : d.indexVectorDim = 0) (idx : IVec (shape1 2) w) (k : Fin U) (r : Fin R) (c : Fin C) :
    d.resultIdx? (ix1 k) idx = some (ix2 r c) ↔ (idx (ix1 (0 : Fin 2))).toInt = r.val ∧ (idx (ix1 (1 : Fin 2))).toInt + (k.val : Int) = c.val := by
  have hwin1 : d.window (ix1 k) 1 = k.val := by
    have hk : d.sKept = [1] := by
      show (shape2 R C).kept d.insertedWindowDims = _
      rw [hiw]
      rfl
    unfold ScatterDims.window
    rw [dif_pos (by rw [hk]; simp)]
    exact congrArg (fun t => ((ix1 k : (shape1 U).Idx) t).val) (Subsingleton.elim (α := Fin 1) _ 0)
  have hwin0 : d.window (ix1 k) 0 = 0 := by
    unfold ScatterDims.window
    rw [dif_neg fun h => (of_decide_eq_true (List.mem_filter.1 h).2) (by rw [hiw]; simp)]
  rw [resultIdx?_ix2, start_pair d hsd hivd, start_pair d hsd hivd, hwin0, hwin1]
  omega

/-- Such a scatter read where its entry `k` lands. -/
theorem row_hit {α : Type} {R C U w : Nat} (d : ScatterDims (shape2 R C) (shape1 2) (shape1 U)) (hiw : d.insertedWindowDims = [0])
    (hsd : d.scatterDimsToOperandDims = [0, 1]) (hivd : d.indexVectorDim = 0) (x0 : (shape2 R C).Idx → α) (idx : IVec (shape1 2) w) (upd : (shape1 U).Idx → α)
    (r : Fin R) (c : Fin C) (k : Fin U) (h0 : (idx (ix1 (0 : Fin 2))).toInt = r.val) (h1 : (idx (ix1 (1 : Fin 2))).toInt + (k.val : Int) = c.val) :
    Host.scatter d (fun _ b => b) x0 idx upd (ix2 r c) = upd (ix1 k) := by
  refine scatter_set_hit d x0 idx upd _ _ (fun k' hk' => ?_) (ix1 k) ((scatter_row d hiw hsd hivd idx k r c).2 ⟨h0, h1⟩)
  have q := ((scatter_row d hiw hsd hivd idx (k' 0) r c).1 ((congrArg (fun t => d.resultIdx? t idx) (eq_ix1 k').symm).trans hk')).2
  rw [eq_ix1 k']
  refine congrArg (fun e => upd (ix1 e)) (Fin.ext ?_)
  show (k' 0).val = k.val
  omega

/-- Such a scatter read where no entry lands. -/
theorem row_miss {α : Type} {R C U w : Nat} (d : ScatterDims (shape2 R C) (shape1 2) (shape1 U)) (hiw : d.insertedWindowDims = [0])
    (hsd : d.scatterDimsToOperandDims = [0, 1]) (hivd : d.indexVectorDim = 0) (x0 : (shape2 R C).Idx → α) (idx : IVec (shape1 2) w) (upd : (shape1 U).Idx → α)
    (r : Fin R) (c : Fin C) (h : ∀ k : Fin U, (idx (ix1 (1 : Fin 2))).toInt + (k.val : Int) ≠ c.val) :
    Host.scatter d (fun _ b => b) x0 idx upd (ix2 r c) = x0 (ix2 r c) := by
  refine scatter_set_miss d x0 idx upd _ fun k' hk' => ?_
  exact h (k' 0) ((scatter_row d hiw hsd hivd idx (k' 0) r c).1 ((congrArg (fun t => d.resultIdx? t idx) (eq_ix1 k').symm).trans hk')).2

end Cert.Ml
end
-- ==== Proof.MlArr.lean ====
/- The mLSTM call on the sample group: the entry arrays in the arguments, and the convolution states the run leaves. -/
module

public import proofs.«01_k».proof.Proof.MlConv
public import proofs.«01_k».proof.Proof.MlSpec
public import proofs.«01_k».proof.Proof.MlScat

@[expose] public section

set_option maxRecDepth 16384

noncomputable section

open Idealize.ShloMosaic Idealize.ShloMosaic.TcCoe Idealize.SL.Sem
open Idealize.ShloMosaic.Pipeline (Dat)

namespace Cert.MlstmIdeal.Ml

open Cert.MlstmIdeal Cert.MlstmIdeal.Gen
open Cert.Ml (row)

variable (m : (ℓ : Loc nD τ sig) → Buf (Elt Ideal) ℓ)

/-- The projection argument. -/
abbrev X0 (c : Dev nD) : (⟨S9216x7192, .f32⟩ : BufTy).Contents (Elt Ideal) := m ((c : Thread nD τ).loc main_arg0)

set_option maxHeartbeats 2000000 in
/-- The columns cut into tiles of 128, the tile outermost. -/
theorem tiles_at (f : S9216x7680.Idx → EReal) (k : Fin 60) (r : Fin 9216) (d : Fin 128) :
    transpose S60x9216x128 [1, 0, 2] (shapeCast S9216x60x128 f shapeCasts_S9216x7680_S9216x60x128) transposes_S9216x60x128_S60x9216x128_1_0_2 (ix3 k r d)
      = f (ix2 r ⟨k.val * 128 + d.val, by omega⟩) := by
  pointwise

set_option maxHeartbeats 2000000 in
/-- The columns laid side by side. -/
theorem cols_at (f0 : S9216x4096.Idx → EReal) (f1 : S9216x3072.Idx → EReal) (f2 : S9216x8.Idx → EReal) (f3 : S9216x16.Idx → EReal) (f4 : S9216x488.Idx → EReal)
    (r : Fin 9216) (j : Fin 7680) :
    concatenate S9216x7680 1 [⟨S9216x4096, f0⟩, ⟨S9216x3072, f1⟩, ⟨S9216x8, f2⟩, ⟨S9216x16, f3⟩, ⟨S9216x488, f4⟩]
        concatenates_S9216x4096_S9216x3072_S9216x8_S9216x16_S9216x488_S9216x7680_d1 (ix2 r j)
      = if h : j.val < 4096 then f0 (ix2 r ⟨j.val, h⟩) else if h : j.val - 4096 < 3072 then f1 (ix2 r ⟨j.val - 4096, h⟩)
        else if h : j.val - 4096 - 3072 < 8 then f2 (ix2 r ⟨j.val - 4096 - 3072, h⟩)
        else if h : j.val - 4096 - 3072 - 8 < 16 then f3 (ix2 r ⟨j.val - 4096 - 3072 - 8, h⟩)
        else f4 (ix2 r ⟨j.val - 4096 - 3072 - 8 - 16, by omega⟩) := by
  pointwise

set_option maxHeartbeats 1000000 in
/-- The tiled projection when the grid starts: the columns in the kernel's order, cut into tiles. -/
theorem V7_eq (c : Dev nD) : V m c main_v7 = transpose (α := EReal) S60x9216x128 [1, 0, 2] (shapeCast (α := EReal) S9216x60x128 (concatenate (α := EReal) S9216x7680 1
  [⟨S9216x4096, extractStridedSlice (α := EReal) S9216x4096 ![0, 0] (m (c, Proc.tc.devRef main_arg0)) slices_S9216x7192_S9216x4096_0_0⟩,
   ⟨S9216x3072, extractStridedSlice (α := EReal) S9216x3072 ![0, 4104] (m (c, Proc.tc.devRef main_arg0)) slices_S9216x7192_S9216x3072_0_4104⟩,
   ⟨S9216x8, extractStridedSlice (α := EReal) S9216x8 ![0, 4096] (m (c, Proc.tc.devRef main_arg0)) slices_S9216x7192_S9216x8_0_4096⟩,
   ⟨S9216x16, extractStridedSlice (α := EReal) S9216x16 ![0, 7176] (m (c, Proc.tc.devRef main_arg0)) slices_S9216x7192_S9216x16_0_7176⟩,
   ⟨S9216x488, broadcastInDim S9216x488 ![] bcast_S_S9216x488 (constant (F := Ideal) S_ .f32 0#32)⟩]
        concatenates_S9216x4096_S9216x3072_S9216x8_S9216x16_S9216x488_S9216x7680_d1) shapeCasts_S9216x7680_S9216x60x128) transposes_S9216x60x128_S60x9216x128_1_0_2 := by
  rfl

set_option maxHeartbeats 2000000 in
/-- The tiled projection, at the columns before the gates. -/
theorem V7 (c : Dev nD) (k : Fin 60) (r : Fin 9216) (d : Fin 128) (hk : k.val < 32) :
    V m c main_v7 (ix3 k r d) = X0 m c (ix2 r ⟨k.val * 128 + d.val, by omega⟩) := by
  rw [V7_eq]
  refine (tiles_at _ _ _ _).trans ((cols_at _ _ _ _ _ _ _).trans ?_)
  rw [dif_pos (show k.val * 128 + d.val < 4096 by omega)]
  pointwise

set_option maxHeartbeats 2000000 in
/-- The tiled projection, at the gates' columns. -/
theorem V7g (c : Dev nD) (r : Fin 9216) (d : Fin 128) (hd : d.val < 8) :
    V m c main_v7 (ix3 56 r d) = X0 m c (ix2 r ⟨4096 + d.val, by omega⟩) := by
  rw [V7_eq]
  refine (tiles_at _ _ _ _).trans ((cols_at _ _ _ _ _ _ _).trans ?_)
  have h56 : (56 : Fin 60).val * 128 = 7168 := rfl
  rw [dif_neg (show ¬ (56 : Fin 60).val * 128 + d.val < 4096 by omega), dif_neg (show ¬ (56 : Fin 60).val * 128 + d.val - 4096 < 3072 by omega),
    dif_pos (show (56 : Fin 60).val * 128 + d.val - 4096 - 3072 < 8 by omega)]
  generalize hw : (⟨(56 : Fin 60).val * 128 + d.val - 4096 - 3072, by omega⟩ : Fin 8) = w
  have hv : w.val = d.val := by rw [← hw]; show (56 : Fin 60).val * 128 + d.val - 4096 - 3072 = d.val; omega
  have e : (⟨4096 + d.val, by omega⟩ : Fin 7192) = ⟨4096 + w.val, by omega⟩ := Fin.ext (by show 4096 + d.val = 4096 + w.val; omega)
  rw [e]
  pointwise

/-- The biases' lane of gate kind `k`, head `h`. -/
theorem V24 (c : Dev nD) (h : Fin 4) :
    V m c main_v24 (ix2 0 ⟨h.val, by omega⟩) = m ((c : Thread nD τ).loc main_arg7) (ix2 0 h)
    ∧ V m c main_v24 (ix2 0 ⟨4 + h.val, by omega⟩) = m ((c : Thread nD τ).loc main_arg8) (ix2 0 h) := by
  constructor
  · entry_read
    refine (Cert.Ml.row_miss _ rfl rfl rfl _ _ _ (0 : Fin 1) ⟨h.val, by omega⟩ fun k => ?_).trans ?_
    · show (4 : Int) + k.val ≠ h.val; omega
    refine (Cert.Ml.row_hit _ rfl rfl rfl _ _ _ (0 : Fin 1) ⟨h.val, by omega⟩ h rfl ?_).trans ?_
    · show (0 : Int) + h.val = h.val; omega
    show shapeCast main_v9.ty.shape (m (c, Proc.tc.devRef main_arg7)) shapeCasts_S1x4_S4 (ix1 h) = _
    pointwise
  · entry_read
    refine (Cert.Ml.row_hit _ rfl rfl rfl _ _ _ (0 : Fin 1) ⟨4 + h.val, by omega⟩ h rfl ?_).trans ?_
    · show (4 : Int) + h.val = ((4 + h.val : ℕ) : Int); omega
    show shapeCast main_v10.ty.shape (m (c, Proc.tc.devRef main_arg8)) shapeCasts_S1x4_S4 (ix1 h) = _
    pointwise

/-- The query half of the new convolution state. -/
def G18 (x0 : (⟨S9216x7192, .f32⟩ : BufTy).Contents (Elt Ideal)) : S128x3x1024.Idx → EReal := fun i =>
  x0 (ix2 (row (i 0) ⟨5 + (i 1).val, by have : (i 1).val < 3 := (i 1).isLt; omega⟩) ⟨(i 2).val, by have : (i 2).val < 1024 := (i 2).isLt; omega⟩)

/-- The key half of the new convolution state. -/
def G19 (x0 : (⟨S9216x7192, .f32⟩ : BufTy).Contents (Elt Ideal)) : S128x3x1024.Idx → EReal := fun i =>
  x0 (ix2 (row (i 0) ⟨5 + (i 1).val, by have : (i 1).val < 3 := (i 1).isLt; omega⟩) ⟨1024 + (i 2).val, by have : (i 2).val < 1024 := (i 2).isLt; omega⟩)

/-- The query half of the convolution state after the run. -/
theorem arr18 (c : Dev nD) : (dats m 0 c).arrAt 18 cfg0.N = G18 (X0 m c) := by
  refine (dats m 0 c).arrAt_eq_of_covers 18 _ (by decide +kernel) fun t hf y => ?_
  blk_simp
  idx_vars y
  have e : ((View.whole main_v29_4).slice (win0_18.rect t)).emb (ix3 y0 y1 y2) = ix3 (sq t y0) y1 ⟨(hd t).val * 256 + y2.val, by omega⟩ := by
    blk_ext [(idx' t).2.2.2.2.2.2.2.2.1, sq]
  rw [after18, blk0, V7 _ _ _ _ _ (by show (hd t).val * 2 + y2.val / 128 < 32; omega)]
  refine Eq.trans ?_ (congrArg (G18 (X0 m c)) e.symm)
  exact congrArg (X0 m c) (congrArg₂ ix2 (Fin.ext (by show 8192 + ((sg t).val * 256 + (8 * y0.val + 5 + y1.val)) = 8192 + (((sg t).val * 32 + y0.val) * 8 + (5 + y1.val)); omega))
    (Fin.ext (by show ((hd t).val * 2 + y2.val / 128) * 128 + y2.val % 128 = (hd t).val * 256 + y2.val; omega)))

/-- The key half of the convolution state after the run. -/
theorem arr19 (c : Dev nD) : (dats m 0 c).arrAt 19 cfg0.N = G19 (X0 m c) := by
  refine (dats m 0 c).arrAt_eq_of_covers 19 _ (by decide +kernel) fun t hf y => ?_
  blk_simp
  idx_vars y
  have e : ((View.whole main_v29_5).slice (win0_19.rect t)).emb (ix3 y0 y1 y2) = ix3 (sq t y0) y1 ⟨(hd t).val * 256 + y2.val, by omega⟩ := by
    blk_ext [(idx' t).2.2.2.2.2.2.2.2.2, sq]
  rw [after19, blk1, V7 _ _ _ _ _ (by show 8 + ((hd t).val * 2 + y2.val / 128) < 32; omega)]
  refine Eq.trans ?_ (congrArg (G19 (X0 m c)) e.symm)
  exact congrArg (X0 m c) (congrArg₂ ix2 (Fin.ext (by show 8192 + ((sg t).val * 256 + (8 * y0.val + 5 + y1.val)) = 8192 + (((sg t).val * 32 + y0.val) * 8 + (5 + y1.val)); omega))
    (Fin.ext (by show (8 + ((hd t).val * 2 + y2.val / 128)) * 128 + y2.val % 128 = 1024 + ((hd t).val * 256 + y2.val); omega)))

end Cert.MlstmIdeal.Ml
end
-- ==== Proof.MlGate.lean ====
/- The mLSTM call on the sample group: the gates of a grid point, their running sums, and the running maximum. -/
module

public import proofs.«01_k».proof.Proof.MlConv
public import proofs.«01_k».proof.Proof.MlSpec

@[expose] public section

set_option maxRecDepth 16384

noncomputable section

open Idealize.ShloMosaic Idealize.ShloMosaic.TcCoe Idealize.SL.Sem
open Idealize.ShloMosaic.Pipeline (Dat)

namespace Cert.MlstmIdeal.Ml

open Cert.MlstmIdeal Cert.MlstmIdeal.Gen
open Cert.Ml (lsig)

variable (c : Dev nD) (i : grid0.Coords)
  (arg7 : Memref sig .tc .vmem S1x256x128 .f32) (harg7 : arg7.IsWhole) (arg10 : Memref sig .tc .vmem S1x128 .f32) (harg10 : arg10.IsWhole)
  (arg16 : Memref sig .tc .vmem S32x1x1x128 .f32) (harg16 : arg16.IsWhole)
  (x4 : Vec Ideal S1x256x128 .f32) (x7 : Vec Ideal S1x128 .f32) (x13 : Vec Ideal S32x1x1x128 .f32)

/-- One lane of 128 picked by a sum over the lanes. -/
theorem pick (h : Fin 128) (f : Fin 128 → EReal) : (∑ d : Fin 128, if d = h then f d else 0) = f h := by
  simp

/-- Tests of a lane's number against a head's. -/
theorem lane_eq (d : Fin 128) (b : ℕ) (hb : b < 128) : IntOp.cmpi .eq (BitVec.ofNat 32 d.val) (BitVec.ofNat 32 b) = if d.val = b then 1#1 else 0#1 := by
  have hd := d.isLt
  unfold IntOp.cmpi
  have e : (BitVec.ofNat 32 d.val = BitVec.ofNat 32 b) ↔ d.val = b := by
    constructor
    · intro e
      have := congrArg BitVec.toNat e
      rwa [BitVec.toNat_ofNat, BitVec.toNat_ofNat, Nat.mod_eq_of_lt (by omega), Nat.mod_eq_of_lt (by omega)] at this
    · intro e; rw [e]
  by_cases h : d.val = b
  · simp [h]
  · have e' : (BitVec.ofNat 32 d.val == BitVec.ofNat 32 b) = false := beq_eq_false_iff_ne.2 fun q => h (e.1 q)
    simp [h, e']

/-- Picking a lane by a test and a sum. -/
theorem pick_lane (f : Fin 128 → EReal) (b : ℕ) (hb : b < 128) :
    (∑ d : Fin 128, Scalar.select (IntOp.cmpi .eq (BitVec.ofNat 32 d.val) (BitVec.ofNat 32 b)) (f d) 0) = f ⟨b, hb⟩ := by
  refine Eq.trans (Finset.sum_congr rfl fun d _ => ?_) (pick ⟨b, hb⟩ f)
  rw [lane_eq d b hb]
  by_cases h : d.val = b
  · rw [if_pos h, if_pos (Fin.ext h)]; rfl
  · rw [if_neg h, if_neg fun e => h (congrArg Fin.val e)]; rfl

/-- The head's number below 128. -/
def lane (i : grid0.Coords) (k : Fin 2) : Fin 128 := ⟨k.val * 4 + (i 1).val, by have : (i 1).val < 4 := (i 1).isLt; omega⟩

/-- The input gate of a row. -/
theorem li_at (r : Fin 256) : kernelRun0_A.sl.r_193 (F := Ideal) c i arg7 harg7 arg10 harg10 x4 x7 (ix2 r 0)
    = x4 (ix3 0 r (lane i 0)) + x7 (ix2 0 (lane i 0)) := by
  have hi : (i 1).val < 4 := (i 1).isLt
  unfold kernelRun0_A.sl.r_193
  frame_out
  unfold_payloads
  pointwise
  refine (pick_lane (fun x => x4 (ix3 0 r x) + x7 (ix2 0 x)) (i 1).val (by omega)).trans ?_
  rw [show lane i 0 = ⟨(i 1).val, by omega⟩ from Fin.ext (by show 0 * 4 + (i 1).val = (i 1).val; omega)]

/-- The forget gate of a row. -/
theorem lf_at (r : Fin 256) (l : Fin 128) : kernelRun0_A.sl.r_194 (F := Ideal) c i arg7 harg7 arg10 harg10 x4 x7 (ix2 r l)
    = lsig (x4 (ix3 0 r (lane i 1)) + x7 (ix2 0 (lane i 1))) := by
  have hi : (i 1).val < 4 := (i 1).isLt
  unfold kernelRun0_A.sl.r_194
  frame_out
  unfold_payloads
  pointwise
  have e : ∀ n : Fin 4, IntOp.addi 4#32 (BitVec.ofNat 32 n.val) = BitVec.ofNat 32 (4 + n.val) := by decide
  have e' := e ⟨(i 1).val, hi⟩
  dsimp only at e'
  rw [show lane i 1 = ⟨4 + (i 1).val, by omega⟩ from Fin.ext (by show 1 * 4 + (i 1).val = 4 + (i 1).val; omega)]
  refine Eq.trans (Finset.sum_congr rfl fun x _ => ?_) (pick_lane (fun x => lsig (x4 (ix3 0 r x) + x7 (ix2 0 x))) (4 + (i 1).val) (by omega))
  rw [← e']
  exact congrArg (Scalar.select (IntOp.cmpi CmpIPredicate.eq (BitVec.ofNat 32 x.val) (IntOp.addi (4#32) (BitVec.ofNat 32 (i 1).val))) · 0) rfl

/-- A tile of eight rows, each the sum of the rows up to it, by three rolls. -/
def pref8 (x : FVec Ideal S8x128 .f32) : FVec Ideal S8x128 .f32 :=
  have v2861 := iota .tc S8x128 32 [0] iota_S8x128_d0_w32
  have v2887 := addf x (select (cmpi .sge v2861 (broadcast S8x128 1#32)) (dynamicRotate 0 1#32 none x rotates_S8x128_d0) (broadcast S8x128 (Scalar.ofBits .f32 0x00000000#32)))
  have v2893 := addf v2887 (select (cmpi .sge v2861 (broadcast S8x128 2#32)) (dynamicRotate 0 2#32 none v2887 rotates_S8x128_d0) (broadcast S8x128 (Scalar.ofBits .f32 0x00000000#32)))
  addf v2893 (select (cmpi .sge v2861 (broadcast S8x128 4#32)) (dynamicRotate 0 4#32 none v2893 rotates_S8x128_d0) (broadcast S8x128 (Scalar.ofBits .f32 0x00000000#32)))

/-- A row of `pref8`. -/
theorem pref8_at (x : FVec Ideal S8x128 .f32) (p : Fin 8) (l : Fin 128) :
    pref8 x (ix2 p l) = ∑ q : Fin 8, if q ≤ p then x (ix2 q l) else 0 := by
  unfold pref8
  fin_cases p <;> pointwise
  all_goals
    simp [Scalar.select, IntOp.cmpi, Fin.sum_univ_eight]
    try abel

/-- Rows `8 n` to `8 n + 7` are a tile of the 256 rows. -/
theorem slc (n : Fin 32) : Shape.Slices S256x128 ![8 * n.val, 0] S8x128 := by
  revert n; decide +kernel

/-- Row `8 n + 7` is one of the 256 rows. -/
theorem slc7 (n : Fin 32) : Shape.Slices S256x1 ![8 * n.val + 7, 0] S1x1 := by
  revert n; decide +kernel

/-- Sequence `n` is one of the 32. -/
theorem inb (n : Fin 32) : ∀ a, (![n.val, 0, 0, 0] : Fin 4 → Nat) a + S1x1x1x128.size a ≤ S32x1x1x128.size a := by
  revert n; decide +kernel

/-- 32 tiles of eight rows one below the other, at row `p` of tile `n`. -/
theorem cat128 (f : Fin 32 → (S8x128.Idx → EReal)) (h) (n : Fin 32) (p : Fin 8) (l : Fin 128) :
    concatenate S256x128 0 (List.ofFn fun n : Fin 32 => (⟨S8x128, f n⟩ : (s : Shape) × (s.Idx → EReal))) h (ix2 ⟨8 * n.val + p.val, by omega⟩ l)
      = f n (ix2 p l) := by
  refine concatenate_ofFn_apply (t := S256x128) (s₁ := S8x128) 0 f h rfl 8 rfl _ n ?_ (ix2 p l) ?_ ?_
  · show (8 * n.val + p.val) / 8 = n.val; omega
  · show p.val = (8 * n.val + p.val) % 8; omega
  · intro b hb
    match b, hb with
    | ⟨0, _⟩, hb => exact absurd rfl hb
    | ⟨1, _⟩, _ => rfl

/-- 32 columns of eight rows one below the other, at row `p` of column `n`. -/
theorem cat1 (f : Fin 32 → (S8x1.Idx → EReal)) (h) (n : Fin 32) (p : Fin 8) :
    concatenate S256x1 0 (List.ofFn fun n : Fin 32 => (⟨S8x1, f n⟩ : (s : Shape) × (s.Idx → EReal))) h (ix2 ⟨8 * n.val + p.val, by omega⟩ 0)
      = f n (ix2 p 0) := by
  refine concatenate_ofFn_apply (t := S256x1) (s₁ := S8x1) 0 f h rfl 8 rfl _ n ?_ (ix2 p 0) ?_ ?_
  · show (8 * n.val + p.val) / 8 = n.val; omega
  · show p.val = (8 * n.val + p.val) % 8; omega
  · intro b hb
    match b, hb with
    | ⟨0, _⟩, hb => exact absurd rfl hb
    | ⟨1, _⟩, _ => rfl

/-- The sums of each tile's rows, from the top of the tile, on every lane. -/
def sums8c (X : FVec Ideal S256x128 .f32) : FVec Ideal S256x128 .f32 :=
  concatenate S256x128 0 (List.ofFn fun n : Fin 32 =>
    (⟨S8x128, pref8 (extractStridedSlice S8x128 ![8 * n.val, 0] X (slc n))⟩ : (s : Shape) × (s.Idx → EReal))) concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S256x128_d0

/-- The sums of each tile's rows, from the top of the tile. -/
def sums8 (X : FVec Ideal S256x128 .f32) : FVec Ideal S256x1 .f32 :=
  extractStridedSlice S256x1 ![0, 0] (sums8c X) slices_S256x128_o0_0_S256x1

/-- Each tile's last row, at every row of the tile. -/
def last8 (v : FVec Ideal S256x1 .f32) : FVec Ideal S256x1 .f32 :=
  concatenate S256x1 0 (List.ofFn fun n : Fin 32 => (⟨S8x1, broadcastTo S8x1 (shapeCast S1x1 (extractStridedSlice S1x1 ![8 * n.val + 7, 0] v (slc7 n))
    shapeCasts_S1x1_S1x1) broadcasts_S1x1_S8x1⟩ : (s : Shape) × (s.Idx → EReal))) concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S256x1_d0

/-- One number for each tile, at every row of the tile. -/
def spread8 (f : Fin 32 → FVec Ideal S1x1x1x128 .f32) : FVec Ideal S256x1 .f32 :=
  concatenate S256x1 0 (List.ofFn fun n : Fin 32 => (⟨S8x1, broadcastTo S8x1 (shapeCast S1x1 (extractStridedSlice S1x1 ![0, 0] (shapeCast S1x128 (f n)
          shapeCasts_S1x1x1x128_S1x128) slices_S1x128_o0_0_S1x1) shapeCasts_S1x1_S1x1) broadcasts_S1x1_S8x1⟩ : (s : Shape) × (s.Idx → EReal))) concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S256x1_d0

/-- A row of `sums8`. -/
theorem sums8_at (X : FVec Ideal S256x128 .f32) (n : Fin 32) (p : Fin 8) :
    sums8 X (ix2 ⟨8 * n.val + p.val, by omega⟩ 0) = ∑ q : Fin 8, if q ≤ p then X (ix2 ⟨8 * n.val + q.val, by omega⟩ 0) else 0 := by
  have e : sums8 X (ix2 ⟨8 * n.val + p.val, by omega⟩ 0) = sums8c X (ix2 ⟨8 * n.val + p.val, by omega⟩ 0) := by
    unfold sums8
    pointwise
  rw [e]
  refine (cat128 _ _ n p 0).trans ?_
  rw [pref8_at]
  refine Finset.sum_congr rfl fun q _ => if_congr Iff.rfl ?_ rfl
  exact congrArg X (funext fun a => Fin.ext (by match a with | ⟨0, _⟩ => rfl | ⟨1, _⟩ => rfl))

/-- A row of `last8`. -/
theorem last8_at (v : FVec Ideal S256x1 .f32) (n : Fin 32) (p : Fin 8) :
    last8 v (ix2 ⟨8 * n.val + p.val, by omega⟩ 0) = v (ix2 ⟨8 * n.val + 7, by omega⟩ 0) := by
  unfold last8
  refine (cat1 _ _ n p).trans ?_
  pointwise

/-- A row of `spread8`. -/
theorem spread8_at (f : Fin 32 → FVec Ideal S1x1x1x128 .f32) (n : Fin 32) (p : Fin 8) :
    spread8 f (ix2 ⟨8 * n.val + p.val, by omega⟩ 0) = f n (ix4 0 0 0 0) := by
  unfold spread8
  refine (cat1 _ _ n p).trans ?_
  pointwise

/-- The running sum of the forget gate at row `p` of tile `n`. -/
theorem b_at (n : Fin 32) (p : Fin 8) : kernelRun0_A.sl.r_244 (F := Ideal) c i arg7 harg7 arg10 harg10 x4 x7 (ix2 ⟨8 * n.val + p.val, by omega⟩ 0)
    = ∑ q : Fin 8, if q ≤ p then lsig (x4 (ix3 0 ⟨8 * n.val + q.val, by omega⟩ (lane i 1)) + x7 (ix2 0 (lane i 1))) else 0 := by
  have e : kernelRun0_A.sl.r_244 (F := Ideal) c i arg7 harg7 arg10 harg10 x4 x7 = sums8 (kernelRun0_A.sl.r_194 (F := Ideal) c i arg7 harg7 arg10 harg10 x4 x7) := rfl
  rw [e, sums8_at]
  refine Finset.sum_congr rfl fun q _ => if_congr Iff.rfl ?_ rfl
  exact lf_at c i arg7 harg7 arg10 harg10 x4 x7 ⟨8 * n.val + q.val, by omega⟩ 0

/-- The old maximum of sequence `n`, as the step loads it. -/
def mload (n : Fin 32) : FVec Ideal S1x1x1x128 .f32 :=
  View.readAt (s := S32x1x1x128) (Elt Ideal) arg16.view (Rect.unit (s := S32x1x1x128) ![n.val, 0, 0, 0] S1x1x1x128.size (inb n)).toLoadRect (harg16.unread x13)

set_option maxHeartbeats 2000000 in
/-- The old maxima, spread over the rows. -/
theorem mprev_eq : kernelRun0_A.sl.v3760 (F := Ideal) c arg16 harg16 x13 = spread8 (mload arg16 harg16 x13) := rfl

/-- The old maximum of tile `n`, at each of its rows. -/
theorem mprev_at (n : Fin 32) (p : Fin 8) : kernelRun0_A.sl.v3760 (F := Ideal) c arg16 harg16 x13 (ix2 ⟨8 * n.val + p.val, by omega⟩ 0)
    = x13 (ix4 n 0 0 0) := by
  rw [mprev_eq, spread8_at]
  unfold mload
  simp only [View.readAt_eq_ld, Memref.IsWhole.read_unread]
  pointwise

/-- The running maximum of tile `n`'s last row, at each of its rows. -/
theorem mlast_at (n : Fin 32) (p : Fin 8) : kernelRun0_A.sl.r_252 (F := Ideal) c i arg7 harg7 arg10 harg10 arg16 harg16 x4 x7 x13 (ix2 ⟨8 * n.val + p.val, by omega⟩ 0)
    = kernelRun0_A.sl.r_247 (F := Ideal) c i arg7 harg7 arg10 harg10 arg16 harg16 x4 x7 x13 (ix2 ⟨8 * n.val + 7, by omega⟩ 0) := by
  have e : kernelRun0_A.sl.r_252 (F := Ideal) c i arg7 harg7 arg10 harg10 arg16 harg16 x4 x7 x13
      = last8 (kernelRun0_A.sl.r_247 (F := Ideal) c i arg7 harg7 arg10 harg10 arg16 harg16 x4 x7 x13) := rfl
  rw [e, last8_at]

end Cert.MlstmIdeal.Ml
end
-- ==== Proof.MlReal.lean ====
/- The mLSTM call's gates among the extended reals: a log of the logistic function is real or minus infinity, and so are its running sums. -/
module

public import proofs.«01_k».proof.Proof.MlSpec

@[expose] public section

set_option maxRecDepth 16384

noncomputable section

open Idealize.ShloMosaic Idealize.ShloMosaic.TcCoe Idealize.SL.Sem

namespace Cert.Ml

/-- The larger of two real numbers. -/
theorem max_coe (a b : ℝ) : max (a : EReal) b = ((max a b : ℝ) : EReal) := (EReal.coe_strictMono.monotone.map_max).symm

/-- The smaller of two real numbers. -/
theorem min_coe (a b : ℝ) : min (a : EReal) b = ((min a b : ℝ) : EReal) := (EReal.coe_strictMono.monotone.map_min).symm

/-- The log of one plus an exponential, at a real number. -/
theorem log1p_exp (a : ℝ) : Ideal.log1p (Ideal.exp (a : EReal)) = ((Real.log (1 + Real.exp a) : ℝ) : EReal) := by
  unfold Ideal.log1p
  rw [Ideal.exp_coe, ← EReal.coe_one, ← EReal.coe_add, Ideal.log_coe, if_neg (not_le.2 (by positivity))]

/-- The log of one plus nothing. -/
theorem log1p_zero : Ideal.log1p 0 = 0 := by
  unfold Ideal.log1p
  rw [add_zero, ← EReal.coe_one, Ideal.log_coe, if_neg (not_le.2 one_pos), Real.log_one, EReal.coe_zero]

/-- The log of the logistic function of a real number. -/
theorem lsig_coe (w : ℝ) : lsig (w : EReal) = ((min w 0 - Real.log (1 + Real.exp (0 - max w (-w))) : ℝ) : EReal) := by
  unfold lsig
  rw [show FloatOps.absf (F := Ideal) (φ := .f32) (w : EReal) = max (w : EReal) (-(w : EReal)) from rfl, ← EReal.coe_neg, max_coe, ← EReal.coe_zero, ← EReal.coe_sub,
    log1p_exp, min_coe, ← EReal.coe_sub]

/-- The log of the logistic function of minus infinity. -/
theorem lsig_bot : lsig ⊥ = ⊥ := by
  unfold lsig
  rw [show FloatOps.absf (F := Ideal) (φ := .f32) (⊥ : EReal) = max (⊥ : EReal) (-(⊥ : EReal)) from rfl]
  simp [log1p_zero]

/-- The log of the logistic function of infinity. -/
theorem lsig_top : lsig ⊤ = 0 := by
  unfold lsig
  rw [show FloatOps.absf (F := Ideal) (φ := .f32) (⊤ : EReal) = max (⊤ : EReal) (-(⊤ : EReal)) from rfl]
  simp [log1p_zero]

/-- The reference's formula for the log of the logistic function is the kernel's. -/
theorem lsig_eq (z : EReal) : -(max (-z) 0 + Ideal.log1p (Ideal.exp (-(FloatOps.absf (F := Ideal) (φ := .f32) (-z))))) = lsig z := by
  rw [show FloatOps.absf (F := Ideal) (φ := .f32) (-z) = max (-z) (-(-z)) from rfl]
  induction z using EReal.rec with
  | bot => rw [lsig_bot]; simp [log1p_zero]
  | top => rw [lsig_top]; simp [log1p_zero]
  | coe w =>
    rw [lsig_coe, ← EReal.coe_neg, ← EReal.coe_neg, max_coe, ← EReal.coe_neg, log1p_exp, ← EReal.coe_zero, max_coe, ← EReal.coe_add, ← EReal.coe_neg]
    refine congrArg _ ?_
    have e : max (-w) 0 = -min w 0 := by rw [← neg_zero, max_neg_neg, neg_zero]
    rw [e, neg_neg, max_comm (-w) w, zero_sub]
    ring

/-- The log of the logistic function is real or minus infinity. -/
theorem lsig_or (z : EReal) : lsig z = ⊥ ∨ ∃ w : ℝ, lsig z = w := by
  induction z using EReal.rec with
  | bot => exact Or.inl lsig_bot
  | top => exact Or.inr ⟨0, lsig_top⟩
  | coe w => exact Or.inr ⟨_, lsig_coe w⟩

/-- A running sum of real gates is real. -/
theorem bsum_real (f : Fin 8 → EReal) (hf : ∀ q, ∃ w : ℝ, f q = w) (p : Fin 8) : ∃ w : ℝ, bsum f p = w := by
  choose w hw using hf
  have hg : ∀ q : Fin 8, ∃ v : ℝ, (if q ≤ p then f q else 0) = (v : EReal) := fun q => by
    split
    · exact ⟨w q, hw q⟩
    · exact ⟨0, rfl⟩
  choose v hv using hg
  refine ⟨v 0 + v 1 + v 2 + v 3 + v 4 + v 5 + v 6 + v 7, ?_⟩
  unfold bsum
  simp only [hv, Fin.sum_univ_eight, EReal.coe_add]

/-- The running sums of a chunk are all real, or the last is minus infinity. -/
theorem bsum_or (f : Fin 8 → EReal) (hf : ∀ q, f q = ⊥ ∨ ∃ w : ℝ, f q = w) : bsum f 7 = ⊥ ∨ ∀ p, ∃ w : ℝ, bsum f p = w := by
  by_cases h : ∃ q, f q = ⊥
  · obtain ⟨q, hq⟩ := h
    left
    unfold bsum
    rw [← Finset.add_sum_erase _ _ (Finset.mem_univ q), if_pos (show q ≤ 7 from Fin.le_last q), hq, EReal.bot_add]
  · right
    exact bsum_real f fun q => (hf q).resolve_left fun e => h ⟨q, e⟩

/-- Where the running sum is minus infinity, so is the maximum. -/
theorem mt8_bot (b li : Fin 8 → EReal) (mp : EReal) (p : Fin 8) (h : b p = ⊥) : mt8 b li mp p = ⊥ := by
  unfold mt8
  rw [h, EReal.bot_add, max_eq_right bot_le]
  refine le_antisymm (Finset.sup_le fun s _ => ?_) bot_le
  split
  · rw [EReal.bot_add]
  · exact le_rfl

/-- A left fold over a list of numbers below `N`, as one over the numbers below an equal `M`. -/
theorem foldl_cast {N M : ℕ} (e : N = M) {β : Type} (f : β → Fin N → β) (a : β) :
    (List.finRange N).foldl f a = (List.finRange M).foldl (fun r k => f r (k.cast e.symm)) a := by
  subst e; rfl

/-- The running sum's window has eight positions. -/
theorem win_numel : (⟨3, ![1, 8, 1]⟩ : Shape).numel = 8 := by decide

/-- A sum over a window of eight positions ending at `t`, of which those before the first token are not counted. -/
theorem foldl_bsum (f : Fin 8 → EReal) (t : Fin 8) :
    (List.finRange 8).foldl (fun r k => r + if hk : 7 ≤ t.val + k.val then f ⟨t.val + k.val - 7, by omega⟩ else 0) 0 = bsum f t := by
  unfold bsum
  rw [Fin.sum_univ_eight]
  fin_cases t <;> simp [List.finRange_succ]

end Cert.Ml
end
-- ==== Proof.MlMax.lean ====
/- The mLSTM call on the sample group: the running maximum, and the maximum a grid point leaves. -/
module

public import proofs.«01_k».proof.Proof.MlGate
public import proofs.«01_k».proof.Proof.MlReal
public import proofs.«01_k».proof.Proof.RetPay

@[expose] public section

set_option maxRecDepth 16384

noncomputable section

open Idealize.ShloMosaic Idealize.ShloMosaic.TcCoe Idealize.SL.Sem
open Idealize.ShloMosaic.Pipeline (Dat)

namespace Cert.MlstmIdeal.Ml

open Cert.MlstmIdeal Cert.MlstmIdeal.Gen
open Cert.Ml (lsig bsum mt8 lsig_or bsum_or mt8_bot)

/-- Whether a lane's number is zero. -/
theorem lane0 (a : ℕ) (ha : a < 1000) (u : EReal) : Scalar.select (IntOp.cmpi .eq (BitVec.ofNat 32 a) 0#32) u 0 = if a = 0 then u else 0 := by
  have e : (BitVec.ofNat 32 a = 0#32) ↔ a = 0 := by
    constructor
    · intro e
      have := congrArg BitVec.toNat e
      rwa [BitVec.toNat_ofNat, Nat.mod_eq_of_lt (by omega)] at this
    · intro e; rw [e]
  unfold IntOp.cmpi
  by_cases h : a = 0
  · subst h; rfl
  · have e' : (BitVec.ofNat 32 a == 0#32) = false := beq_eq_false_iff_ne.2 fun q => h (e.1 q)
    simp [h, e', Scalar.select]

/-- The float pattern of minus infinity. -/
theorem bits_bot : Ideal.ofBits .f32 4286578688#32 = (⊥ : EReal) := by
  simp [Ideal.ofBits, Ideal.ieee]

/-- A real number's three pieces, one in lane 0 of each third of 384 lanes, add up to the number. -/
theorem pieces (v : ℝ) : (∑ x : Fin 384,
      if h : x.val < 128 then Scalar.select (IntOp.cmpi .eq (BitVec.ofNat 32 x.val) 0#32) (v : EReal) 0
      else if h : x.val - 128 < 128 then
        Scalar.select (IntOp.cmpi .eq (BitVec.ofNat 32 (x.val - 128)) 0#32) (v : EReal) 0 - Scalar.select (IntOp.cmpi .eq (BitVec.ofNat 32 (x.val - 128)) 0#32) (v : EReal) 0
      else
        Scalar.select (IntOp.cmpi .eq (BitVec.ofNat 32 (x.val - 128 - 128)) 0#32) (v : EReal) 0 - Scalar.select (IntOp.cmpi .eq (BitVec.ofNat 32 (x.val - 128 - 128)) 0#32) (v : EReal) 0
          - (Scalar.select (IntOp.cmpi .eq (BitVec.ofNat 32 (x.val - 128 - 128)) 0#32) (v : EReal) 0 - Scalar.select (IntOp.cmpi .eq (BitVec.ofNat 32 (x.val - 128 - 128)) 0#32) (v : EReal) 0))
    = v := by
  have vv : (v : EReal) - v = 0 := by rw [← EReal.coe_sub, sub_self, EReal.coe_zero]
  have hs : (∑ x : Fin 384, if x = (0 : Fin 384) then (v : EReal) else 0) = v := by simp
  refine Eq.trans (Finset.sum_congr rfl fun x _ => ?_) hs
  have hx := x.isLt
  rw [lane0 _ (by omega), lane0 _ (by omega), lane0 _ (by omega)]
  by_cases h0 : x.val < 128
  · rw [dif_pos h0]
    exact if_congr (by rw [Fin.ext_iff]; rfl) rfl rfl
  · rw [dif_neg h0, if_neg (fun e : x = 0 => h0 (by rw [e]; decide))]
    split
    · split
      · exact vv
      · exact sub_zero 0
    · split
      · rw [vv, sub_zero]
      · rw [sub_zero, sub_zero]

variable (c : Dev nD) (i : grid0.Coords)
  (arg7 : Memref sig .tc .vmem S1x256x128 .f32) (harg7 : arg7.IsWhole) (arg10 : Memref sig .tc .vmem S1x128 .f32) (harg10 : arg10.IsWhole)
  (arg16 : Memref sig .tc .vmem S32x1x1x128 .f32) (harg16 : arg16.IsWhole)
  (x4 : Vec Ideal S1x256x128 .f32) (x7 : Vec Ideal S1x128 .f32) (x13 : Vec Ideal S32x1x1x128 .f32)

/-- The running maximum over the 256 columns of which only the sequence's own are counted. -/
theorem sup_own (g : Fin 256 → EReal) (n : Fin 32) (p : Fin 8) :
    (Finset.univ.fold max (⊥ : EReal) fun x : Fin 256 => Scalar.select (if x.val ≤ 8 * n.val + p.val ∧ x.val / 8 = (8 * n.val + p.val) / 8 then 1#1 else 0#1) (g x) ⊥)
      = Finset.univ.sup fun s : Fin 8 => if s ≤ p then g ⟨8 * n.val + s.val, by omega⟩ else ⊥ := by
  have e : (Finset.univ.fold max (⊥ : EReal) fun x : Fin 256 => Scalar.select (if x.val ≤ 8 * n.val + p.val ∧ x.val / 8 = (8 * n.val + p.val) / 8 then 1#1 else 0#1) (g x) ⊥)
      = Finset.univ.sup fun x : Fin 256 => if x.val ≤ 8 * n.val + p.val ∧ x.val / 8 = (8 * n.val + p.val) / 8 then g x else ⊥ := by
    refine Eq.trans ?_ (rfl : Finset.univ.fold max (⊥ : EReal) _ = _)
    refine congrArg (fun f => Finset.univ.fold max (⊥ : EReal) f) (funext fun x => ?_)
    split <;> rfl
  rw [e]
  refine le_antisymm (Finset.sup_le fun x _ => ?_) (Finset.sup_le fun s _ => ?_)
  · split
    · next h =>
      have hx : x = ⟨8 * n.val + (⟨x.val % 8, by omega⟩ : Fin 8).val, by omega⟩ := Fin.ext (by show x.val = 8 * n.val + x.val % 8; omega)
      refine le_trans (le_of_eq ?_) (Finset.le_sup (f := fun s : Fin 8 => if s ≤ p then g ⟨8 * n.val + s.val, by omega⟩ else ⊥) (Finset.mem_univ (⟨x.val % 8, by omega⟩ : Fin 8)))
      dsimp only
      rw [if_pos (by show x.val % 8 ≤ p.val; omega)]
      exact congrArg g hx
    · exact bot_le
  · split
    · next h =>
      have h' : s.val ≤ p.val := h
      refine le_trans (le_of_eq ?_) (Finset.le_sup (f := fun x : Fin 256 => if x.val ≤ 8 * n.val + p.val ∧ x.val / 8 = (8 * n.val + p.val) / 8 then g x else ⊥)
        (Finset.mem_univ (⟨8 * n.val + s.val, by omega⟩ : Fin 256)))
      dsimp only
      rw [if_pos ⟨by omega, by omega⟩]
    · exact bot_le

/-- The largest of nothing but minus infinities. -/
theorem fold_bot : (Finset.univ.fold max (⊥ : EReal) fun _ : Fin 256 => (⊥ : EReal)) = ⊥ :=
  le_antisymm (Finset.sup_le (f := fun _ : Fin 256 => (⊥ : EReal)) fun _ _ => le_rfl) bot_le

set_option maxHeartbeats 2000000 in
/-- The running maximum at row `p` of tile `n`, when the row's running sum is minus infinity or the tile's differences are real. -/
theorem mt_at (n : Fin 32) (p : Fin 8)
    (hz : kernelRun0_A.sl.r_244 (F := Ideal) c i arg7 harg7 arg10 harg10 x4 x7 (ix2 ⟨8 * n.val + p.val, by omega⟩ 0) = (⊥ : EReal)
      ∨ ∀ s : Fin 8, ∃ w : ℝ, kernelRun0_A.sl.r_193 (F := Ideal) c i arg7 harg7 arg10 harg10 x4 x7 (ix2 ⟨8 * n.val + s.val, by omega⟩ 0)
        - kernelRun0_A.sl.r_244 (F := Ideal) c i arg7 harg7 arg10 harg10 x4 x7 (ix2 ⟨8 * n.val + s.val, by omega⟩ 0) = w) :
    kernelRun0_A.sl.r_247 (F := Ideal) c i arg7 harg7 arg10 harg10 arg16 harg16 x4 x7 x13 (ix2 ⟨8 * n.val + p.val, by omega⟩ 0)
    = mt8 (fun q => kernelRun0_A.sl.r_244 (F := Ideal) c i arg7 harg7 arg10 harg10 x4 x7 (ix2 ⟨8 * n.val + q.val, by omega⟩ 0))
        (fun q => kernelRun0_A.sl.r_193 (F := Ideal) c i arg7 harg7 arg10 harg10 x4 x7 (ix2 ⟨8 * n.val + q.val, by omega⟩ 0)) (x13 (ix4 n 0 0 0)) p := by
  unfold kernelRun0_A.sl.r_247 k0_pay594 k0_pay593 k0_pay592 kernelRun0_A.sl.v3761
  pointwise
  rw [mprev_at, bits_bot]
  rcases hz with hb | hz
  · rw [mt8_bot _ _ _ _ hb, hb, EReal.bot_add, max_eq_right bot_le]
    refine Eq.trans (congrArg (fun f => Finset.univ.fold max (⊥ : EReal) f) (funext fun x => ?_)) fold_bot
    rw [EReal.bot_add]
    unfold Scalar.select
    split <;> rfl
  · unfold mt8
    refine congrArg (max _) ?_
    refine Eq.trans (congrArg (fun f => Finset.univ.fold max (⊥ : EReal) f) (funext fun x => ?_))
      (sup_own (fun x => kernelRun0_A.sl.r_244 (F := Ideal) c i arg7 harg7 arg10 harg10 x4 x7 (ix2 ⟨8 * n.val + p.val, by omega⟩ 0)
        + (kernelRun0_A.sl.r_193 (F := Ideal) c i arg7 harg7 arg10 harg10 x4 x7 (ix2 x 0) - kernelRun0_A.sl.r_244 (F := Ideal) c i arg7 harg7 arg10 harg10 x4 x7 (ix2 x 0))) n p)
    have hm := Cert.KernelIdeal.Ret.mask_eq ⟨8 * n.val + p.val, by omega⟩ x
    by_cases hx : x.val ≤ 8 * n.val + p.val ∧ x.val / 8 = (8 * n.val + p.val) / 8
    · obtain ⟨w, hw⟩ := hz ⟨x.val % 8, by omega⟩
      have ex : (⟨8 * n.val + (⟨x.val % 8, by omega⟩ : Fin 8).val, by show 8 * n.val + x.val % 8 < 256; omega⟩ : Fin 256) = x :=
        Fin.ext (by show 8 * n.val + x.val % 8 = x.val; omega)
      rw [ex] at hw
      rw [hw, pieces w]
      exact congrArg (fun b => Scalar.select b _ (⊥ : EReal)) hm
    · refine (congrArg (fun b => Scalar.select b _ (⊥ : EReal)) (hm.trans (if_neg hx))).trans ?_
      rw [if_neg hx]
      rfl

variable (m : (ℓ : Loc nD τ sig) → Buf (Elt Ideal) ℓ)

/-- The input gate of token `q` of a point's sequence `n`, from the point's blocks. -/
def gli (t : Fin cfg0.N) (n : Fin 32) (q : Fin 8) : EReal :=
  let x4 : S1x256x128.Idx → EReal := iblk m c 4 t
  let x7 : S1x128.Idx → EReal := iblk m c 7 t
  x4 (ix3 0 ⟨8 * n.val + q.val, by omega⟩ (lane (grid0.coords t) 0)) + x7 (ix2 0 (lane (grid0.coords t) 0))

/-- The forget gate of token `q` of a point's sequence `n`, from the point's blocks. -/
def glf (t : Fin cfg0.N) (n : Fin 32) (q : Fin 8) : EReal :=
  let x4 : S1x256x128.Idx → EReal := iblk m c 4 t
  let x7 : S1x128.Idx → EReal := iblk m c 7 t
  lsig (x4 (ix3 0 ⟨8 * n.val + q.val, by omega⟩ (lane (grid0.coords t) 1)) + x7 (ix2 0 (lane (grid0.coords t) 1)))

/-- A row of the 256 is a token of one of the point's sequences. -/
theorem row_split (r : Fin 256) : ∃ (n : Fin 32) (q : Fin 8), r = ⟨8 * n.val + q.val, by omega⟩ :=
  ⟨⟨r.val / 8, by omega⟩, ⟨r.val % 8, by omega⟩, Fin.ext (by show r.val = 8 * (r.val / 8) + r.val % 8; omega)⟩

/-- The running maximum's word at the last token of a point's sequence, when the sequence's input gates are real. -/
theorem mt_word (t : Fin cfg0.N) (n : Fin 32) (hli : ∀ q, ∃ w : ℝ, gli c m t n q = w) :
    kernelRun0_A.sl.r_247 (F := Ideal) c (grid0.coords t) arg7 harg7 arg10 harg10 arg16 harg16 (iblk m c 4 t) (iblk m c 7 t) (iblk m c 13 t) (ix2 ⟨8 * n.val + (7 : Fin 8).val, by omega⟩ 0)
    = mt8 (bsum (glf c m t n)) (gli c m t n) (iblk m c 13 t (ix4 n 0 0 0)) 7 := by
  rw [mt_at]
  · congr 1
    · funext q; exact b_at _ _ _ _ _ _ _ _ n q
    · funext q; exact li_at _ _ _ _ _ _ _ _ _
  · rcases bsum_or (glf c m t n) (fun q => lsig_or _) with h | h
    · left
      rw [b_at]
      exact h
    · right
      intro q
      rw [li_at, b_at]
      obtain ⟨a, ha⟩ := hli q
      obtain ⟨b, hb⟩ := h q
      refine ⟨a - b, ?_⟩
      rw [EReal.coe_sub]
      exact congrArg₂ (· - ·) ha hb

set_option maxHeartbeats 8000000 in
/-- The maximum a point leaves: the running maximum after each sequence's last token, on every lane. -/
theorem after17 (t : Fin cfg0.N) (n : Fin 32) (l : Fin 128) (hli : ∀ q, ∃ w : ℝ, gli c m t n q = w) :
    (dats m 0 c).after 17 t (ix4 n 0 0 l) = mt8 (bsum (glf c m t n)) (gli c m t n) (iblk m c 13 t (ix4 n 0 0 0)) 7 := by
  rw [after0_17]
  unfold outsAt0
  dsimp only
  unfold out0_A_17 kernelRun0_A
  dsimp only
  rw [View.read_writes_junk_eq_canon]
  canon_tiles x h
  all_goals
    idx_vars x
    try simp only [kernelRun0_A.sl.r_287, kernelRun0_A.sl.r_292, kernelRun0_A.sl.r_372, kernelRun0_A.sl.r_375, kernelRun0_A.sl.r_378, kernelRun0_A.sl.r_381, kernelRun0_A.sl.r_385, kernelRun0_A.sl.r_389, kernelRun0_A.sl.r_393, kernelRun0_A.sl.r_397, kernelRun0_A.sl.r_402, kernelRun0_A.sl.r_407, kernelRun0_A.sl.r_412, kernelRun0_A.sl.r_417, kernelRun0_A.sl.r_422]
    unfold_payloads
    pointwise at h0 h1 h2 h3 ⊢
    refine Eq.trans (congrArg _ (congrArg (fun r => ix2 r 0) ?_))
      ((mlast_at _ _ _ _ _ _ _ _ _ _ _ n 0).trans (mt_word _ _ _ _ _ _ _ _ _ n hli))
    exact Fin.ext (by show _ = 8 * n.val + 0; rw [h0]; rfl)

end Cert.MlstmIdeal.Ml
end
-- ==== Proof.MlArrM.lean ====
/- The mLSTM call on the sample group: the maximum the run leaves. -/
module

public import proofs.«01_k».proof.Proof.MlArr
public import proofs.«01_k».proof.Proof.MlMax

@[expose] public section

set_option maxRecDepth 16384

noncomputable section

open Idealize.ShloMosaic Idealize.ShloMosaic.TcCoe Idealize.SL.Sem
open Idealize.ShloMosaic.Pipeline (Dat)

namespace Cert.MlstmIdeal.Ml

open Cert.MlstmIdeal Cert.MlstmIdeal.Gen
open Cert.Ml (row gi gf mnew mt8 bsum lsig)

variable (m : (ℓ : Loc nD τ sig) → Buf (Elt Ideal) ℓ)

/-- The old maximum's argument. -/
abbrev X4 (c : Dev nD) : (⟨S1x128x4, .f32⟩ : BufTy).Contents (Elt Ideal) := m ((c : Thread nD τ).loc main_arg4)

/-- The input gates' bias. -/
abbrev X7 (c : Dev nD) : (⟨S1x4, .f32⟩ : BufTy).Contents (Elt Ideal) := m ((c : Thread nD τ).loc main_arg7)

/-- The forget gates' bias. -/
abbrev X8 (c : Dev nD) : (⟨S1x4, .f32⟩ : BufTy).Contents (Elt Ideal) := m ((c : Thread nD τ).loc main_arg8)

/-- The old maximum, on every lane. -/
theorem V27 (c : Dev nD) (n : Fin 128) (h : Fin 4) (l : Fin 128) : V m c main_v27 (ix4 n h 0 l) = X4 m c (ix3 0 n h) := by
  entry_read
  pointwise

/-- A point's input gates are the arguments'. -/
theorem gli_eq (c : Dev nD) (t : Fin cfg0.N) (n : Fin 32) (q : Fin 8) : gli c m t n q = gi (X0 m c) (X7 m c) (sq t n) (hd t) q := by
  have h4 := (hd t).isLt
  unfold gli gi
  dsimp only
  refine congrArg₂ (fun a b : EReal => a + b) ((blk4 m c t _ _).trans ((V7g m c _ _ (by show 0 * 4 + (hd t).val < 8; omega)).trans ?_)) ((blk7 m c t _).trans ?_)
  · exact congrArg (X0 m c) (congrArg₂ ix2 (Fin.ext (by show 8192 + ((sg t).val * 256 + (8 * n.val + q.val)) = 8192 + (((sg t).val * 32 + n.val) * 8 + q.val); omega))
      (Fin.ext (by show 4096 + (0 * 4 + (hd t).val) = 4096 + (hd t).val; omega)))
  · refine Eq.trans (congrArg (fun l => V m c main_v24 (ix2 0 l)) (Fin.ext ?_)) (V24 m c (hd t)).1
    show 0 * 4 + (hd t).val = (hd t).val; omega

/-- A point's forget gates are the arguments'. -/
theorem glf_eq (c : Dev nD) (t : Fin cfg0.N) (n : Fin 32) (q : Fin 8) : glf c m t n q = lsig (gf (X0 m c) (X8 m c) (sq t n) (hd t) q) := by
  have h4 := (hd t).isLt
  unfold glf gf
  dsimp only
  refine congrArg lsig (congrArg₂ (fun a b : EReal => a + b) ((blk4 m c t _ _).trans ((V7g m c _ _ (by show 1 * 4 + (hd t).val < 8; omega)).trans ?_)) ((blk7 m c t _).trans ?_))
  · exact congrArg (X0 m c) (congrArg₂ ix2 (Fin.ext (by show 8192 + ((sg t).val * 256 + (8 * n.val + q.val)) = 8192 + (((sg t).val * 32 + n.val) * 8 + q.val); omega))
      (Fin.ext (by show 4096 + (1 * 4 + (hd t).val) = 4100 + (hd t).val; omega)))
  · refine Eq.trans (congrArg (fun l => V m c main_v24 (ix2 0 l)) (Fin.ext ?_)) (V24 m c (hd t)).2
    show 1 * 4 + (hd t).val = 4 + (hd t).val; omega

/-- The new maximum, on every lane. -/
def G17 (x0 : (⟨S9216x7192, .f32⟩ : BufTy).Contents (Elt Ideal)) (x4 : (⟨S1x128x4, .f32⟩ : BufTy).Contents (Elt Ideal)) (x7 x8 : (⟨S1x4, .f32⟩ : BufTy).Contents (Elt Ideal)) :
    S128x4x1x128.Idx → EReal := fun i => mnew x0 x4 x7 x8 (i 0) (i 1)

set_option maxHeartbeats 4000000 in
/-- The maximum after the run, when the input gates are real. -/
theorem arr17 (c : Dev nD) (hi : ∀ n h q, ∃ w : ℝ, gi (X0 m c) (X7 m c) n h q = w) :
    (dats m 0 c).arrAt 17 cfg0.N = G17 (X0 m c) (X4 m c) (X7 m c) (X8 m c) := by
  refine (dats m 0 c).arrAt_eq_of_covers 17 _ (by decide +kernel) fun t hfl y => ?_
  blk_simp
  idx_vars y
  obtain rfl : y1 = 0 := Subsingleton.elim _ _
  obtain rfl : y2 = 0 := Subsingleton.elim _ _
  have e : ((View.whole main_v29_3).slice (win0_17.rect t)).emb (ix4 y0 0 0 y3) = ix4 (sq t y0) (hd t) 0 y3 := by
    blk_ext [(idx' t).2.2.2.2.2.2.2.1, sq]
  rw [after17 c m t y0 y3 fun q => (hi (sq t y0) (hd t) q).imp fun w hw => (gli_eq m c t y0 q).trans hw]
  refine Eq.trans ?_ (congrArg (G17 (X0 m c) (X4 m c) (X7 m c) (X8 m c)) e.symm)
  show _ = mnew (X0 m c) (X4 m c) (X7 m c) (X8 m c) (sq t y0) (hd t)
  unfold mnew
  rw [blk13, V27]
  congr 1
  · congr 1
    funext q
    exact glf_eq m c t y0 q
  · funext q
    exact gli_eq m c t y0 q

end Cert.MlstmIdeal.Ml
end
-- ==== Proof.MlRef.lean ====
/- The mLSTM call's reference: its gates, running sums and new maximum, and its convolution states. -/
module

public import proofs.«01_k».proof.Proof.MlReal
public import proofs.«01_k».proof.Proof.Gen.MlstmRefIdeal.Run
public import proofs.«01_k».proof.Proof.RetSpec
public import Idealize.ShloMosaic.Lib.Pipeline.ValueKit
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.MlstmRefIdeal.Ml

open Cert.MlstmRefIdeal Cert.MlstmRefIdeal.Gen
open Cert.Ml (row gi gf mnew mt8 bsum lsig lsig_eq lsig_or bsum_or mt8_bot)

variable (x0 : (⟨S9216x7192, .f32⟩ : BufTy).Contents (Elt Ideal)) (x4 : (⟨S1x128x4, .f32⟩ : BufTy).Contents (Elt Ideal)) (x7 x8 : (⟨S1x4, .f32⟩ : BufTy).Contents (Elt Ideal))
  (f : FVec Ideal S128x8x4 .f32) (li : FVec Ideal S128x8x4 .f32)

/-- The sample tokens' rows of the projection, by sequence. -/
def rz : FVec Ideal S128x8x7192 .f32 :=
  shapeCast S128x8x7192 (extractStridedSlice S1024x7192 ![8192, 0] x0 slices_S9216x7192_S1024x7192_8192_0) shapeCasts_S1024x7192_S128x8x7192

/-- A gate bias on every token. -/
def rbias (x : (⟨S1x4, .f32⟩ : BufTy).Contents (Elt Ideal)) : FVec Ideal S128x8x4 .f32 :=
  broadcastInDim S128x8x4 ![0, 1, 2] bcast_S1x1x4_S128x8x4_0_1_2 (broadcastInDim S1x1x4 ![2] bcast_S4_S1x1x4_2 (shapeCast S4 x shapeCasts_S1x4_S4))

/-- The reference's input gates. -/
def rli : FVec Ideal S128x8x4 .f32 := addf (extractStridedSlice S128x8x4 ![0, 0, 4096] (rz x0) slices_S128x8x7192_S128x8x4_0_0_4096) (rbias x7)

/-- The reference's forget gates, before the log of the logistic function. -/
def rlf : FVec Ideal S128x8x4 .f32 := addf (extractStridedSlice S128x8x4 ![0, 0, 4100] (rz x0) slices_S128x8x7192_S128x8x4_0_0_4100) (rbias x8)

/-- Zero everywhere. -/
def zero8 : FVec Ideal S128x8x4 .f32 := broadcastInDim S128x8x4 ![] bcast_S_S128x8x4 (constant S_ .f32 0x00000000#32)

/-- The reference's log of the logistic function. -/
def rsig : FVec Ideal S128x8x4 .f32 :=
  Host.negf (select (cmpf .une (subf (Host.negf f) zero8) (subf (Host.negf f) zero8)) (addf (Host.negf f) zero8)
    (addf (maximumf (Host.negf f) zero8) (Host.log1p (Host.exp (Host.negf (Host.absf (subf (Host.negf f) zero8)))))))

/-- The reference's running sums over the tokens. -/
def rcum : FVec Ideal S128x8x4 .f32 :=
  Host.reduceWindowAdd ![1, 8, 1] ![1, 1, 1] ![0, 7, 0] ![0, 0, 0] f (broadcastInDim S_ ![] bcast_S_S_ (constant S_ .f32 0x00000000#32))
    reduceWindows_S128x8x4_S128x8x4_w1s1p0_0_w8s1p7_0_w1s1p0_0 h_S_

/-- Which tokens the reference counts: those up to the row's. -/
def rmask : IVec S128x8x8x4 1 :=
  broadcastInDim S128x8x8x4 ![0, 1, 2, 3] bcast_S1x8x8x1_S128x8x8x4_0_1_2_3 (broadcastInDim S1x8x8x1 ![1, 2] bcast_S8x8_S1x8x8x1_1_2
    (select (cmpi .sge (addi (iotaInDim S8x8 32 0) (broadcastInDim S8x8 ![] bcast_S_S8x8 (constantI S_ 32 0#32))) (iotaInDim S8x8 32 1))
      (broadcastInDim S8x8 ![] bcast_S_S8x8 (constantI S_ 1 1#1)) (broadcastInDim S8x8 ![] bcast_S_S8x8 (constantI S_ 1 0#1))))

/-- The reference's log weights: row, token. -/
def rd : FVec Ideal S128x8x8x4 .f32 :=
  select rmask (addf (subf (broadcastInDim S128x8x8x4 ![0, 1, 2, 3] bcast_S128x8x1x4_S128x8x8x4_0_1_2_3 (broadcastInDim S128x8x1x4 ![0, 1, 3] bcast_S128x8x4_S128x8x1x4_0_1_3 f))
      (broadcastInDim S128x8x8x4 ![0, 1, 2, 3] bcast_S128x1x8x4_S128x8x8x4_0_1_2_3 (broadcastInDim S128x1x8x4 ![0, 2, 3] bcast_S128x8x4_S128x1x8x4_0_2_3 f)))
      (broadcastInDim S128x8x8x4 ![0, 1, 2, 3] bcast_S128x1x8x4_S128x8x8x4_0_1_2_3 (broadcastInDim S128x1x8x4 ![0, 2, 3] bcast_S128x8x4_S128x1x8x4_0_2_3 li)))
    (broadcastInDim S128x8x8x4 ![] bcast_S_S128x8x8x4 (constant S_ .f32 0xFF800000#32))

/-- The reference's running maximum. -/
def rmt : FVec Ideal S128x8x4 .f32 :=
  maximumf (addf f (broadcastInDim S128x8x4 ![0, 1, 2] bcast_S128x1x4_S128x8x4_0_1_2 (broadcastInDim S128x1x4 ![0, 2] bcast_S128x4_S128x1x4_0_2 (shapeCast S128x4 x4 shapeCasts_S1x128x4_S128x4))))
    (Host.reduce FloatOps.maximumf (rd f li) (constant S_ .f32 0xFF800000#32) reducesTo_S128x8x8x4_S128x8x4_d2 h_S_)

/-- The last token's, on every lane. -/
def rlast (g : FVec Ideal S128x8x4 .f32) : FVec Ideal S128x4x1x128 .f32 :=
  broadcastInDim S128x4x1x128 ![0, 1, 2, 3] bcast_S128x4x1x1_S128x4x1x128_0_1_2_3 (broadcastInDim S128x4x1x1 ![0, 1] bcast_S128x4_S128x4x1x1_0_1
    (shapeCast S128x4 (extractStridedSlice S128x1x4 ![0, 7, 0] g slices_S128x8x4_S128x1x4_0_7_0) shapeCasts_S128x1x4_S128x4))

/-- The reference's maximum result, in the named steps. -/
theorem res_eq (m : (ℓ : Loc nD τ sig) → Buf (Elt Ideal) ℓ) (c : Dev nD) :
    Cert.MlstmRefIdeal.Value.res_main_v39 m c
      = rlast (rmt (m ((c.tc : Thread nD τ).loc main_arg4)) (rcum (rsig (rlf (m ((c.tc : Thread nD τ).loc main_arg0)) (m ((c.tc : Thread nD τ).loc main_arg8)))))
          (rli (m ((c.tc : Thread nD τ).loc main_arg0)) (m ((c.tc : Thread nD τ).loc main_arg7)))) := by
  rfl

/-- The reference's input gate. -/
theorem rli_at (n : Fin 128) (q : Fin 8) (h : Fin 4) : rli x0 x7 (ix3 n q h) = gi x0 x7 n h q := by
  pointwise [rli, rz, rbias]
  rfl

/-- The reference's forget gate. -/
theorem rlf_at (n : Fin 128) (q : Fin 8) (h : Fin 4) : rlf x0 x8 (ix3 n q h) = gf x0 x8 n h q := by
  pointwise [rlf, rz, rbias]
  rfl

/-- The reference's log of the logistic function. -/
theorem rsig_at (n : Fin 128) (q : Fin 8) (h : Fin 4) : rsig f (ix3 n q h) = lsig (f (ix3 n q h)) := by
  pointwise [rsig, zero8]
  rw [if_neg (not_not.2 rfl)]
  exact lsig_eq _

/-- The reference's running sums. -/
theorem rcum_at (n : Fin 128) (t : Fin 8) (h : Fin 4) : rcum f (ix3 n t h) = bsum (fun q => f (ix3 n q h)) t := by
  have h1 : rcum f (ix3 n t h)
      = (List.finRange 8).foldl (fun r k => r + if hk : 7 ≤ t.val + k.val then f (ix3 n ⟨t.val + k.val - 7, by omega⟩ h) else 0) 0 := by
    have z : (broadcastInDim S_ ![] bcast_S_S_ (constant S_ .f32 0x00000000#32) : FVec Ideal S_ .f32) (Shape.Idx.first h_S_) = 0 := by
      rw [show Shape.Idx.first h_S_ = ix0 from Subsingleton.elim _ _]
      pointwise
    unfold rcum
    change Host.reduceWindow (s := S128x8x4) (t := S128x8x4) (fun a b : EReal => a + b) ![1, 8, 1] ![1, 1, 1] ![0, 7, 0] ![0, 0, 0]
      f (broadcastInDim S_ ![] bcast_S_S_ (constant S_ .f32 0x00000000#32) : FVec Ideal S_ .f32) reduceWindows_S128x8x4_S128x8x4_w1s1p0_0_w8s1p7_0_w1s1p0_0 h_S_ (ix3 n t h) = _
    unfold Host.reduceWindow
    dsimp only
    rw [z]
    refine (Cert.Ml.foldl_cast Cert.Ml.win_numel _ _).trans (List.foldl_ext _ _ _ fun r k' _ => congrArg (r + ·) ?_)
    obtain ⟨k, rfl⟩ : ∃ k : Fin (⟨3, ![1, 8, 1]⟩ : Shape).numel, k.cast Cert.Ml.win_numel = k' := ⟨k'.cast Cert.Ml.win_numel.symm, rfl⟩
    have k8 : k.val < 8 := (k.cast Cert.Ml.win_numel).isLt
    rw [show (k.cast Cert.Ml.win_numel).cast Cert.Ml.win_numel.symm = k from rfl]
    have hw : ∀ k : Fin (⟨3, ![1, 8, 1]⟩ : Shape).numel, ((⟨3, ![1, 8, 1]⟩ : Shape).rowMajor.symm k 0).val = 0 ∧ ((⟨3, ![1, 8, 1]⟩ : Shape).rowMajor.symm k 1).val = k.val
        ∧ ((⟨3, ![1, 8, 1]⟩ : Shape).rowMajor.symm k 2).val = 0 := by decide +kernel
    obtain ⟨w0, w1, w2⟩ := hw k
    split
    · next hin =>
      have h7 := (hin 1).1
      change 7 ≤ t.val * 1 + ((⟨3, ![1, 8, 1]⟩ : Shape).rowMajor.symm k 1).val at h7
      rw [w1] at h7
      rw [dif_pos (show 7 ≤ t.val + (k.cast Cert.Ml.win_numel).val by show 7 ≤ t.val + k.val; omega)]
      refine congrArg f ?_
      funext a
      apply Fin.ext
      match a with
      | ⟨0, _⟩ =>
        show n.val * 1 + ((⟨3, ![1, 8, 1]⟩ : Shape).rowMajor.symm k 0).val - 0 = n.val
        omega
      | ⟨1, _⟩ =>
        show t.val * 1 + ((⟨3, ![1, 8, 1]⟩ : Shape).rowMajor.symm k 1).val - 7 = t.val + k.val - 7
        omega
      | ⟨2, _⟩ =>
        show h.val * 1 + ((⟨3, ![1, 8, 1]⟩ : Shape).rowMajor.symm k 2).val - 0 = h.val
        omega
    · next hin =>
      rw [dif_neg]
      intro h7
      change 7 ≤ t.val + k.val at h7
      refine hin fun a => ?_
      match a with
      | ⟨0, _⟩ =>
        show 0 ≤ n.val * 1 + ((⟨3, ![1, 8, 1]⟩ : Shape).rowMajor.symm k 0).val ∧ n.val * 1 + ((⟨3, ![1, 8, 1]⟩ : Shape).rowMajor.symm k 0).val - 0 < 128
        omega
      | ⟨1, _⟩ =>
        show 7 ≤ t.val * 1 + ((⟨3, ![1, 8, 1]⟩ : Shape).rowMajor.symm k 1).val ∧ t.val * 1 + ((⟨3, ![1, 8, 1]⟩ : Shape).rowMajor.symm k 1).val - 7 < 8
        omega
      | ⟨2, _⟩ =>
        show 0 ≤ h.val * 1 + ((⟨3, ![1, 8, 1]⟩ : Shape).rowMajor.symm k 2).val ∧ h.val * 1 + ((⟨3, ![1, 8, 1]⟩ : Shape).rowMajor.symm k 2).val - 0 < 4
        omega
  rw [h1]
  exact Cert.Ml.foldl_bsum (fun q => f (ix3 n q h)) t

/-- Which tokens the mask keeps. -/
theorem mask_at : ∀ t s : Fin 8, Scalar.select (IntOp.cmpi CmpIPredicate.sge (IntOp.addi (BitVec.ofNat 32 t.val) 0#32) (BitVec.ofNat 32 s.val)) (1#1) (0#1)
    = if s ≤ t then 1#1 else 0#1 := by
  decide +kernel

/-- The reference's running maximum over real sums and gates. -/
theorem rmt_real (n : Fin 128) (p : Fin 8) (h : Fin 4) (b l : Fin 8 → ℝ) (hb : ∀ q, f (ix3 n q h) = b q) (hl : ∀ q, li (ix3 n q h) = l q) :
    rmt x4 f li (ix3 n p h) = mt8 (fun q => b q) (fun q => l q) (x4 (ix3 0 n h)) p := by
  pointwise [rmt, rd, rmask]
  rw [Cert.Ret.bits_bot]
  unfold mt8
  refine congrArg₂ max (by rw [hb]) (congrArg (fun g => Finset.univ.fold max (⊥ : EReal) g) (funext fun s => ?_))
  rw [mask_at]
  split
  · refine Eq.trans (show _ = f (ix3 n p h) - f (ix3 n s h) + li (ix3 n s h) from rfl) ?_
    rw [hb, hb, hl, ← EReal.coe_sub, ← EReal.coe_add, ← EReal.coe_sub, ← EReal.coe_add]
    refine congrArg _ ?_
    ring
  · rfl

/-- The reference's running maximum where the running sum is minus infinity. -/
theorem rmt_bot (n : Fin 128) (p : Fin 8) (h : Fin 4) (hb : f (ix3 n p h) = (⊥ : EReal)) : rmt x4 f li (ix3 n p h) = (⊥ : EReal) := by
  pointwise [rmt, rd, rmask]
  rw [Cert.Ret.bits_bot, hb, EReal.bot_add, max_eq_right bot_le]
  refine le_antisymm (Finset.sup_le (f := fun s : Fin 8 => Scalar.select _ ((⊥ : EReal) - f (ix3 n s h) + li (ix3 n s h)) (⊥ : EReal)) fun s _ => ?_) bot_le
  rw [mask_at]
  split
  · refine le_of_eq (Eq.trans (show _ = (⊥ : EReal) - f (ix3 n s h) + li (ix3 n s h) from rfl) ?_)
    rw [EReal.bot_sub, EReal.bot_add]
  · exact le_rfl

/-- The last token's, read. -/
theorem rlast_at (g : FVec Ideal S128x8x4 .f32) (n : Fin 128) (h : Fin 4) (l : Fin 128) : rlast g (ix4 n h 0 l) = g (ix3 n 7 h) := by
  pointwise [rlast]

/-- The reference's new maximum, when the input gates are real. -/
theorem rnew_at (n : Fin 128) (h : Fin 4) (l : Fin 128) (hi : ∀ q, ∃ w : ℝ, gi x0 x7 n h q = w) :
    rlast (rmt x4 (rcum (rsig (rlf x0 x8))) (rli x0 x7)) (ix4 n h 0 l) = mnew x0 x4 x7 x8 n h := by
  rw [rlast_at]
  have hb : ∀ p, rcum (rsig (rlf x0 x8)) (ix3 n p h) = bsum (fun q => lsig (gf x0 x8 n h q)) p := fun p => by
    rw [rcum_at]
    refine congrArg (fun g => bsum g p) (funext fun q => ?_)
    rw [rsig_at, rlf_at]
  unfold mnew
  rcases bsum_or (fun q => lsig (gf x0 x8 n h q)) fun q => lsig_or _ with h7 | hr
  · rw [mt8_bot _ _ _ _ h7]
    exact rmt_bot _ _ _ _ _ _ ((hb 7).trans h7)
  · choose b hb' using hr
    choose w hw using hi
    rw [rmt_real x4 _ _ n 7 h b w (fun q => (hb q).trans (hb' q)) fun q => (rli_at x0 x7 n q h).trans (hw q), ← funext hb', ← funext hw]

/-- The reference's convolution states hold the last three tokens' columns. -/
theorem conv_at (x5 : (⟨S1x128x3x2048, .f32⟩ : BufTy).Contents (Elt Ideal)) (n : Fin 128) (t : Fin 3) (d : Fin 2048) :
    extractStridedSlice (α := EReal) S128x3x2048 ![0, 8, 0] (concatenate (α := EReal) S128x11x2048 1 [⟨S128x3x2048, (shapeCast (α := EReal) S128x3x2048 x5 shapeCasts_S1x128x3x2048_S128x3x2048)⟩,
        ⟨S128x8x2048, (extractStridedSlice (α := EReal) S128x8x2048 ![0, 0, 0] (shapeCast (α := EReal) S128x8x7192 (extractStridedSlice (α := EReal) S1024x7192 ![8192, 0] x0 slices_S9216x7192_S1024x7192_8192_0) shapeCasts_S1024x7192_S128x8x7192) slices_S128x8x7192_S128x8x2048_0_0_0)⟩]
        concatenates_S128x3x2048_S128x8x2048_S128x11x2048_d1) slices_S128x11x2048_S128x3x2048_0_8_0 (ix3 n t d)
      = x0 (ix2 (row n ⟨5 + t.val, by omega⟩) ⟨d.val, by omega⟩) := by
  pointwise
  rw [dif_neg (by omega)]
  exact congrArg x0 (congrArg₂ ix2 (Fin.ext (by show 8192 + (n.val * 8 + (8 + t.val - 3)) = 8192 + (n.val * 8 + (5 + t.val)); omega)) rfl)

/-- The query half of the convolution state, read. -/
theorem half_q (g : S128x3x2048.Idx → EReal) (n : Fin 128) (t : Fin 3) (d : Fin 1024) :
    extractStridedSlice (α := EReal) S128x3x1024 ![0, 0, 0] g slices_S128x3x2048_S128x3x1024_0_0_0 (ix3 n t d) = g (ix3 n t ⟨d.val, by omega⟩) := by
  pointwise

/-- The key half of the convolution state, read. -/
theorem half_k (g : S128x3x2048.Idx → EReal) (n : Fin 128) (t : Fin 3) (d : Fin 1024) :
    extractStridedSlice (α := EReal) S128x3x1024 ![0, 0, 1024] g slices_S128x3x2048_S128x3x1024_0_0_1024 (ix3 n t d) = g (ix3 n t ⟨1024 + d.val, by omega⟩) := by
  pointwise

end Cert.MlstmRefIdeal.Ml
end
-- ==== Proof.MlPre.lean ====
/- The mLSTM call's precondition: what `gates_finite` says of the arguments. -/
module

public import proofs.«01_k».proof.Pre_gates_finite
public import proofs.«01_k».proof.Proof.MlSpec
public import Idealize.ShloMosaic.Lib.ValueIdx
public import Idealize.ShloMosaic.Lib.Pointwise

@[expose] public section

set_option maxRecDepth 16384

noncomputable section

open Idealize.ShloMosaic Idealize.ShloMosaic.TcCoe Idealize.SL.Sem

namespace Cert.Pre_gates_finite

open Cert.Ml (row gi)

/-- The side conditions the precondition's operations take. -/
instance facts : Cert.Pre_gates_finite.Facts where
  slices_S9216x7192_S1024x4_8192_4096 := by decide
  bcast_S_S1024x4 := by decide
  bcast_S_S1x4 := by decide
  concatenates_S1024x4_S1x4_S1025x4_d0 := by decide

/-- A number whose absolute value is below infinity is real. -/
theorem real_of_abs (z : EReal) (h : Ideal.cmp .olt (max z (-z)) (Ideal.ofBits .f32 2139095040#32) = 1#1) : ∃ w : ℝ, z = w := by
  have top : Ideal.ofBits .f32 2139095040#32 = (⊤ : EReal) := by simp [Ideal.ofBits, Ideal.ieee]
  rw [top] at h
  induction z using EReal.rec with
  | bot => exact absurd h (by simp [Ideal.cmp])
  | coe w => exact ⟨w, rfl⟩
  | top => exact absurd h (by simp [Ideal.cmp])

variable (x0 : FVec Ideal S9216x7192 .f32) (x1 : FVec Ideal S9216x2048 .bf16) (x2 : FVec Ideal S1x128x4x256x256 .f32) (x3 : FVec Ideal S1x128x4x256 .f32)
  (x4 : FVec Ideal S1x128x4 .f32) (x5 : FVec Ideal S1x128x3x2048 .f32) (x6 : FVec Ideal S1x4x2048 .f32) (x7 x8 : FVec Ideal S1x4 .f32) (x9 : FVec Ideal S1x1024 .f32)

/-- The precondition at an input gate's column of a sample token. -/
theorem fn_z (r : Fin 1024) (h : Fin 4) : fn (F := Ideal) x0 x1 x2 x3 x4 x5 x6 x7 x8 x9 (ix2 ⟨r.val, by omega⟩ h)
    = Ideal.cmp .olt (max (x0 (ix2 ⟨8192 + r.val, by omega⟩ ⟨4096 + h.val, by omega⟩)) (-x0 (ix2 ⟨8192 + r.val, by omega⟩ ⟨4096 + h.val, by omega⟩))) (Ideal.ofBits .f32 2139095040#32) := by
  have hr := r.isLt
  unfold fn
  pointwise
  rfl

/-- The precondition at an input gate's bias. -/
theorem fn_b (h : Fin 4) : fn (F := Ideal) x0 x1 x2 x3 x4 x5 x6 x7 x8 x9 (ix2 ⟨1024, by omega⟩ h)
    = Ideal.cmp .olt (max (x7 (ix2 0 h)) (-x7 (ix2 0 h))) (Ideal.ofBits .f32 2139095040#32) := by
  unfold fn
  pointwise
  rfl

/-- Under the precondition the input gates are real. -/
theorem gi_real (hp : fn (F := Ideal) x0 x1 x2 x3 x4 x5 x6 x7 x8 x9 = fun _ => 1#1) (n : Fin 128) (h : Fin 4) (q : Fin 8) : ∃ w : ℝ, gi x0 x7 n h q = w := by
  obtain ⟨a, ha⟩ := real_of_abs _ ((fn_z x0 x1 x2 x3 x4 x5 x6 x7 x8 x9 ⟨n.val * 8 + q.val, by omega⟩ h).symm.trans (congrFun hp _))
  obtain ⟨b, hb⟩ := real_of_abs _ ((fn_b x0 x1 x2 x3 x4 x5 x6 x7 x8 x9 h).symm.trans (congrFun hp _))
  refine ⟨a + b, ?_⟩
  rw [EReal.coe_add, ← ha, ← hb]
  rfl

end Cert.Pre_gates_finite
end
-- ==== Proof.MlClaim.lean ====
/- The mLSTM call on the sample group: the kernel and the reference leave equal results. -/
module

public import proofs.«01_k».proof.Defs
public import proofs.«01_k».proof.Proof.MlArrM
public import proofs.«01_k».proof.Proof.MlRef
public import proofs.«01_k».proof.Proof.MlPre
public import Idealize.ShloMosaic.Lib.Claim

@[expose] public section

set_option maxRecDepth 16384

noncomputable section

open Idealize.ShloMosaic Idealize.ShloMosaic.TcCoe Idealize.SL.Sem

namespace Cert.MlstmVal

open Cert.MlstmIdeal.Ml Cert.MlstmRefIdeal.Ml
open Cert.Ml (row gi)

/-- The reference runs to completion and leaves its arguments unchanged. -/
theorem frame_ref : Cert.quiescent_MlstmRefIdeal := fun m g _ =>
  (θ_run _ _ _).mono (fun r h => ⟨fun c => (h c).2.2.2, sem_eq_zero_of_no_sems (by decide) r.2⟩) (Cert.MlstmRefIdeal.Value.run m g)

/-- The reference's new maximum is the array the kernel leaves. -/
theorem ref_arr17 (x0 : (⟨Cert.MlstmIdeal.S9216x7192, .f32⟩ : BufTy).Contents (Elt Ideal)) (x4 : (⟨Cert.MlstmIdeal.S1x128x4, .f32⟩ : BufTy).Contents (Elt Ideal))
    (x7 x8 : (⟨Cert.MlstmIdeal.S1x4, .f32⟩ : BufTy).Contents (Elt Ideal)) (hi : ∀ n h q, ∃ w : ℝ, gi x0 x7 n h q = w) :
    rlast (rmt x4 (rcum (rsig (rlf x0 x8))) (rli x0 x7)) = G17 x0 x4 x7 x8 := by
  funext i
  idx_vars i
  obtain rfl : i2 = 0 := Subsingleton.elim _ _
  exact rnew_at x0 x4 x7 x8 i0 i1 i3 (hi i0 i1)

/-- The kernel and the reference leave equal results, when the input gates are finite. -/
theorem algebraic : Cert.algebraic_MlstmIdeal_MlstmRefIdeal_pre_gates_finite := by
  intro m g m' g' hpre hagree
  refine ⟨fun c => (Cert.MlstmIdeal.Gen.dats m 0 c).arrAt 17 Cert.MlstmIdeal.cfg0.N,
    fun c => (Cert.MlstmIdeal.Gen.dats m 0 c).arrAt 18 Cert.MlstmIdeal.cfg0.N,
    fun c => (Cert.MlstmIdeal.Gen.dats m 0 c).arrAt 19 Cert.MlstmIdeal.cfg0.N,
    (θ_run _ _ _).mono (fun r h c => (h c).2.2.2) (Cert.MlstmIdeal.Value.run_blocks m g), ?_⟩
  refine (θ_run _ _ _).mono (fun r h c => ?_) (Cert.MlstmRefIdeal.Value.run m' g')
  obtain ⟨h1, h2, h3, h4⟩ := h c
  have hi := Cert.Pre_gates_finite.gi_real _ _ _ _ _ _ _ _ _ _ (hpre c)
  refine ⟨h1.trans ?_, h2.trans ?_, h3.trans ?_, h4⟩
  · rw [res_eq, (hagree c).1, (hagree c).2.2.2.2.1, (hagree c).2.2.2.2.2.2.2.1, (hagree c).2.2.2.2.2.2.2.2.1]
    exact (ref_arr17 _ _ _ _ hi).trans (arr17 m c hi).symm
  · rw [(hagree c).1, (hagree c).2.2.2.2.2.1]
    refine Eq.trans (funext fun i => ?_) (arr18 m c).symm
    idx_vars i
    refine Eq.trans ?_ (conv_at _ (m ((c.tc : Thread Cert.MlstmIdeal.nD Cert.MlstmIdeal.τ).loc Cert.MlstmIdeal.main_arg5)) i0 i1 ⟨i2.val, by omega⟩)
    exact half_q _ i0 i1 i2
  · rw [(hagree c).1, (hagree c).2.2.2.2.2.1]
    refine Eq.trans (funext fun i => ?_) (arr19 m c).symm
    idx_vars i
    refine Eq.trans ?_ (conv_at _ (m ((c.tc : Thread Cert.MlstmIdeal.nD Cert.MlstmIdeal.τ).loc Cert.MlstmIdeal.main_arg5)) i0 i1 ⟨1024 + i2.val, by omega⟩)
    exact half_k _ i0 i1 i2

end Cert.MlstmVal
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.FfnNorm
public import proofs.«01_k».proof.Proof.Gen.FfnNorm.Frame
public import proofs.«01_k».proof.Proof.Gen.FfnNormIdeal
public import proofs.«01_k».proof.Proof.Gen.FfnNormIdeal.Frame
public import proofs.«01_k».proof.Proof.Gen.FfnNormRefIdeal
public import proofs.«01_k».proof.Proof.Gen.FfnNormIdeal.Value
public import proofs.«01_k».proof.Proof.Gen.FfnNormRefIdeal.Read
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnIdeal.Value
public import proofs.«01_k».proof.Proof.Gen.FfnRefIdeal.Read
public import proofs.«01_k».proof.Proof.Gen.FfnFinal
public import proofs.«01_k».proof.Proof.Gen.FfnFinal.Frame
public import proofs.«01_k».proof.Proof.Gen.FfnFinalIdeal
public import proofs.«01_k».proof.Proof.Gen.FfnFinalIdeal.Frame
public import proofs.«01_k».proof.Proof.Gen.FfnFinalRefIdeal
public import proofs.«01_k».proof.Proof.Gen.FfnFinalIdeal.Value
public import proofs.«01_k».proof.Proof.Gen.FfnFinalRefIdeal.Read
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojRefIdeal
public import proofs.«01_k».proof.Proof.Gen.InprojIdeal.Value
public import proofs.«01_k».proof.Proof.Gen.InprojRefIdeal.Read
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojRefIdeal
public import proofs.«01_k».proof.Proof.Gen.OutprojIdeal.Value
public import proofs.«01_k».proof.Proof.Gen.OutprojRefIdeal.Read
public import proofs.«01_k».proof.Proof.RefFrames
public import proofs.«01_k».proof.Proof.RetClaim
public import proofs.«01_k».proof.Proof.FfnNormClaim
public import proofs.«01_k».proof.Proof.FfnClaim
public import proofs.«01_k».proof.Proof.FfnFinalClaim
public import proofs.«01_k».proof.Proof.InprojClaim
public import proofs.«01_k».proof.Proof.Gen.Mlstm.Frame
public import proofs.«01_k».proof.Proof.Gen.MlstmIdeal.Value
public import proofs.«01_k».proof.Proof.Gen.MlstmRefIdeal.Run
public import proofs.«01_k».proof.Proof.OutprojClaim
public import proofs.«01_k».proof.Proof.MlClaim
public import Idealize.ShloMosaic.Adequacy
public import Idealize.ShloMosaic.Init

@[expose] public section

noncomputable section

namespace Cert.Proof

open Idealize.ShloMosaic Idealize.SL.Sem Cert.Kernel

/-- The claims about each call: the kernel, its ideal program and the reference run safely, and the ideal kernel
and the reference have the same results. -/
theorem claim : Cert.Claim :=
  ⟨Cert.Kernel.Gen.facts,
    Cert.KernelIdeal.Gen.facts,
    Cert.ReferenceIdeal.Gen.facts,
    Cert.FfnNorm.Gen.facts,
    Cert.FfnNormIdeal.Gen.facts,
    Cert.FfnNormRefIdeal.Gen.facts,
    Cert.Ffn.Gen.facts,
    Cert.FfnIdeal.Gen.facts,
    Cert.FfnRefIdeal.Gen.facts,
    Cert.FfnFinal.Gen.facts,
    Cert.FfnFinalIdeal.Gen.facts,
    Cert.FfnFinalRefIdeal.Gen.facts,
    Cert.Inproj.Gen.facts,
    Cert.InprojIdeal.Gen.facts,
    Cert.InprojRefIdeal.Gen.facts,
    Cert.Outproj.Gen.facts,
    Cert.OutprojIdeal.Gen.facts,
    Cert.OutprojRefIdeal.Gen.facts,
    Cert.Mlstm.Gen.facts,
    Cert.MlstmIdeal.Gen.facts,
    Cert.MlstmRefIdeal.Gen.facts,
    Cert.Pre_gates_finite.facts,
    fun m ρ _ => Cert.Kernel.Gen.frame m ρ,
    fun m ρ _ => Cert.KernelIdeal.Gen.frame m ρ,
    Cert.Refs.frame_ReferenceIdeal,
    fun m ρ _ => Cert.FfnNorm.Gen.frame m ρ,
    fun m ρ _ => Cert.FfnNormIdeal.Gen.frame m ρ,
    Cert.Refs.frame_FfnNormRefIdeal,
    fun m ρ _ => Cert.Ffn.Gen.frame m ρ,
    fun m ρ _ => Cert.FfnIdeal.Gen.frame m ρ,
    Cert.Refs.frame_FfnRefIdeal,
    fun m ρ _ => Cert.FfnFinal.Gen.frame m ρ,
    fun m ρ _ => Cert.FfnFinalIdeal.Gen.frame m ρ,
    Cert.Refs.frame_FfnFinalRefIdeal,
    fun m ρ _ => Cert.Inproj.Gen.frame m ρ,
    fun m ρ _ => Cert.InprojIdeal.Gen.frame m ρ,
    Cert.Refs.frame_InprojRefIdeal,
    fun m ρ _ => Cert.Outproj.Gen.frame m ρ,
    fun m ρ _ => Cert.OutprojIdeal.Gen.frame m ρ,
    Cert.Refs.frame_OutprojRefIdeal,
    fun m ρ _ => Cert.Mlstm.Gen.frame m ρ,
    fun m ρ _ => Cert.MlstmIdeal.Gen.frame m ρ,
    fun m ρ _ => Cert.MlstmIdeal.Gen.frame m ρ,
    Cert.MlstmVal.frame_ref,
    fun m ρ _ => Cert.MlstmVal.frame_ref m ρ trivial,
    trivial,
    Cert.Ret.algebraic,
    trivial,
    Cert.FfnNormVal.algebraic,
    trivial,
    Cert.FfnVal.algebraic,
    trivial,
    Cert.FfnFinalVal.algebraic,
    trivial,
    Cert.InprojVal.algebraic,
    trivial,
    Cert.OutprojVal.algebraic,
    trivial,
    Cert.MlstmVal.algebraic⟩

end Cert.Proof

end
